-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_weights_finite [hPre_small_weights_finite : Cert.Pre_small_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_small_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_small_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_small_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_weights_finite [hPre_small_weights_finite : Cert.Pre_small_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_small_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_small_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_small_weights_finite [hKernelIdeal : Cert.KernelIdeal.Facts] [hPre_small_weights_finite : Cert.Pre_small_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_small_weights_finite [hReferenceIdeal : Cert.ReferenceIdeal.Facts] [hPre_small_weights_finite : Cert.Pre_small_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_small_weights_finite [hKernelIdeal : Cert.KernelIdeal.Facts] [hReferenceIdeal : Cert.ReferenceIdeal.Facts] [hPre_small_weights_finite : Cert.Pre_small_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v77_1)) (v2 : (c : Dev Cert.KernelIdeal.nD) → Buf (Elt Ideal) ((c.tc : Thread Cert.KernelIdeal.nD Cert.KernelIdeal.τ).loc Cert.KernelIdeal.main_v77_2)) (v3 : (c : Dev Cert.KernelIdeal.nD) → Buf (Elt Ideal) ((c.tc : Thread Cert.KernelIdeal.nD Cert.KernelIdeal.τ).loc Cert.KernelIdeal.main_v77_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v77_1) = v1 c
          ∧ r.2.mem ((c.tc : Thread Cert.KernelIdeal.nD Cert.KernelIdeal.τ).loc Cert.KernelIdeal.main_v77_2) = v2 c
          ∧ r.2.mem ((c.tc : Thread Cert.KernelIdeal.nD Cert.KernelIdeal.τ).loc Cert.KernelIdeal.main_v77_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_v216) = v2 c
          ∧ r.2.mem ((c.tc : Thread Cert.ReferenceIdeal.nD Cert.ReferenceIdeal.τ).loc Cert.ReferenceIdeal.main_v218) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v7_0)) (v1 : (c : Dev Cert.InprojIdeal.nD) → Buf (Elt Ideal) ((c.tc : Thread Cert.InprojIdeal.nD Cert.InprojIdeal.τ).loc Cert.InprojIdeal.main_v7_1)) (v2 : (c : Dev Cert.InprojIdeal.nD) → Buf (Elt Ideal) ((c.tc : Thread Cert.InprojIdeal.nD Cert.InprojIdeal.τ).loc Cert.InprojIdeal.main_v7_2)) (v3 : (c : Dev Cert.InprojIdeal.nD) → Buf (Elt Ideal) ((c.tc : Thread Cert.InprojIdeal.nD Cert.InprojIdeal.τ).loc Cert.InprojIdeal.main_v7_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v7_0) = v0 c
          ∧ r.2.mem ((c.tc : Thread Cert.InprojIdeal.nD Cert.InprojIdeal.τ).loc Cert.InprojIdeal.main_v7_1) = v1 c
          ∧ r.2.mem ((c.tc : Thread Cert.InprojIdeal.nD Cert.InprojIdeal.τ).loc Cert.InprojIdeal.main_v7_2) = v2 c
          ∧ r.2.mem ((c.tc : Thread Cert.InprojIdeal.nD Cert.InprojIdeal.τ).loc Cert.InprojIdeal.main_v7_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v26) = v0 c
          ∧ r.2.mem ((c.tc : Thread Cert.InprojRefIdeal.nD Cert.InprojRefIdeal.τ).loc Cert.InprojRefIdeal.main_v27) = v1 c
          ∧ r.2.mem ((c.tc : Thread Cert.InprojRefIdeal.nD Cert.InprojRefIdeal.τ).loc Cert.InprojRefIdeal.main_v29) = v2 c
          ∧ r.2.mem ((c.tc : Thread Cert.InprojRefIdeal.nD Cert.InprojRefIdeal.τ).loc Cert.InprojRefIdeal.main_v31) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hPre_small_weights_finite : Cert.Pre_small_weights_finite.Facts),
    quiescent_Kernel (hKernel := hKernel)
    ∧ quiescent_KernelIdeal (hKernelIdeal := hKernelIdeal)
    ∧ quiescent_KernelIdeal_pre_small_weights_finite (hKernelIdeal := hKernelIdeal) (hPre_small_weights_finite := hPre_small_weights_finite)
    ∧ quiescent_ReferenceIdeal (hReferenceIdeal := hReferenceIdeal)
    ∧ quiescent_ReferenceIdeal_pre_small_weights_finite (hReferenceIdeal := hReferenceIdeal) (hPre_small_weights_finite := hPre_small_weights_finite)
    ∧ quiescent_Inproj (hInproj := hInproj)
    ∧ quiescent_InprojIdeal (hInprojIdeal := hInprojIdeal)
    ∧ quiescent_InprojRefIdeal (hInprojRefIdeal := hInprojRefIdeal)
    ∧ preserves_Kernel_KernelIdeal
    ∧ algebraic_KernelIdeal_ReferenceIdeal_pre_small_weights_finite (hKernelIdeal := hKernelIdeal) (hReferenceIdeal := hReferenceIdeal) (hPre_small_weights_finite := hPre_small_weights_finite)
    ∧ preserves_Inproj_InprojIdeal
    ∧ algebraic_InprojIdeal_InprojRefIdeal (hInprojIdeal := hInprojIdeal) (hInprojRefIdeal := hInprojRefIdeal)
-- ==== Pre_small_weights_finite.lean ====
abbrev S2x8192x512 : Shape := ⟨3, ![2, 8192, 512]⟩
abbrev S2x8192x256 : Shape := ⟨3, ![2, 8192, 256]⟩
abbrev S1x64 : Shape := ⟨2, ![1, 64]⟩
abbrev S1x8 : Shape := ⟨2, ![1, 8]⟩
abbrev S2x8192x1024 : Shape := ⟨3, ![2, 8192, 1024]⟩
abbrev S128x1x1024 : Shape := ⟨3, ![128, 1, 1024]⟩
abbrev S128x512 : Shape := ⟨2, ![128, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S1x64 : S_.BroadcastsInDim S1x64 (![] : Fin 0 → Fin S1x64.rank)
  bcast_S_S1x8 : S_.BroadcastsInDim S1x8 (![] : Fin 0 → Fin S1x8.rank)

variable [Facts]

def fn {F : FTy → Type} [FloatOps F] (main_arg0 : FVec F S2x8192x512 .f32) (main_arg1 : FVec F S2x8192x256 .f32) (main_arg2 : FVec F S1x64 .f32) (main_arg3 : FVec F S1x64 .f32) (main_arg4 : FVec F S1x8 .f32) (main_arg5 : FVec F S2x8192x1024 .f32) (main_arg6 : FVec F S2x8192x512 .f32) (main_arg7 : FVec F S128x1x1024 .f32) (main_arg8 : FVec F S128x512 .f32) (main_arg9 : FVec F S128x512 .f32) (main_arg10 : FVec F S1x1024x1024 .f32) (main_arg11 : FVec F S1x1024 .f32) (main_arg12 : FVec F S1x1024x4096 .f32) (main_arg13 : FVec F S1x4096x1024 .f32) : IVec S1x64 1 × IVec S1x64 1 × IVec S1x8 1 :=
  let main_v0 : FVec F S1x64 .f32 := Host.absf main_arg2
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_v3 : FVec F S1x64 .f32 := Host.absf main_arg3
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x8 .f32 := Host.absf main_arg4
  let main_cst_1 : FVec F S_ .f32 := constant S_ .f32 0x7F800000#32
  let main_v7 : FVec F S1x8 .f32 := broadcastInDim S1x8 ![] bcast_S_S1x8 main_cst_1
  let main_v8 : IVec S1x8 1 := cmpf .olt main_v6 main_v7
  (main_v2, main_v5, main_v8)
-- ==== Kernel.lean ====
abbrev S2x8192x512 : Shape := ⟨3, ![2, 8192, 512]⟩
abbrev S2x8192x256 : Shape := ⟨3, ![2, 8192, 256]⟩
abbrev S1x64 : Shape := ⟨2, ![1, 64]⟩
abbrev S1x8 : Shape := ⟨2, ![1, 8]⟩
abbrev S2x8192x1024 : Shape := ⟨3, ![2, 8192, 1024]⟩
abbrev S128x1x1024 : Shape := ⟨3, ![128, 1, 1024]⟩
abbrev S128x512 : Shape := ⟨2, ![128, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S128 : Shape := ⟨1, ![128]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S64 : Shape := ⟨1, ![64]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S1024 : Shape := ⟨1, ![1024]⟩
abbrev S129 : Shape := ⟨1, ![129]⟩
abbrev S129x1 : Shape := ⟨2, ![129, 1]⟩
abbrev S129x128 : Shape := ⟨2, ![129, 128]⟩
abbrev S128x1 : Shape := ⟨2, ![128, 1]⟩
abbrev S128x128 : Shape := ⟨2, ![128, 128]⟩
abbrev S129x256 : Shape := ⟨2, ![129, 256]⟩
abbrev S128x256 : Shape := ⟨2, ![128, 256]⟩
abbrev S129x1x256 : Shape := ⟨3, ![129, 1, 256]⟩
abbrev S128x1024 : Shape := ⟨2, ![128, 1024]⟩
abbrev S1024x1024 : Shape := ⟨2, ![1024, 1024]⟩
abbrev S1024x4096 : Shape := ⟨2, ![1024, 4096]⟩
abbrev S4096x1024 : Shape := ⟨2, ![4096, 1024]⟩
abbrev S8 : Shape := ⟨1, ![8]⟩
abbrev S2x256x512 : Shape := ⟨3, ![2, 256, 512]⟩
abbrev S2x128x128 : Shape := ⟨3, ![2, 128, 128]⟩
abbrev S2x128x512 : Shape := ⟨3, ![2, 128, 512]⟩
abbrev S2x128x256 : Shape := ⟨3, ![2, 128, 256]⟩
abbrev S1x1x256 : Shape := ⟨3, ![1, 1, 256]⟩
abbrev S2x128x1024 : Shape := ⟨3, ![2, 128, 1024]⟩
abbrev S1x128x1024 : Shape := ⟨3, ![1, 128, 1024]⟩
abbrev S256x1024 : Shape := ⟨2, ![256, 1024]⟩
abbrev S1x128x512 : Shape := ⟨3, ![1, 128, 512]⟩
abbrev S256x512 : Shape := ⟨2, ![256, 512]⟩
abbrev S1x128x256 : Shape := ⟨3, ![1, 128, 256]⟩
abbrev S1x128x128 : Shape := ⟨3, ![1, 128, 128]⟩
abbrev S256x128 : Shape := ⟨2, ![256, 128]⟩
abbrev S1x256x512 : Shape := ⟨3, ![1, 256, 512]⟩
abbrev S512x256 : Shape := ⟨2, ![512, 256]⟩
abbrev S1x1 : Shape := ⟨2, ![1, 1]⟩
abbrev S512 : Shape := ⟨1, ![512]⟩
abbrev S64x512 : Shape := ⟨2, ![64, 512]⟩
abbrev S64x128 : Shape := ⟨2, ![64, 128]⟩
abbrev S512x128 : Shape := ⟨2, ![512, 128]⟩

abbrev nBuf : Space → Nat
  | .hbm => 110
  | .vmem => 31
  | .smem => 0
  | _ => 0

abbrev bufTy : (tb : Table) → Fin (tcTables nBuf tb) → BufTy
  | .hbm, ⟨0, _⟩ => ⟨S2x8192x512, .f32⟩
  | .hbm, ⟨1, _⟩ => ⟨S2x8192x256, .f32⟩
  | .hbm, ⟨2, _⟩ => ⟨S1x64, .f32⟩
  | .hbm, ⟨3, _⟩ => ⟨S1x64, .f32⟩
  | .hbm, ⟨4, _⟩ => ⟨S1x8, .f32⟩
  | .hbm, ⟨5, _⟩ => ⟨S2x8192x1024, .f32⟩
  | .hbm, ⟨6, _⟩ => ⟨S2x8192x512, .f32⟩
  | .hbm, ⟨7, _⟩ => ⟨S128x1x1024, .f32⟩
  | .hbm, ⟨8, _⟩ => ⟨S128x512, .f32⟩
  | .hbm, ⟨9, _⟩ => ⟨S128x512, .f32⟩
  | .hbm, ⟨10, _⟩ => ⟨S1x1024x1024, .f32⟩
  | .hbm, ⟨11, _⟩ => ⟨S1x1024, .f32⟩
  | .hbm, ⟨12, _⟩ => ⟨S1x1024x4096, .f32⟩
  | .hbm, ⟨13, _⟩ => ⟨S1x4096x1024, .f32⟩
  | .hbm, ⟨14, _⟩ => ⟨S128, .f32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256x1, .i32⟩
  | .hbm, ⟨20, _⟩ => ⟨S1x256, .i32⟩
  | .hbm, ⟨21, _⟩ => ⟨S256x256, .i32⟩
  | .hbm, ⟨22, _⟩ => ⟨S256x256, .i32⟩
  | .hbm, ⟨23, _⟩ => ⟨S256x256, .i1⟩
  | .hbm, ⟨24, _⟩ => ⟨S256x256, .f32⟩
  | .hbm, ⟨25, _⟩ => ⟨S256x256, .bf16⟩
  | .hbm, ⟨26, _⟩ => ⟨S64, .f32⟩
  | .hbm, ⟨27, _⟩ => ⟨S1x64, .f32⟩
  | .hbm, ⟨28, _⟩ => ⟨S1x1x1x64, .f32⟩
  | .hbm, ⟨29, _⟩ => ⟨S1x1x8x64, .f32⟩
  | .hbm, ⟨30, _⟩ => ⟨S1x512, .f32⟩
  | .hbm, ⟨31, _⟩ => ⟨S64, .f32⟩
  | .hbm, ⟨32, _⟩ => ⟨S1x64, .f32⟩
  | .hbm, ⟨33, _⟩ => ⟨S1x1x1x64, .f32⟩
  | .hbm, ⟨34, _⟩ => ⟨S1x1x2x64, .f32⟩
  | .hbm, ⟨35, _⟩ => ⟨S1x128, .f32⟩
  | .hbm, ⟨36, _⟩ => ⟨S1024, .f32⟩
  | .hbm, ⟨37, _⟩ => ⟨S1x1024, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S129, .f32⟩
  | .hbm, ⟨47, _⟩ => ⟨S_, .f32⟩
  | .hbm, ⟨48, _⟩ => ⟨S129, .f32⟩
  | .hbm, ⟨49, _⟩ => ⟨S129, .f32⟩
  | .hbm, ⟨50, _⟩ => ⟨S129x1, .f32⟩
  | .hbm, ⟨51, _⟩ => ⟨S129x128, .f32⟩
  | .hbm, ⟨52, _⟩ => ⟨S129x128, .f32⟩
  | .hbm, ⟨53, _⟩ => ⟨S129x128, .f32⟩
  | .hbm, ⟨54, _⟩ => ⟨S128, .f32⟩
  | .hbm, ⟨55, _⟩ => ⟨S128x1, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S129x128, .f32⟩
  | .hbm, ⟨60, _⟩ => ⟨S129x128, .f32⟩
  | .hbm, ⟨61, _⟩ => ⟨S129x256, .f32⟩
  | .hbm, ⟨62, _⟩ => ⟨S128x128, .f32⟩
  | .hbm, ⟨63, _⟩ => ⟨S128x128, .f32⟩
  | .hbm, ⟨64, _⟩ => ⟨S128x256, .f32⟩
  | .hbm, ⟨65, _⟩ => ⟨S129x1x256, .f32⟩
  | .hbm, ⟨66, _⟩ => ⟨S128x1024, .f32⟩
  | .hbm, ⟨67, _⟩ => ⟨S1024x1024, .f32⟩
  | .hbm, ⟨68, _⟩ => ⟨S1024x1024, .bf16⟩
  | .hbm, ⟨69, _⟩ => ⟨S1024x4096, .f32⟩
  | .hbm, ⟨70, _⟩ => ⟨S1024x4096, .bf16⟩
  | .hbm, ⟨71, _⟩ => ⟨S4096x1024, .f32⟩
  | .hbm, ⟨72, _⟩ => ⟨S4096x1024, .bf16⟩
  | .hbm, ⟨73, _⟩ => ⟨S8, .f32⟩
  | .hbm, ⟨74, _⟩ => ⟨S1x8, .f32⟩
  | .hbm, ⟨75, _⟩ => ⟨S2x256x512, .i32⟩
  | .hbm, ⟨76, _⟩ => ⟨S2x256x512, .i32⟩
  | .hbm, ⟨77, _⟩ => ⟨S_, .i32⟩
  | .hbm, ⟨78, _⟩ => ⟨S2x256x512, .i32⟩
  | .hbm, ⟨79, _⟩ => ⟨S2x256x512, .i32⟩
  | .hbm, ⟨80, _⟩ => ⟨S_, .i32⟩
  | .hbm, ⟨81, _⟩ => ⟨S2x256x512, .i32⟩
  | .hbm, ⟨82, _⟩ => ⟨S2x256x512, .i32⟩
  | .hbm, ⟨83, _⟩ => ⟨S2x256x512, .i32⟩
  | .hbm, ⟨84, _⟩ => ⟨S_, .i32⟩
  | .hbm, ⟨85, _⟩ => ⟨S2x256x512, .i32⟩
  | .hbm, ⟨86, _⟩ => ⟨S2x256x512, .i1⟩
  | .hbm, ⟨87, _⟩ => ⟨S_, .i32⟩
  | .hbm, ⟨88, _⟩ => ⟨S2x256x512, .i32⟩
  | .hbm, ⟨89, _⟩ => ⟨S2x256x512, .i1⟩
  | .hbm, ⟨90, _⟩ => ⟨S2x256x512, .i1⟩
  | .hbm, ⟨91, _⟩ => ⟨S2x256x512, .i32⟩
  | .hbm, ⟨92, _⟩ => ⟨S_, .i32⟩
  | .hbm, ⟨93, _⟩ => ⟨S2x256x512, .i32⟩
  | .hbm, ⟨94, _⟩ => ⟨S2x256x512, .i1⟩
  | .hbm, ⟨95, _⟩ => ⟨S_, .i32⟩
  | .hbm, ⟨96, _⟩ => ⟨S2x256x512, .i32⟩
  | .hbm, ⟨97, _⟩ => ⟨S2x256x512, .i1⟩
  | .hbm, ⟨98, _⟩ => ⟨S2x256x512, .i1⟩
  | .hbm, ⟨99, _⟩ => ⟨S2x256x512, .i1⟩
  | .hbm, ⟨100, _⟩ => ⟨S_, .f32⟩
  | .hbm, ⟨101, _⟩ => ⟨S_, .f32⟩
  | .hbm, ⟨102, _⟩ => ⟨S2x256x512, .f32⟩
  | .hbm, ⟨103, _⟩ => ⟨S2x256x512, .f32⟩
  | .hbm, ⟨104, _⟩ => ⟨S2x256x512, .f32⟩
  | .hbm, ⟨105, _⟩ => ⟨S2x256x512, .f32⟩
  | .hbm, ⟨106, _⟩ => ⟨S2x8192x1024, .f32⟩
  | .hbm, ⟨107, _⟩ => ⟨S128x1x1024, .f32⟩
  | .hbm, ⟨108, _⟩ => ⟨S2x128x128, .f32⟩
  | .hbm, ⟨109, _⟩ => ⟨S2x128x128, .f32⟩
  | .local _ .vmem, ⟨0, _⟩ => ⟨S2x128x512, .f32⟩
  | .local _ .vmem, ⟨1, _⟩ => ⟨S2x128x512, .f32⟩
  | .local _ .vmem, ⟨2, _⟩ => ⟨S2x128x256, .f32⟩
  | .local _ .vmem, ⟨3, _⟩ => ⟨S2x128x256, .f32⟩
  | .local _ .vmem, ⟨4, _⟩ => ⟨S1x1x256, .f32⟩
  | .local _ .vmem, ⟨5, _⟩ => ⟨S1x1x256, .f32⟩
  | .local _ .vmem, ⟨6, _⟩ => ⟨S128x256, .f32⟩
  | .local _ .vmem, ⟨7, _⟩ => ⟨S1x512, .f32⟩
  | .local _ .vmem, ⟨8, _⟩ => ⟨S1x128, .f32⟩
  | .local _ .vmem, ⟨9, _⟩ => ⟨S1x8, .f32⟩
  | .local _ .vmem, ⟨10, _⟩ => ⟨S256x256, .bf16⟩
  | .local _ .vmem, ⟨11, _⟩ => ⟨S2x256x512, .f32⟩
  | .local _ .vmem, ⟨12, _⟩ => ⟨S2x128x1024, .f32⟩
  | .local _ .vmem, ⟨13, _⟩ => ⟨S2x128x1024, .f32⟩
  | .local _ .vmem, ⟨14, _⟩ => ⟨S2x128x512, .f32⟩
  | .local _ .vmem, ⟨15, _⟩ => ⟨S2x128x512, .f32⟩
  | .local _ .vmem, ⟨16, _⟩ => ⟨S128x1024, .f32⟩
  | .local _ .vmem, ⟨17, _⟩ => ⟨S128x512, .f32⟩
  | .local _ .vmem, ⟨18, _⟩ => ⟨S128x512, .f32⟩
  | .local _ .vmem, ⟨19, _⟩ => ⟨S1024x1024, .bf16⟩
  | .local _ .vmem, ⟨20, _⟩ => ⟨S1x1024, .f32⟩
  | .local _ .vmem, ⟨21, _⟩ => ⟨S1024x4096, .bf16⟩
  | .local _ .vmem, ⟨22, _⟩ => ⟨S4096x1024, .bf16⟩
  | .local _ .vmem, ⟨23, _⟩ => ⟨S2x128x1024, .f32⟩
  | .local _ .vmem, ⟨24, _⟩ => ⟨S2x128x1024, .f32⟩
  | .local _ .vmem, ⟨25, _⟩ => ⟨S128x1x1024, .f32⟩
  | .local _ .vmem, ⟨26, _⟩ => ⟨S2x128x128, .f32⟩
  | .local _ .vmem, ⟨27, _⟩ => ⟨S2x128x128, .f32⟩
  | .local _ .vmem, ⟨28, _⟩ => ⟨S2x128x128, .f32⟩
  | .local _ .vmem, ⟨29, _⟩ => ⟨S2x128x128, .f32⟩
  | .local _ .vmem, ⟨30, _⟩ => ⟨S2x128x512, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_3 : Ref sig .tc := ⟨.hbm, 77, rfl⟩
abbrev main_v58 : Ref sig .tc := ⟨.hbm, 78, rfl⟩
abbrev main_v59 : Ref sig .tc := ⟨.hbm, 79, rfl⟩
abbrev main_c_4 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_5 : Ref sig .tc := ⟨.hbm, 84, rfl⟩
abbrev main_v63 : Ref sig .tc := ⟨.hbm, 85, rfl⟩
abbrev main_v64 : Ref sig .tc := ⟨.hbm, 86, rfl⟩
abbrev main_c_6 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_7 : Ref sig .tc := ⟨.hbm, 92, rfl⟩
abbrev main_v69 : Ref sig .tc := ⟨.hbm, 93, rfl⟩
abbrev main_v70 : Ref sig .tc := ⟨.hbm, 94, rfl⟩
abbrev main_c_8 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_9 : Ref sig .tc := ⟨.hbm, 100, rfl⟩
abbrev main_cst_10 : Ref sig .tc := ⟨.hbm, 101, rfl⟩
abbrev main_call0_v0 : Ref sig .tc := ⟨.hbm, 102, rfl⟩
abbrev main_call0_v1 : Ref sig .tc := ⟨.hbm, 103, rfl⟩
abbrev main_v75 : Ref sig .tc := ⟨.hbm, 104, rfl⟩
abbrev main_v76 : Ref sig .tc := ⟨.hbm, 105, rfl⟩
abbrev main_v77_0 : Ref sig .tc := ⟨.hbm, 106, rfl⟩
abbrev main_v77_1 : Ref sig .tc := ⟨.hbm, 107, rfl⟩
abbrev main_v77_2 : Ref sig .tc := ⟨.hbm, 108, rfl⟩
abbrev main_v77_3 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24
abbrev cc0_sem19_0 : DmaSem sig := 25
abbrev cc0_sem20_0 : DmaSem sig := 26
abbrev cc0_sem21_0 : DmaSem sig := 27

abbrev nD : Nat := 1
abbrev τ : Topo := Topo.v7x

variable {F : FTy → Type} [FloatOps F]

abbrev grid0 : Pipeline.Grid := ⟨1, ![65], ![false]⟩

def k0_off1 (i : grid0.Coords) : Fin 3 → Nat :=
  let arg0 : BitVec 32 := BitVec.ofNat 32 (i 0).val
  let c1_i32 : BitVec 32 := 1#32
  let v28 : BitVec 32 := Scalar.minsi arg0 c1_i32
  let v234 : Index := Scalar.indexCast v28
  let c0_116 : Index := 0#32
  let c0_117 : Index := 0#32
  ![v234.toNat, 0, 0]
def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v519 : BitVec 32 := Scalar.extui v0
  let c0_i32_182 : BitVec 32 := 0#32
  let v520 : BitVec 1 := Scalar.cmpi .ne v519 c0_i32_182
  v520

def k0_cond3 (i : grid0.Coords) : BitVec 1 :=
  let arg0 : BitVec 32 := BitVec.ofNat 32 (i 0).val
  let c63_i32_183 : BitVec 32 := 63#32
  let v521 : BitVec 1 := Scalar.cmpi .eq arg0 c63_i32_183
  let v522 : BitVec 32 := Scalar.extui v521
  let c0_i32_184 : BitVec 32 := 0#32
  let v523 : BitVec 1 := Scalar.cmpi .ne v522 c0_i32_184
  v523

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x4096 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4096x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2x128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S128x1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S2x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== KernelIdeal.lean ====
variable {F : FTy → Type} [FloatOps F] [Named F]
def κ : String → Option EReal := fun
  | "log2e" => some (((Real.log 2)⁻¹ : ℝ) : EReal)
  | "qscale" => some ((8⁻¹ * (Real.log 2)⁻¹ : ℝ) : EReal)
  | _ => none
-- ==== ReferenceIdeal.lean ====
abbrev S2x8192x512 : Shape := ⟨3, ![2, 8192, 512]⟩
abbrev S2x8192x256 : Shape := ⟨3, ![2, 8192, 256]⟩
abbrev S1x64 : Shape := ⟨2, ![1, 64]⟩
abbrev S1x8 : Shape := ⟨2, ![1, 8]⟩
abbrev S2x8192x1024 : Shape := ⟨3, ![2, 8192, 1024]⟩
abbrev S128x1x1024 : Shape := ⟨3, ![128, 1, 1024]⟩
abbrev S128x512 : Shape := ⟨2, ![128, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S2x8192x8x64 : Shape := ⟨4, ![2, 8192, 8, 64]⟩
abbrev S2x8192x128 : Shape := ⟨3, ![2, 8192, 128]⟩
abbrev S2x8192x2x64 : Shape := ⟨4, ![2, 8192, 2, 64]⟩
abbrev S8192 : Shape := ⟨1, ![8192]⟩
abbrev S_ : Shape := ⟨0, ![]⟩
abbrev S64 : Shape := ⟨1, ![64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S8 : Shape := ⟨1, ![8]⟩
abbrev S8192x1 : Shape := ⟨2, ![8192, 1]⟩
abbrev S8192x8 : Shape := ⟨2, ![8192, 8]⟩
abbrev S1x8192x1x8 : Shape := ⟨4, ![1, 8192, 1, 8]⟩
abbrev S2x8192x8x8 : Shape := ⟨4, ![2, 8192, 8, 8]⟩
abbrev S2x8192x8x48 : Shape := ⟨4, ![2, 8192, 8, 48]⟩
abbrev S2x8192x2 : Shape := ⟨3, ![2, 8192, 2]⟩
abbrev S2x8192x2x1 : Shape := ⟨4, ![2, 8192, 2, 1]⟩
abbrev S2x8192x2x8 : Shape := ⟨4, ![2, 8192, 2, 8]⟩
abbrev S2x8192x2x48 : Shape := ⟨4, ![2, 8192, 2, 48]⟩
abbrev S2x64x128x2x4x64 : Shape := ⟨6, ![2, 64, 128, 2, 4, 64]⟩
abbrev S2x64x128x2x64 : Shape := ⟨5, ![2, 64, 128, 2, 64]⟩
abbrev S2x1x128x2x64 : Shape := ⟨5, ![2, 1, 128, 2, 64]⟩
abbrev S2x63x128x2x64 : Shape := ⟨5, ![2, 63, 128, 2, 64]⟩
abbrev S2x64x256x2x64 : Shape := ⟨5, ![2, 64, 256, 2, 64]⟩
abbrev S64x128 : Shape := ⟨2, ![64, 128]⟩
abbrev S64x1 : Shape := ⟨2, ![64, 1]⟩
abbrev S256 : Shape := ⟨1, ![256]⟩
abbrev S1x256 : Shape := ⟨2, ![1, 256]⟩
abbrev S64x256 : Shape := ⟨2, ![64, 256]⟩
abbrev S64x128x1 : Shape := ⟨3, ![64, 128, 1]⟩
abbrev S64x1x256 : Shape := ⟨3, ![64, 1, 256]⟩
abbrev S64x128x256 : Shape := ⟨3, ![64, 128, 256]⟩
abbrev S2x64x2x256x128x4 : Shape := ⟨6, ![2, 64, 2, 256, 128, 4]⟩
abbrev S2x64x2x4x128x256 : Shape := ⟨6, ![2, 64, 2, 4, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S2x64x2x4x128x1 : Shape := ⟨6, ![2, 64, 2, 4, 128, 1]⟩
abbrev S2x64x2x4x128x257 : Shape := ⟨6, ![2, 64, 2, 4, 128, 257]⟩
abbrev S2x64x2x4x128 : Shape := ⟨5, ![2, 64, 2, 4, 128]⟩
abbrev S2x64x2x64x4x128 : Shape := ⟨6, ![2, 64, 2, 64, 4, 128]⟩
abbrev S2x128x2x64 : Shape := ⟨4, ![2, 128, 2, 64]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S128x1x512 : Shape := ⟨3, ![128, 1, 512]⟩
abbrev S128x1 : Shape := ⟨2, ![128, 1]⟩
abbrev S128x1x1 : Shape := ⟨3, ![128, 1, 1]⟩
abbrev S128x1x4096 : Shape := ⟨3, ![128, 1, 4096]⟩
abbrev S2x128x128 : Shape := ⟨3, ![2, 128, 128]⟩

abbrev nBuf : Space → Nat
  | .hbm => 269
  | .vmem => 0
  | .smem => 0
  | _ => 0

abbrev hbmTy0_0 (i : Nat) : BufTy := match i % 128 with
  | 0 => ⟨S2x8192x512, .f32⟩
  | 1 => ⟨S2x8192x256, .f32⟩
  | 2 => ⟨S1x64, .f32⟩
  | 3 => ⟨S1x64, .f32⟩
  | 4 => ⟨S1x8, .f32⟩
  | 5 => ⟨S2x8192x1024, .f32⟩
  | 6 => ⟨S2x8192x512, .f32⟩
  | 7 => ⟨S128x1x1024, .f32⟩
  | 8 => ⟨S128x512, .f32⟩
  | 9 => ⟨S128x512, .f32⟩
  | 10 => ⟨S1x1024x1024, .f32⟩
  | 11 => ⟨S1x1024, .f32⟩
  | 12 => ⟨S1x1024x4096, .f32⟩
  | 13 => ⟨S1x4096x1024, .f32⟩
  | 14 => ⟨S2x8192x8x64, .f32⟩
  | 15 => ⟨S2x8192x128, .f32⟩
  | 16 => ⟨S2x8192x2x64, .f32⟩
  | 17 => ⟨S2x8192x128, .f32⟩
  | 18 => ⟨S2x8192x2x64, .f32⟩
  | 19 => ⟨S8192, .f32⟩
  | 20 => ⟨S_, .f32⟩
  | 21 => ⟨S8192, .f32⟩
  | 22 => ⟨S8192, .f32⟩
  | 23 => ⟨S64, .f32⟩
  | 24 => ⟨S2x8192x8x64, .f32⟩
  | 25 => ⟨S_, .f32⟩
  | 26 => ⟨S2x8192x8, .f32⟩
  | 27 => ⟨S2x8192x8x1, .f32⟩
  | 28 => ⟨S_, .f32⟩
  | 29 => ⟨S2x8192x8x1, .f32⟩
  | 30 => ⟨S2x8192x8x1, .f32⟩
  | 31 => ⟨S_, .f32⟩
  | 32 => ⟨S2x8192x8x1, .f32⟩
  | 33 => ⟨S2x8192x8x1, .f32⟩
  | 34 => ⟨S2x8192x8x1, .f32⟩
  | 35 => ⟨S2x8192x8x64, .f32⟩
  | 36 => ⟨S2x8192x8x64, .f32⟩
  | 37 => ⟨S1x1x1x64, .f32⟩
  | 38 => ⟨S2x8192x8x64, .f32⟩
  | 39 => ⟨S2x8192x8x64, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S8192x1, .f32⟩
  | 49 => ⟨S1x8, .f32⟩
  | 50 => ⟨S8192x8, .f32⟩
  | 51 => ⟨S8192x8, .f32⟩
  | 52 => ⟨S8192x8, .f32⟩
  | 53 => ⟨S8192x8, .f32⟩
  | 54 => ⟨S1x8192x1x8, .f32⟩
  | 55 => ⟨S8192x8, .f32⟩
  | 56 => ⟨S1x8192x1x8, .f32⟩
  | 57 => ⟨S2x8192x8x8, .f32⟩
  | 58 => ⟨S2x8192x8x8, .f32⟩
  | 59 => ⟨S2x8192x8x8, .f32⟩
  | 60 => ⟨S2x8192x8x8, .f32⟩
  | 61 => ⟨S2x8192x8x8, .f32⟩
  | 62 => ⟨S2x8192x8x8, .f32⟩
  | 63 => ⟨S2x8192x8x8, .f32⟩
  | 64 => ⟨S2x8192x8x8, .f32⟩
  | 65 => ⟨S2x8192x8x8, .f32⟩
  | 66 => ⟨S2x8192x8x8, .f32⟩
  | 67 => ⟨S2x8192x8x8, .f32⟩
  | 68 => ⟨S2x8192x8x8, .f32⟩
  | 69 => ⟨S2x8192x8x48, .f32⟩
  | 70 => ⟨S2x8192x8x64, .f32⟩
  | 71 => ⟨S64, .f32⟩
  | 72 => ⟨S2x8192x2x64, .f32⟩
  | 73 => ⟨S_, .f32⟩
  | 74 => ⟨S2x8192x2, .f32⟩
  | 75 => ⟨S2x8192x2x1, .f32⟩
  | 76 => ⟨S_, .f32⟩
  | 77 => ⟨S2x8192x2x1, .f32⟩
  | 78 => ⟨S2x8192x2x1, .f32⟩
  | 79 => ⟨S_, .f32⟩
  | 80 => ⟨S2x8192x2x1, .f32⟩
  | 81 => ⟨S2x8192x2x1, .f32⟩
  | 82 => ⟨S2x8192x2x1, .f32⟩
  | 83 => ⟨S2x8192x2x64, .f32⟩
  | 84 => ⟨S2x8192x2x64, .f32⟩
  | 85 => ⟨S1x1x1x64, .f32⟩
  | 86 => ⟨S2x8192x2x64, .f32⟩
  | 87 => ⟨S2x8192x2x64, .f32⟩
  | 88 => ⟨S8, .f32⟩
  | 89 => ⟨S8, .f32⟩
  | 90 => ⟨S_, .f32⟩
  | 91 => ⟨S8, .f32⟩
  | 92 => ⟨S8, .f32⟩
  | 93 => ⟨S_, .f32⟩
  | 94 => ⟨S8, .f32⟩
  | 95 => ⟨S8, .f32⟩
  | 96 => ⟨S8192x1, .f32⟩
  | 97 => ⟨S1x8, .f32⟩
  | 98 => ⟨S8192x8, .f32⟩
  | 99 => ⟨S8192x8, .f32⟩
  | 100 => ⟨S8192x8, .f32⟩
  | 101 => ⟨S8192x8, .f32⟩
  | 102 => ⟨S1x8192x1x8, .f32⟩
  | 103 => ⟨S8192x8, .f32⟩
  | 104 => ⟨S1x8192x1x8, .f32⟩
  | 105 => ⟨S2x8192x2x8, .f32⟩
  | 106 => ⟨S2x8192x2x8, .f32⟩
  | 107 => ⟨S2x8192x2x8, .f32⟩
  | 108 => ⟨S2x8192x2x8, .f32⟩
  | 109 => ⟨S2x8192x2x8, .f32⟩
  | 110 => ⟨S2x8192x2x8, .f32⟩
  | 111 => ⟨S2x8192x2x8, .f32⟩
  | 112 => ⟨S2x8192x2x8, .f32⟩
  | 113 => ⟨S2x8192x2x8, .f32⟩
  | 114 => ⟨S2x8192x2x8, .f32⟩
  | 115 => ⟨S2x8192x2x8, .f32⟩
  | 116 => ⟨S2x8192x2x8, .f32⟩
  | 117 => ⟨S2x8192x2x48, .f32⟩
  | 118 => ⟨S2x8192x2x64, .f32⟩
  | 119 => ⟨S8, .f32⟩
  | 120 => ⟨S2x64x128x2x4x64, .f32⟩
  | 121 => ⟨S2x64x128x2x64, .f32⟩
  | 122 => ⟨S2x64x128x2x64, .f32⟩
  | 123 => ⟨S2x1x128x2x64, .f32⟩
  | 124 => ⟨S_, .f32⟩
  | 125 => ⟨S2x1x128x2x64, .f32⟩
  | 126 => ⟨S2x63x128x2x64, .f32⟩
  | 127 => ⟨S2x64x128x2x64, .f32⟩
  | _ => ⟨S2x8192x512, .f32⟩

abbrev hbmTy0_1 (i : Nat) : BufTy := match i % 128 with
  | 0 => ⟨S2x64x256x2x64, .f32⟩
  | 1 => ⟨S2x1x128x2x64, .f32⟩
  | 2 => ⟨S_, .f32⟩
  | 3 => ⟨S2x1x128x2x64, .f32⟩
  | 4 => ⟨S2x63x128x2x64, .f32⟩
  | 5 => ⟨S2x64x128x2x64, .f32⟩
  | 6 => ⟨S2x64x256x2x64, .f32⟩
  | 7 => ⟨S8192, .i32⟩
  | 8 => ⟨S64x128, .i32⟩
  | 9 => ⟨S64, .i32⟩
  | 10 => ⟨S_, .i32⟩
  | 11 => ⟨S64, .i32⟩
  | 12 => ⟨S64, .i32⟩
  | 13 => ⟨S_, .i32⟩
  | 14 => ⟨S64, .i32⟩
  | 15 => ⟨S64, .i32⟩
  | 16 => ⟨S64x1, .i32⟩
  | 17 => ⟨S256, .i32⟩
  | 18 => ⟨S1x256, .i32⟩
  | 19 => ⟨S64x256, .i32⟩
  | 20 => ⟨S64x256, .i32⟩
  | 21 => ⟨S64x256, .i32⟩
  | 22 => ⟨S64x128x1, .i32⟩
  | 23 => ⟨S64x1x256, .i32⟩
  | 24 => ⟨S64x128x256, .i32⟩
  | 25 => ⟨S64x128x256, .i32⟩
  | 26 => ⟨S64x128x256, .i32⟩
  | 27 => ⟨S_, .i32⟩
  | 28 => ⟨S64x128x256, .i32⟩
  | 29 => ⟨S64x128x256, .i1⟩
  | 30 => ⟨S_, .i32⟩
  | 31 => ⟨S64x128x256, .i32⟩
  | 32 => ⟨S64x128x256, .i1⟩
  | 33 => ⟨S64x128x256, .i1⟩
  | 34 => ⟨S64x1x256, .i32⟩
  | 35 => ⟨S_, .i32⟩
  | 36 => ⟨S64x1x256, .i32⟩
  | 37 => ⟨S64x1x256, .i1⟩
  | 38 => ⟨S64x128x256, .i1⟩
  | 39 => ⟨S64x128x256, .i1⟩
  | 40 => ⟨S2x64x2x256x128x4, .f32⟩
  | 41 => ⟨S2x64x2x4x128x256, .f32⟩
  | 42 => ⟨S_, .f32⟩
  | 43 => ⟨S2x64x2x4x128x256, .f32⟩
  | 44 => ⟨S2x64x2x4x128x256, .f32⟩
  | 45 => ⟨S1x64x1x1x128x256, .i1⟩
  | 46 => ⟨S_, .f32⟩
  | 47 => ⟨S_, .f32⟩
  | 48 => ⟨S2x64x2x4x128x256, .i1⟩
  | 49 => ⟨S2x64x2x4x128x256, .f32⟩
  | 50 => ⟨S2x64x2x4x128x256, .f32⟩
  | 51 => ⟨S2x4, .f32⟩
  | 52 => ⟨S1x1x2x4x1x1, .f32⟩
  | 53 => ⟨S2x64x2x4x128x1, .f32⟩
  | 54 => ⟨S2x64x2x4x128x257, .f32⟩
  | 55 => ⟨S_, .f32⟩
  | 56 => ⟨S2x64x2x4x128, .f32⟩
  | 57 => ⟨S_, .f32⟩
  | 58 => ⟨S2x64x2x4x128, .f32⟩
  | 59 => ⟨S2x64x2x4x128, .f32⟩
  | 60 => ⟨S2x64x2x4x128x1, .f32⟩
  | 61 => ⟨S2x64x2x4x128x257, .f32⟩
  | 62 => ⟨S2x64x2x4x128x257, .f32⟩
  | 63 => ⟨S2x64x2x4x128x257, .f32⟩
  | 64 => ⟨S_, .f32⟩
  | 65 => ⟨S2x64x2x4x128, .f32⟩
  | 66 => ⟨S2x64x2x4x128x1, .f32⟩
  | 67 => ⟨S2x64x2x4x128x257, .f32⟩
  | 68 => ⟨S2x64x2x4x128x257, .f32⟩
  | 69 => ⟨S2x64x2x4x128x256, .f32⟩
  | 70 => ⟨S2x64x2x64x4x128, .f32⟩
  | 71 => ⟨S2x64x128x2x4x64, .f32⟩
  | 72 => ⟨S2x8192x512, .f32⟩
  | 73 => ⟨S2x128x2x64, .f32⟩
  | 74 => ⟨S2x128x2x64, .f32⟩
  | 75 => ⟨S1024x1024, .f32⟩
  | 76 => ⟨S1024, .f32⟩
  | 77 => ⟨S1024x4096, .f32⟩
  | 78 => ⟨S4096x1024, .f32⟩
  | 79 => ⟨S2x8192x1024, .f32⟩
  | 80 => ⟨S2x8192x1024, .f32⟩
  | 81 => ⟨S2x8192x1024, .f32⟩
  | 82 => ⟨S2x8192x1024, .f32⟩
  | 83 => ⟨S_, .f32⟩
  | 84 => ⟨S2x8192, .f32⟩
  | 85 => ⟨S2x8192x1, .f32⟩
  | 86 => ⟨S_, .f32⟩
  | 87 => ⟨S2x8192x1, .f32⟩
  | 88 => ⟨S2x8192x1, .f32⟩
  | 89 => ⟨S_, .f32⟩
  | 90 => ⟨S2x8192x1, .f32⟩
  | 91 => ⟨S2x8192x1, .f32⟩
  | 92 => ⟨S2x8192x1, .f32⟩
  | 93 => ⟨S2x8192x1024, .f32⟩
  | 94 => ⟨S2x8192x1024, .f32⟩
  | 95 => ⟨S1x1x1024, .f32⟩
  | 96 => ⟨S2x8192x1024, .f32⟩
  | 97 => ⟨S2x8192x1024, .f32⟩
  | 98 => ⟨S2x8192x4096, .f32⟩
  | 99 => ⟨S_, .f32⟩
  | 100 => ⟨S2x8192x4096, .f32⟩
  | 101 => ⟨S2x8192x4096, .f32⟩
  | 102 => ⟨S2x8192x4096, .f32⟩
  | 103 => ⟨S2x8192x1024, .f32⟩
  | 104 => ⟨S2x8192x1024, .f32⟩
  | 105 => ⟨S128x1x512, .f32⟩
  | 106 => ⟨S128x1x512, .f32⟩
  | 107 => ⟨S1024x1024, .f32⟩
  | 108 => ⟨S1024, .f32⟩
  | 109 => ⟨S1024x4096, .f32⟩
  | 110 => ⟨S4096x1024, .f32⟩
  | 111 => ⟨S128x1x1024, .f32⟩
  | 112 => ⟨S128x1x1024, .f32⟩
  | 113 => ⟨S128x1x1024, .f32⟩
  | 114 => ⟨S128x1x1024, .f32⟩
  | 115 => ⟨S_, .f32⟩
  | 116 => ⟨S128x1, .f32⟩
  | 117 => ⟨S128x1x1, .f32⟩
  | 118 => ⟨S_, .f32⟩
  | 119 => ⟨S128x1x1, .f32⟩
  | 120 => ⟨S128x1x1, .f32⟩
  | 121 => ⟨S_, .f32⟩
  | 122 => ⟨S128x1x1, .f32⟩
  | 123 => ⟨S128x1x1, .f32⟩
  | 124 => ⟨S128x1x1, .f32⟩
  | 125 => ⟨S128x1x1024, .f32⟩
  | 126 => ⟨S128x1x1024, .f32⟩
  | 127 => ⟨S1x1x1024, .f32⟩
  | _ => ⟨S2x8192x512, .f32⟩

abbrev hbmTy0_2 (i : Nat) : BufTy := match i % 128 with
  | 0 => ⟨S128x1x1024, .f32⟩
  | 1 => ⟨S128x1x1024, .f32⟩
  | 2 => ⟨S128x1x4096, .f32⟩
  | 3 => ⟨S_, .f32⟩
  | 4 => ⟨S128x1x4096, .f32⟩
  | 5 => ⟨S128x1x4096, .f32⟩
  | 6 => ⟨S128x1x4096, .f32⟩
  | 7 => ⟨S128x1x1024, .f32⟩
  | 8 => ⟨S128x1x1024, .f32⟩
  | 9 => ⟨S2x128x128, .f32⟩
  | 10 => ⟨S2x128x128, .f32⟩
  | 11 => ⟨S2x128x128, .f32⟩
  | 12 => ⟨S2x128x128, .f32⟩
  | _ => ⟨S2x8192x512, .f32⟩

abbrev hbmTy (i : Nat) : BufTy := match i / 128 with
  | 0 => hbmTy0_0 i
  | 1 => hbmTy0_1 i
  | 2 => hbmTy0_2 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_8 : Ref sig .tc := ⟨.hbm, 90, rfl⟩
abbrev main_v67 : Ref sig .tc := ⟨.hbm, 91, rfl⟩
abbrev main_v68 : Ref sig .tc := ⟨.hbm, 92, rfl⟩
abbrev main_cst_9 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_10 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_11 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_c : Ref sig .tc := ⟨.hbm, 138, rfl⟩
abbrev main_v111 : Ref sig .tc := ⟨.hbm, 139, rfl⟩
abbrev main_v112 : Ref sig .tc := ⟨.hbm, 140, rfl⟩
abbrev main_c_12 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_c_13 : Ref sig .tc := ⟨.hbm, 155, rfl⟩
abbrev main_v126 : Ref sig .tc := ⟨.hbm, 156, rfl⟩
abbrev main_v127 : Ref sig .tc := ⟨.hbm, 157, rfl⟩
abbrev main_c_14 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_c_15 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_cst_16 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_cst_17 : Ref sig .tc := ⟨.hbm, 174, rfl⟩
abbrev main_call0_v0 : Ref sig .tc := ⟨.hbm, 175, rfl⟩
abbrev main_call0_v1 : Ref sig .tc := ⟨.hbm, 176, rfl⟩
abbrev main_call0_v2 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_cst_18 : Ref sig .tc := ⟨.hbm, 183, rfl⟩
abbrev main_v146 : Ref sig .tc := ⟨.hbm, 184, rfl⟩
abbrev main_cst_19 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_20 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_cst_21 : Ref sig .tc := ⟨.hbm, 211, rfl⟩
abbrev main_v171 : Ref sig .tc := ⟨.hbm, 212, rfl⟩
abbrev main_v172 : Ref sig .tc := ⟨.hbm, 213, rfl⟩
abbrev main_cst_22 : Ref sig .tc := ⟨.hbm, 214, rfl⟩
abbrev main_v173 : Ref sig .tc := ⟨.hbm, 215, rfl⟩
abbrev main_v174 : Ref sig .tc := ⟨.hbm, 216, rfl⟩
abbrev main_cst_23 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_call1_cst : Ref sig .tc := ⟨.hbm, 227, rfl⟩
abbrev main_call1_v0 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_cst_24 : Ref sig .tc := ⟨.hbm, 243, rfl⟩
abbrev main_v198 : Ref sig .tc := ⟨.hbm, 244, rfl⟩
abbrev main_v199 : Ref sig .tc := ⟨.hbm, 245, rfl⟩
abbrev main_cst_25 : Ref sig .tc := ⟨.hbm, 246, rfl⟩
abbrev main_v200 : Ref sig .tc := ⟨.hbm, 247, rfl⟩
abbrev main_v201 : Ref sig .tc := ⟨.hbm, 248, rfl⟩
abbrev main_cst_26 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_call2_cst : Ref sig .tc := ⟨.hbm, 259, rfl⟩
abbrev main_call2_v0 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩

abbrev nD : Nat := 1
abbrev τ : Topo := Topo.v7x

variable {F : FTy → Type} [FloatOps F]
-- ==== Inproj.lean ====
abbrev S2x8192x1024 : Shape := ⟨3, ![2, 8192, 1024]⟩
abbrev S1x1024 : Shape := ⟨2, ![1, 1024]⟩
abbrev S1x1024x2464 : Shape := ⟨3, ![1, 1024, 2464]⟩
abbrev S1x1696 : Shape := ⟨2, ![1, 1696]⟩
abbrev S1024x2464 : Shape := ⟨2, ![1024, 2464]⟩
abbrev S2464x1024 : Shape := ⟨2, ![2464, 1024]⟩
abbrev S1696 : Shape := ⟨1, ![1696]⟩
abbrev S1024 : Shape := ⟨1, ![1024]⟩
abbrev S16384x1024 : Shape := ⟨2, ![16384, 1024]⟩
abbrev S16384x1696 : Shape := ⟨2, ![16384, 1696]⟩
abbrev S2x1x1696 : Shape := ⟨3, ![2, 1, 1696]⟩
abbrev S16384x512 : Shape := ⟨2, ![16384, 512]⟩
abbrev S16384x256 : Shape := ⟨2, ![16384, 256]⟩
abbrev S1024x1024 : Shape := ⟨2, ![1024, 1024]⟩
abbrev S1024x1696 : Shape := ⟨2, ![1024, 1696]⟩
abbrev S1x1x1696 : Shape := ⟨3, ![1, 1, 1696]⟩
abbrev S1024x512 : Shape := ⟨2, ![1024, 512]⟩
abbrev S1024x256 : Shape := ⟨2, ![1024, 256]⟩
abbrev S8x1696 : Shape := ⟨2, ![8, 1696]⟩
abbrev S1024x1 : Shape := ⟨2, ![1024, 1]⟩
abbrev S1696x1024 : Shape := ⟨2, ![1696, 1024]⟩
abbrev S768x1024 : Shape := ⟨2, ![768, 1024]⟩
abbrev S1024x768 : Shape := ⟨2, ![1024, 768]⟩

abbrev nBuf : Space → Nat
  | .hbm => 15
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2464, .f32⟩
  | .hbm, ⟨3, _⟩ => ⟨S1x1696, .f32⟩
  | .hbm, ⟨4, _⟩ => ⟨S1024x2464, .f32⟩
  | .hbm, ⟨5, _⟩ => ⟨S2464x1024, .f32⟩
  | .hbm, ⟨6, _⟩ => ⟨S1696, .f32⟩
  | .hbm, ⟨7, _⟩ => ⟨S1x1696, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1696, .f32⟩
  | .hbm, ⟨12, _⟩ => ⟨S2x1x1696, .f32⟩
  | .hbm, ⟨13, _⟩ => ⟨S16384x512, .f32⟩
  | .hbm, ⟨14, _⟩ => ⟨S16384x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2464x1024, .f32⟩
  | .local _ .vmem, ⟨4, _⟩ => ⟨S1x1696, .f32⟩
  | .local _ .vmem, ⟨5, _⟩ => ⟨S1024x1696, .f32⟩
  | .local _ .vmem, ⟨6, _⟩ => ⟨S1024x1696, .f32⟩
  | .local _ .vmem, ⟨7, _⟩ => ⟨S1x1x1696, .f32⟩
  | .local _ .vmem, ⟨8, _⟩ => ⟨S1x1x1696, .f32⟩
  | .local _ .vmem, ⟨9, _⟩ => ⟨S1024x512, .f32⟩
  | .local _ .vmem, ⟨10, _⟩ => ⟨S1024x512, .f32⟩
  | .local _ .vmem, ⟨11, _⟩ => ⟨S1024x256, .f32⟩
  | .local _ .vmem, ⟨12, _⟩ => ⟨S1024x256, .f32⟩
  | .local _ .vmem, ⟨13, _⟩ => ⟨S8x1696, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2464x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1696 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1696 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1696 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InprojRefIdeal.lean ====
abbrev S2x8192x1024 : Shape := ⟨3, ![2, 8192, 1024]⟩
abbrev S1x1024 : Shape := ⟨2, ![1, 1024]⟩
abbrev S1x1024x2464 : Shape := ⟨3, ![1, 1024, 2464]⟩
abbrev S1x1696 : Shape := ⟨2, ![1, 1696]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2464 : Shape := ⟨2, ![1024, 2464]⟩
abbrev S2x8192x2464 : Shape := ⟨3, ![2, 8192, 2464]⟩
abbrev S2x8192x1696 : Shape := ⟨3, ![2, 8192, 1696]⟩
abbrev S2x1x1696 : Shape := ⟨3, ![2, 1, 1696]⟩
abbrev S2x8191x1696 : Shape := ⟨3, ![2, 8191, 1696]⟩
abbrev S1696 : Shape := ⟨1, ![1696]⟩
abbrev S1x1x1696 : Shape := ⟨3, ![1, 1, 1696]⟩
abbrev S16384x1696 : Shape := ⟨2, ![16384, 1696]⟩
abbrev S2x8192x512 : Shape := ⟨3, ![2, 8192, 512]⟩
abbrev S16384x512 : Shape := ⟨2, ![16384, 512]⟩
abbrev S2x8192x256 : Shape := ⟨3, ![2, 8192, 256]⟩
abbrev S16384x256 : Shape := ⟨2, ![16384, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2464, .f32⟩
  | .hbm, ⟨3, _⟩ => ⟨S1x1696, .f32⟩
  | .hbm, ⟨4, _⟩ => ⟨S1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S1024x2464, .f32⟩
  | .hbm, ⟨22, _⟩ => ⟨S2x8192x2464, .f32⟩
  | .hbm, ⟨23, _⟩ => ⟨S2x8192x1696, .f32⟩
  | .hbm, ⟨24, _⟩ => ⟨S_, .f32⟩
  | .hbm, ⟨25, _⟩ => ⟨S2x1x1696, .f32⟩
  | .hbm, ⟨26, _⟩ => ⟨S2x8191x1696, .f32⟩
  | .hbm, ⟨27, _⟩ => ⟨S2x8192x1696, .f32⟩
  | .hbm, ⟨28, _⟩ => ⟨S2x8192x1696, .f32⟩
  | .hbm, ⟨29, _⟩ => ⟨S1696, .f32⟩
  | .hbm, ⟨30, _⟩ => ⟨S1x1x1696, .f32⟩
  | .hbm, ⟨31, _⟩ => ⟨S2x8192x1696, .f32⟩
  | .hbm, ⟨32, _⟩ => ⟨S2x8192x1696, .f32⟩
  | .hbm, ⟨33, _⟩ => ⟨S2x8192x1696, .f32⟩
  | .hbm, ⟨34, _⟩ => ⟨S16384x1696, .f32⟩
  | .hbm, ⟨35, _⟩ => ⟨S2x1x1696, .f32⟩
  | .hbm, ⟨36, _⟩ => ⟨S2x8192x512, .f32⟩
  | .hbm, ⟨37, _⟩ => ⟨S16384x512, .f32⟩
  | .hbm, ⟨38, _⟩ => ⟨S2x8192x256, .f32⟩
  | .hbm, ⟨39, _⟩ => ⟨S16384x256, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Proof.KernelRunA.lean ====
module

public import proofs.«01_k».proof.Proof.KernelRuns
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first point: the inputs stay as they were, the outputs and the scratch hold something. -/
theorem run_A (c : Dev nD) (i : grid0.Coords)
    (arg1 : Memref sig .tc .vmem S2x128x512 .f32) (harg1 : arg1.IsWhole) (arg2 : Memref sig .tc .vmem S2x128x256 .f32) (harg2 : arg2.IsWhole) (arg3 : Memref sig .tc .vmem S1x1x256 .f32) (harg3 : arg3.IsWhole) (arg4 : Memref sig .tc .vmem S128x256 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x8 .f32) (harg7 : arg7.IsWhole) (arg8 : Memref sig .tc .vmem S256x256 .bf16) (harg8 : arg8.IsWhole) (arg9 : Memref sig .tc .vmem S2x256x512 .f32) (harg9 : arg9.IsWhole) (arg10 : Memref sig .tc .vmem S2x128x1024 .f32) (harg10 : arg10.IsWhole) (arg11 : Memref sig .tc .vmem S2x128x512 .f32) (harg11 : arg11.IsWhole) (arg12 : Memref sig .tc .vmem S128x1024 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S2x128x1024 .f32) (harg19 : arg19.IsWhole) (arg20 : Memref sig .tc .vmem S128x1x1024 .f32) (harg20 : arg20.IsWhole) (arg21 : Memref sig .tc .vmem S2x128x128 .f32) (harg21 : arg21.IsWhole) (arg22 : Memref sig .tc .vmem S2x128x128 .f32) (harg22 : arg22.IsWhole) (arg23 : Memref sig .tc .vmem S2x128x128 .f32) (harg23 : arg23.IsWhole) (arg24 : Memref sig .tc .vmem S2x128x128 .f32) (harg24 : arg24.IsWhole) (arg25 : Memref sig .tc .vmem S2x128x512 .f32) (harg25 : arg25.IsWhole)
    (hc0 : cond0_0 i) (hc1 : cond0_1 i) (hc2 : ¬ cond0_2 i)
    (x0 : Vec F S2x128x512 .f32) (x1 : Vec F S2x128x256 .f32) (x2 : Vec F S1x1x256 .f32) (x3 : Vec F S128x256 .f32) (x4 : Vec F S1x512 .f32) (x5 : Vec F S1x128 .f32) (x6 : Vec F S1x8 .f32) (x7 : Vec F S256x256 .bf16) (x8 : Vec F S2x256x512 .f32) (x9 : Vec F S2x128x1024 .f32) (x10 : Vec F S2x128x512 .f32) (x11 : Vec F S128x1024 .f32) (x12 : Vec F S128x512 .f32) (x13 : Vec F S128x512 .f32) (x14 : Vec F S1024x1024 .bf16) (x15 : Vec F S1x1024 .f32) (x16 : Vec F S1024x4096 .bf16) (x17 : Vec F S4096x1024 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗
      owns (c : Thread nD τ) arg16 fullShare x15 ∗ owns (c : Thread nD τ) arg17 fullShare x16 ∗ owns (c : Thread nD τ) arg18 fullShare x17 ∗
      (∃ d, owns (c : Thread nD τ) arg19 fullShare d) ∗ (∃ d, owns (c : Thread nD τ) arg20 fullShare d) ∗ (∃ d, owns (c : Thread nD τ) arg21 fullShare d) ∗
      (∃ d, owns (c : Thread nD τ) arg22 fullShare d) ∗ (∃ d, owns (c : Thread nD τ) arg23 fullShare d) ∗ (∃ d, owns (c : Thread nD τ) arg24 fullShare d) ∗
      (∃ d, owns (c : Thread nD τ) arg25 fullShare d) ∗
      (iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗
      owns (c : Thread nD τ) arg16 fullShare x15 ∗ owns (c : Thread nD τ) arg17 fullShare x16 ∗ owns (c : Thread nD τ) arg18 fullShare x17 ∗
      (∃ d, owns (c : Thread nD τ) arg19 fullShare d) ∗ (∃ d, owns (c : Thread nD τ) arg20 fullShare d) ∗ (∃ d, owns (c : Thread nD τ) arg21 fullShare d) ∗
      (∃ d, owns (c : Thread nD τ) arg22 fullShare d) ∗ (∃ d, owns (c : Thread nD τ) arg23 fullShare d) ∗ (∃ d, owns (c : Thread nD τ) arg24 fullShare d) ∗
      (∃ d, owns (c : Thread nD τ) arg25 fullShare d)) -∗ K ⟨⟩))
    ⊢ wp frame (wpE (defs₀ (F := F)) Variants.none c none) E
      (cc0_attn_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_attn_ffn_eq_skeleton]; unfold cc0_attn_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  iexists _, _; isplitr; swap; · iexact H25
  ipureintro; rfl

end Cert.Kernel.Gen

end
-- ==== Proof.KernelRunB.lean ====
module

public import proofs.«01_k».proof.Proof.KernelRunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a middle point or the last: the inputs stay as they were, the outputs and the scratch hold something. -/
theorem run_B (c : Dev nD) (i : grid0.Coords)
    (arg1 : Memref sig .tc .vmem S2x128x512 .f32) (harg1 : arg1.IsWhole) (arg2 : Memref sig .tc .vmem S2x128x256 .f32) (harg2 : arg2.IsWhole) (arg3 : Memref sig .tc .vmem S1x1x256 .f32) (harg3 : arg3.IsWhole) (arg4 : Memref sig .tc .vmem S128x256 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x8 .f32) (harg7 : arg7.IsWhole) (arg8 : Memref sig .tc .vmem S256x256 .bf16) (harg8 : arg8.IsWhole) (arg9 : Memref sig .tc .vmem S2x256x512 .f32) (harg9 : arg9.IsWhole) (arg10 : Memref sig .tc .vmem S2x128x1024 .f32) (harg10 : arg10.IsWhole) (arg11 : Memref sig .tc .vmem S2x128x512 .f32) (harg11 : arg11.IsWhole) (arg12 : Memref sig .tc .vmem S128x1024 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S2x128x1024 .f32) (harg19 : arg19.IsWhole) (arg20 : Memref sig .tc .vmem S128x1x1024 .f32) (harg20 : arg20.IsWhole) (arg21 : Memref sig .tc .vmem S2x128x128 .f32) (harg21 : arg21.IsWhole) (arg22 : Memref sig .tc .vmem S2x128x128 .f32) (harg22 : arg22.IsWhole) (arg23 : Memref sig .tc .vmem S2x128x128 .f32) (harg23 : arg23.IsWhole) (arg24 : Memref sig .tc .vmem S2x128x128 .f32) (harg24 : arg24.IsWhole) (arg25 : Memref sig .tc .vmem S2x128x512 .f32) (harg25 : arg25.IsWhole)
    (hc0 : ¬ cond0_0 i) (hc1 : ¬ cond0_1 i) (hc2 : ¬ cond0_2 i)
    (x0 : Vec F S2x128x512 .f32) (x1 : Vec F S2x128x256 .f32) (x2 : Vec F S1x1x256 .f32) (x3 : Vec F S128x256 .f32) (x4 : Vec F S1x512 .f32) (x5 : Vec F S1x128 .f32) (x6 : Vec F S1x8 .f32) (x7 : Vec F S256x256 .bf16) (x8 : Vec F S2x256x512 .f32) (x9 : Vec F S2x128x1024 .f32) (x10 : Vec F S2x128x512 .f32) (x11 : Vec F S128x1024 .f32) (x12 : Vec F S128x512 .f32) (x13 : Vec F S128x512 .f32) (x14 : Vec F S1024x1024 .bf16) (x15 : Vec F S1x1024 .f32) (x16 : Vec F S1024x4096 .bf16) (x17 : Vec F S4096x1024 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗
      owns (c : Thread nD τ) arg16 fullShare x15 ∗ owns (c : Thread nD τ) arg17 fullShare x16 ∗ owns (c : Thread nD τ) arg18 fullShare x17 ∗
      (∃ d, owns (c : Thread nD τ) arg19 fullShare d) ∗ (∃ d, owns (c : Thread nD τ) arg20 fullShare d) ∗ (∃ d, owns (c : Thread nD τ) arg21 fullShare d) ∗
      (∃ d, owns (c : Thread nD τ) arg22 fullShare d) ∗ (∃ d, owns (c : Thread nD τ) arg23 fullShare d) ∗ (∃ d, owns (c : Thread nD τ) arg24 fullShare d) ∗
      (∃ d, owns (c : Thread nD τ) arg25 fullShare d) ∗
      (iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗
      owns (c : Thread nD τ) arg16 fullShare x15 ∗ owns (c : Thread nD τ) arg17 fullShare x16 ∗ owns (c : Thread nD τ) arg18 fullShare x17 ∗
      (∃ d, owns (c : Thread nD τ) arg19 fullShare d) ∗ (∃ d, owns (c : Thread nD τ) arg20 fullShare d) ∗ (∃ d, owns (c : Thread nD τ) arg21 fullShare d) ∗
      (∃ d, owns (c : Thread nD τ) arg22 fullShare d) ∗ (∃ d, owns (c : Thread nD τ) arg23 fullShare d) ∗ (∃ d, owns (c : Thread nD τ) arg24 fullShare d) ∗
      (∃ d, owns (c : Thread nD τ) arg25 fullShare d)) -∗ K ⟨⟩))
    ⊢ wp frame (wpE (defs₀ (F := F)) Variants.none c none) E
      (cc0_attn_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_attn_ffn_eq_skeleton]; unfold cc0_attn_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  iexists _, _; isplitr; swap; · iexact H25
  ipureintro; rfl

end Cert.Kernel.Gen

end
-- ==== Proof.KernelRunC.lean ====
module

public import proofs.«01_k».proof.Proof.KernelRunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at point 63, where the window results are stored: the inputs stay as they were, the outputs and the scratch hold something. -/
theorem run_C (c : Dev nD) (i : grid0.Coords)
    (arg1 : Memref sig .tc .vmem S2x128x512 .f32) (harg1 : arg1.IsWhole) (arg2 : Memref sig .tc .vmem S2x128x256 .f32) (harg2 : arg2.IsWhole) (arg3 : Memref sig .tc .vmem S1x1x256 .f32) (harg3 : arg3.IsWhole) (arg4 : Memref sig .tc .vmem S128x256 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x8 .f32) (harg7 : arg7.IsWhole) (arg8 : Memref sig .tc .vmem S256x256 .bf16) (harg8 : arg8.IsWhole) (arg9 : Memref sig .tc .vmem S2x256x512 .f32) (harg9 : arg9.IsWhole) (arg10 : Memref sig .tc .vmem S2x128x1024 .f32) (harg10 : arg10.IsWhole) (arg11 : Memref sig .tc .vmem S2x128x512 .f32) (harg11 : arg11.IsWhole) (arg12 : Memref sig .tc .vmem S128x1024 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S2x128x1024 .f32) (harg19 : arg19.IsWhole) (arg20 : Memref sig .tc .vmem S128x1x1024 .f32) (harg20 : arg20.IsWhole) (arg21 : Memref sig .tc .vmem S2x128x128 .f32) (harg21 : arg21.IsWhole) (arg22 : Memref sig .tc .vmem S2x128x128 .f32) (harg22 : arg22.IsWhole) (arg23 : Memref sig .tc .vmem S2x128x128 .f32) (harg23 : arg23.IsWhole) (arg24 : Memref sig .tc .vmem S2x128x128 .f32) (harg24 : arg24.IsWhole) (arg25 : Memref sig .tc .vmem S2x128x512 .f32) (harg25 : arg25.IsWhole)
    (hc0 : ¬ cond0_0 i) (hc1 : ¬ cond0_1 i) (hc2 : cond0_2 i)
    (x0 : Vec F S2x128x512 .f32) (x1 : Vec F S2x128x256 .f32) (x2 : Vec F S1x1x256 .f32) (x3 : Vec F S128x256 .f32) (x4 : Vec F S1x512 .f32) (x5 : Vec F S1x128 .f32) (x6 : Vec F S1x8 .f32) (x7 : Vec F S256x256 .bf16) (x8 : Vec F S2x256x512 .f32) (x9 : Vec F S2x128x1024 .f32) (x10 : Vec F S2x128x512 .f32) (x11 : Vec F S128x1024 .f32) (x12 : Vec F S128x512 .f32) (x13 : Vec F S128x512 .f32) (x14 : Vec F S1024x1024 .bf16) (x15 : Vec F S1x1024 .f32) (x16 : Vec F S1024x4096 .bf16) (x17 : Vec F S4096x1024 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗
      owns (c : Thread nD τ) arg16 fullShare x15 ∗ owns (c : Thread nD τ) arg17 fullShare x16 ∗ owns (c : Thread nD τ) arg18 fullShare x17 ∗
      (∃ d, owns (c : Thread nD τ) arg19 fullShare d) ∗ (∃ d, owns (c : Thread nD τ) arg20 fullShare d) ∗ (∃ d, owns (c : Thread nD τ) arg21 fullShare d) ∗
      (∃ d, owns (c : Thread nD τ) arg22 fullShare d) ∗ (∃ d, owns (c : Thread nD τ) arg23 fullShare d) ∗ (∃ d, owns (c : Thread nD τ) arg24 fullShare d) ∗
      (∃ d, owns (c : Thread nD τ) arg25 fullShare d) ∗
      (iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗
      owns (c : Thread nD τ) arg16 fullShare x15 ∗ owns (c : Thread nD τ) arg17 fullShare x16 ∗ owns (c : Thread nD τ) arg18 fullShare x17 ∗
      (∃ d, owns (c : Thread nD τ) arg19 fullShare d) ∗ (∃ d, owns (c : Thread nD τ) arg20 fullShare d) ∗ (∃ d, owns (c : Thread nD τ) arg21 fullShare d) ∗
      (∃ d, owns (c : Thread nD τ) arg22 fullShare d) ∗ (∃ d, owns (c : Thread nD τ) arg23 fullShare d) ∗ (∃ d, owns (c : Thread nD τ) arg24 fullShare d) ∗
      (∃ d, owns (c : Thread nD τ) arg25 fullShare d)) -∗ K ⟨⟩))
    ⊢ wp frame (wpE (defs₀ (F := F)) Variants.none c none) E
      (cc0_attn_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_attn_ffn_eq_skeleton]; unfold cc0_attn_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  iexists _, _; isplitr; swap; · iexact H25
  ipureintro; rfl

end Cert.Kernel.Gen

end
-- ==== Proof.KernelFrame.lean ====
module

public import proofs.«01_k».proof.Proof.KernelRunC
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows nothing is said of: the four outputs. -/
def forgotten : Fin 22 → Bool := fun w => w.val == 18 || w.val == 19 || w.val == 20 || w.val == 21

/-- The proof data of the pipeline: each input's buffer holds its block after every point, nothing is said of the
    outputs or of the scratch. -/
def pdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ _ := Pipeline.ΦA spec0 c
  q _ := fullShare
  owed _ := 0

theorem pA_eq (c : Dev nD) (w : Fin cfg0.W) : (pdats m 0 c).A w = V m c (Pipeline.arrRef spec0 w) := by
  dsimp only [pdats]

theorem pafter_0 (c : Dev nD) (t : Fin cfg0.N) : (pdats m 0 c).after 0 t = iblk m c 0 t := by dsimp only [pdats]
theorem pbefore_0 (c : Dev nD) (t : Fin cfg0.N) (d) : (pdats m 0 c).before 0 t d = iblk m c 0 t :=
  before0_0_of m (pdats m 0 c) (pA_eq m c 0) (pafter_0 m c) t d
theorem pleaves_0 (c : Dev nD) (t : Fin cfg0.N) :
    (pdats m 0 c).leavesExact 0 t = owns (c : Thread nD τ) (ms0_0 t) fullShare (iblk m c 0 t) := by
  unfold Dat.leavesExact; rw [liveAt0_0 t, pafter_0]
theorem pafter_1 (c : Dev nD) (t : Fin cfg0.N) : (pdats m 0 c).after 1 t = iblk m c 1 t := by dsimp only [pdats]
theorem pbefore_1 (c : Dev nD) (t : Fin cfg0.N) (d) : (pdats m 0 c).before 1 t d = iblk m c 1 t :=
  before0_1_of m (pdats m 0 c) (pA_eq m c 1) (pafter_1 m c) t d
theorem pleaves_1 (c : Dev nD) (t : Fin cfg0.N) :
    (pdats m 0 c).leavesExact 1 t = owns (c : Thread nD τ) (ms0_1 t) fullShare (iblk m c 1 t) := by
  unfold Dat.leavesExact; rw [liveAt0_1 t, pafter_1]
theorem pafter_2 (c : Dev nD) (t : Fin cfg0.N) : (pdats m 0 c).after 2 t = iblk m c 2 t := by dsimp only [pdats]
theorem pbefore_2 (c : Dev nD) (t : Fin cfg0.N) (d) : (pdats m 0 c).before 2 t d = iblk m c 2 t :=
  before0_2_of m (pdats m 0 c) (pA_eq m c 2) (pafter_2 m c) t d
theorem pleaves_2 (c : Dev nD) (t : Fin cfg0.N) :
    (pdats m 0 c).leavesExact 2 t = owns (c : Thread nD τ) (ms0_2 t) fullShare (iblk m c 2 t) := by
  unfold Dat.leavesExact; rw [liveAt0_2 t, pafter_2]
theorem pafter_3 (c : Dev nD) (t : Fin cfg0.N) : (pdats m 0 c).after 3 t = iblk m c 3 t := by dsimp only [pdats]
theorem pbefore_3 (c : Dev nD) (t : Fin cfg0.N) (d) : (pdats m 0 c).before 3 t d = iblk m c 3 t :=
  before0_3_of m (pdats m 0 c) (pA_eq m c 3) (pafter_3 m c) t d
theorem pleaves_3 (c : Dev nD) (t : Fin cfg0.N) :
    (pdats m 0 c).leavesExact 3 t = owns (c : Thread nD τ) (ms0_3 t) fullShare (iblk m c 3 t) := by
  unfold Dat.leavesExact; rw [liveAt0_3 t, pafter_3]
theorem pafter_4 (c : Dev nD) (t : Fin cfg0.N) : (pdats m 0 c).after 4 t = iblk m c 4 t := by dsimp only [pdats]
theorem pbefore_4 (c : Dev nD) (t : Fin cfg0.N) (d) : (pdats m 0 c).before 4 t d = iblk m c 4 t :=
  before0_4_of m (pdats m 0 c) (pA_eq m c 4) (pafter_4 m c) t d
theorem pleaves_4 (c : Dev nD) (t : Fin cfg0.N) :
    (pdats m 0 c).leavesExact 4 t = owns (c : Thread nD τ) (ms0_4 t) fullShare (iblk m c 4 t) := by
  unfold Dat.leavesExact; rw [liveAt0_4 t, pafter_4]
theorem pafter_5 (c : Dev nD) (t : Fin cfg0.N) : (pdats m 0 c).after 5 t = iblk m c 5 t := by dsimp only [pdats]
theorem pbefore_5 (c : Dev nD) (t : Fin cfg0.N) (d) : (pdats m 0 c).before 5 t d = iblk m c 5 t :=
  before0_5_of m (pdats m 0 c) (pA_eq m c 5) (pafter_5 m c) t d
theorem pleaves_5 (c : Dev nD) (t : Fin cfg0.N) :
    (pdats m 0 c).leavesExact 5 t = owns (c : Thread nD τ) (ms0_5 t) fullShare (iblk m c 5 t) := by
  unfold Dat.leavesExact; rw [liveAt0_5 t, pafter_5]
theorem pafter_6 (c : Dev nD) (t : Fin cfg0.N) : (pdats m 0 c).after 6 t = iblk m c 6 t := by dsimp only [pdats]
theorem pbefore_6 (c : Dev nD) (t : Fin cfg0.N) (d) : (pdats m 0 c).before 6 t d = iblk m c 6 t :=
  before0_6_of m (pdats m 0 c) (pA_eq m c 6) (pafter_6 m c) t d
theorem pleaves_6 (c : Dev nD) (t : Fin cfg0.N) :
    (pdats m 0 c).leavesExact 6 t = owns (c : Thread nD τ) (ms0_6 t) fullShare (iblk m c 6 t) := by
  unfold Dat.leavesExact; rw [liveAt0_6 t, pafter_6]
theorem pafter_7 (c : Dev nD) (t : Fin cfg0.N) : (pdats m 0 c).after 7 t = iblk m c 7 t := by dsimp only [pdats]
theorem pbefore_7 (c : Dev nD) (t : Fin cfg0.N) (d) : (pdats m 0 c).before 7 t d = iblk m c 7 t :=
  before0_7_of m (pdats m 0 c) (pA_eq m c 7) (pafter_7 m c) t d
theorem pleaves_7 (c : Dev nD) (t : Fin cfg0.N) :
    (pdats m 0 c).leavesExact 7 t = owns (c : Thread nD τ) (ms0_7 t) fullShare (iblk m c 7 t) := by
  unfold Dat.leavesExact; rw [liveAt0_7 t, pafter_7]
theorem pafter_8 (c : Dev nD) (t : Fin cfg0.N) : (pdats m 0 c).after 8 t = iblk m c 8 t := by dsimp only [pdats]
theorem pbefore_8 (c : Dev nD) (t : Fin cfg0.N) (d) : (pdats m 0 c).before 8 t d = iblk m c 8 t :=
  before0_8_of m (pdats m 0 c) (pA_eq m c 8) (pafter_8 m c) t d
theorem pleaves_8 (c : Dev nD) (t : Fin cfg0.N) :
    (pdats m 0 c).leavesExact 8 t = owns (c : Thread nD τ) (ms0_8 t) fullShare (iblk m c 8 t) := by
  unfold Dat.leavesExact; rw [liveAt0_8 t, pafter_8]
theorem pafter_9 (c : Dev nD) (t : Fin cfg0.N) : (pdats m 0 c).after 9 t = iblk m c 9 t := by dsimp only [pdats]
theorem pbefore_9 (c : Dev nD) (t : Fin cfg0.N) (d) : (pdats m 0 c).before 9 t d = iblk m c 9 t :=
  before0_9_of m (pdats m 0 c) (pA_eq m c 9) (pafter_9 m c) t d
theorem pleaves_9 (c : Dev nD) (t : Fin cfg0.N) :
    (pdats m 0 c).leavesExact 9 t = owns (c : Thread nD τ) (ms0_9 t) fullShare (iblk m c 9 t) := by
  unfold Dat.leavesExact; rw [liveAt0_9 t, pafter_9]
theorem pafter_10 (c : Dev nD) (t : Fin cfg0.N) : (pdats m 0 c).after 10 t = iblk m c 10 t := by dsimp only [pdats]
theorem pbefore_10 (c : Dev nD) (t : Fin cfg0.N) (d) : (pdats m 0 c).before 10 t d = iblk m c 10 t :=
  before0_10_of m (pdats m 0 c) (pA_eq m c 10) (pafter_10 m c) t d
theorem pleaves_10 (c : Dev nD) (t : Fin cfg0.N) :
    (pdats m 0 c).leavesExact 10 t = owns (c : Thread nD τ) (ms0_10 t) fullShare (iblk m c 10 t) := by
  unfold Dat.leavesExact; rw [liveAt0_10 t, pafter_10]
theorem pafter_11 (c : Dev nD) (t : Fin cfg0.N) : (pdats m 0 c).after 11 t = iblk m c 11 t := by dsimp only [pdats]
theorem pbefore_11 (c : Dev nD) (t : Fin cfg0.N) (d) : (pdats m 0 c).before 11 t d = iblk m c 11 t :=
  before0_11_of m (pdats m 0 c) (pA_eq m c 11) (pafter_11 m c) t d
theorem pleaves_11 (c : Dev nD) (t : Fin cfg0.N) :
    (pdats m 0 c).leavesExact 11 t = owns (c : Thread nD τ) (ms0_11 t) fullShare (iblk m c 11 t) := by
  unfold Dat.leavesExact; rw [liveAt0_11 t, pafter_11]
theorem pafter_12 (c : Dev nD) (t : Fin cfg0.N) : (pdats m 0 c).after 12 t = iblk m c 12 t := by dsimp only [pdats]
theorem pbefore_12 (c : Dev nD) (t : Fin cfg0.N) (d) : (pdats m 0 c).before 12 t d = iblk m c 12 t :=
  before0_12_of m (pdats m 0 c) (pA_eq m c 12) (pafter_12 m c) t d
theorem pleaves_12 (c : Dev nD) (t : Fin cfg0.N) :
    (pdats m 0 c).leavesExact 12 t = owns (c : Thread nD τ) (ms0_12 t) fullShare (iblk m c 12 t) := by
  unfold Dat.leavesExact; rw [liveAt0_12 t, pafter_12]
theorem pafter_13 (c : Dev nD) (t : Fin cfg0.N) : (pdats m 0 c).after 13 t = iblk m c 13 t := by dsimp only [pdats]
theorem pbefore_13 (c : Dev nD) (t : Fin cfg0.N) (d) : (pdats m 0 c).before 13 t d = iblk m c 13 t :=
  before0_13_of m (pdats m 0 c) (pA_eq m c 13) (pafter_13 m c) t d
theorem pleaves_13 (c : Dev nD) (t : Fin cfg0.N) :
    (pdats m 0 c).leavesExact 13 t = owns (c : Thread nD τ) (ms0_13 t) fullShare (iblk m c 13 t) := by
  unfold Dat.leavesExact; rw [liveAt0_13 t, pafter_13]
theorem pafter_14 (c : Dev nD) (t : Fin cfg0.N) : (pdats m 0 c).after 14 t = iblk m c 14 t := by dsimp only [pdats]
theorem pbefore_14 (c : Dev nD) (t : Fin cfg0.N) (d) : (pdats m 0 c).before 14 t d = iblk m c 14 t :=
  before0_14_of m (pdats m 0 c) (pA_eq m c 14) (pafter_14 m c) t d
theorem pleaves_14 (c : Dev nD) (t : Fin cfg0.N) :
    (pdats m 0 c).leavesExact 14 t = owns (c : Thread nD τ) (ms0_14 t) fullShare (iblk m c 14 t) := by
  unfold Dat.leavesExact; rw [liveAt0_14 t, pafter_14]
theorem pafter_15 (c : Dev nD) (t : Fin cfg0.N) : (pdats m 0 c).after 15 t = iblk m c 15 t := by dsimp only [pdats]
theorem pbefore_15 (c : Dev nD) (t : Fin cfg0.N) (d) : (pdats m 0 c).before 15 t d = iblk m c 15 t :=
  before0_15_of m (pdats m 0 c) (pA_eq m c 15) (pafter_15 m c) t d
theorem pleaves_15 (c : Dev nD) (t : Fin cfg0.N) :
    (pdats m 0 c).leavesExact 15 t = owns (c : Thread nD τ) (ms0_15 t) fullShare (iblk m c 15 t) := by
  unfold Dat.leavesExact; rw [liveAt0_15 t, pafter_15]
theorem pafter_16 (c : Dev nD) (t : Fin cfg0.N) : (pdats m 0 c).after 16 t = iblk m c 16 t := by dsimp only [pdats]
theorem pbefore_16 (c : Dev nD) (t : Fin cfg0.N) (d) : (pdats m 0 c).before 16 t d = iblk m c 16 t :=
  before0_16_of m (pdats m 0 c) (pA_eq m c 16) (pafter_16 m c) t d
theorem pleaves_16 (c : Dev nD) (t : Fin cfg0.N) :
    (pdats m 0 c).leavesExact 16 t = owns (c : Thread nD τ) (ms0_16 t) fullShare (iblk m c 16 t) := by
  unfold Dat.leavesExact; rw [liveAt0_16 t, pafter_16]
theorem pafter_17 (c : Dev nD) (t : Fin cfg0.N) : (pdats m 0 c).after 17 t = iblk m c 17 t := by dsimp only [pdats]
theorem pbefore_17 (c : Dev nD) (t : Fin cfg0.N) (d) : (pdats m 0 c).before 17 t d = iblk m c 17 t :=
  before0_17_of m (pdats m 0 c) (pA_eq m c 17) (pafter_17 m c) t d
theorem pleaves_17 (c : Dev nD) (t : Fin cfg0.N) :
    (pdats m 0 c).leavesExact 17 t = owns (c : Thread nD τ) (ms0_17 t) fullShare (iblk m c 17 t) := by
  unfold Dat.leavesExact; rw [liveAt0_17 t, pafter_17]

/-- What the body takes at a point. -/
def bodyPre (c : Dev nD) (t : Fin cfg0.N) : sProp 𝕄 :=
  iprop((pdats m 0 c).Φ t.castSucc ∗ (pdats m 0 c).owesAt () t.castSucc
    ∗ (∃ d, owns (c : Thread nD τ) (ms0_0 t) fullShare ((pdats m 0 c).before 0 t d))
    ∗ (∃ d, owns (c : Thread nD τ) (ms0_1 t) fullShare ((pdats m 0 c).before 1 t d))
    ∗ (∃ d, owns (c : Thread nD τ) (ms0_2 t) fullShare ((pdats m 0 c).before 2 t d))
    ∗ (∃ d, owns (c : Thread nD τ) (ms0_3 t) fullShare ((pdats m 0 c).before 3 t d))
    ∗ (∃ d, owns (c : Thread nD τ) (ms0_4 t) fullShare ((pdats m 0 c).before 4 t d))
    ∗ (∃ d, owns (c : Thread nD τ) (ms0_5 t) fullShare ((pdats m 0 c).before 5 t d))
    ∗ (∃ d, owns (c : Thread nD τ) (ms0_6 t) fullShare ((pdats m 0 c).before 6 t d))
    ∗ (∃ d, owns (c : Thread nD τ) (ms0_7 t) fullShare ((pdats m 0 c).before 7 t d))
    ∗ (∃ d, owns (c : Thread nD τ) (ms0_8 t) fullShare ((pdats m 0 c).before 8 t d))
    ∗ (∃ d, owns (c : Thread nD τ) (ms0_9 t) fullShare ((pdats m 0 c).before 9 t d))
    ∗ (∃ d, owns (c : Thread nD τ) (ms0_10 t) fullShare ((pdats m 0 c).before 10 t d))
    ∗ (∃ d, owns (c : Thread nD τ) (ms0_11 t) fullShare ((pdats m 0 c).before 11 t d))
    ∗ (∃ d, owns (c : Thread nD τ) (ms0_12 t) fullShare ((pdats m 0 c).before 12 t d))
    ∗ (∃ d, owns (c : Thread nD τ) (ms0_13 t) fullShare ((pdats m 0 c).before 13 t d))
    ∗ (∃ d, owns (c : Thread nD τ) (ms0_14 t) fullShare ((pdats m 0 c).before 14 t d))
    ∗ (∃ d, owns (c : Thread nD τ) (ms0_15 t) fullShare ((pdats m 0 c).before 15 t d))
    ∗ (∃ d, owns (c : Thread nD τ) (ms0_16 t) fullShare ((pdats m 0 c).before 16 t d))
    ∗ (∃ d, owns (c : Thread nD τ) (ms0_17 t) fullShare ((pdats m 0 c).before 17 t d))
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

/-- What the body gives back. -/
def bodyPost (c : Dev nD) (t : Fin cfg0.N) : sProp 𝕄 :=
  iprop((pdats m 0 c).Φ t.succ ∗ (pdats m 0 c).owesAt () t.succ
    ∗ (pdats m 0 c).leavesExact 0 t
    ∗ (pdats m 0 c).leavesExact 1 t
    ∗ (pdats m 0 c).leavesExact 2 t
    ∗ (pdats m 0 c).leavesExact 3 t
    ∗ (pdats m 0 c).leavesExact 4 t
    ∗ (pdats m 0 c).leavesExact 5 t
    ∗ (pdats m 0 c).leavesExact 6 t
    ∗ (pdats m 0 c).leavesExact 7 t
    ∗ (pdats m 0 c).leavesExact 8 t
    ∗ (pdats m 0 c).leavesExact 9 t
    ∗ (pdats m 0 c).leavesExact 10 t
    ∗ (pdats m 0 c).leavesExact 11 t
    ∗ (pdats m 0 c).leavesExact 12 t
    ∗ (pdats m 0 c).leavesExact 13 t
    ∗ (pdats m 0 c).leavesExact 14 t
    ∗ (pdats m 0 c).leavesExact 15 t
    ∗ (pdats m 0 c).leavesExact 16 t
    ∗ (pdats m 0 c).leavesExact 17 t
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

/-- The body at any point, whichever case it is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [pbefore_0, pleaves_0, pbefore_1, pleaves_1, pbefore_2, pleaves_2, pbefore_3, pleaves_3, pbefore_4, pleaves_4, pbefore_5, pleaves_5, pbefore_6, pleaves_6, pbefore_7, pleaves_7, pbefore_8, pleaves_8, pbefore_9, pleaves_9, pbefore_10, pleaves_10, pbefore_11, pleaves_11, pbefore_12, pleaves_12, pbefore_13, pleaves_13, pbefore_14, pleaves_14, pbefore_15, pleaves_15, pbefore_16, pleaves_16, pbefore_17, pleaves_17]
  rw [show (pdats m 0 c).owesAt () t.succ = (pdats m 0 c).owesAt () t.castSucc from rfl,
    show (pdats m 0 c).Φ t.succ = Pipeline.ΦA spec0 c from rfl,
    show (pdats m 0 c).Φ t.castSucc = Pipeline.ΦA spec0 c from rfl, PhiA0_eq]
  have hN : t.val < 65 := lt_of_lt_of_eq t.isLt (show cfg0.N = 65 from N_0)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, H18, H19, H20, H21⟩
  have key : cond0_0 (grid0.coords t) ∧ cond0_1 (grid0.coords t) ∧ ¬ cond0_2 (grid0.coords t)
      ∨ ¬ cond0_0 (grid0.coords t) ∧ ¬ cond0_1 (grid0.coords t) ∧ ¬ cond0_2 (grid0.coords t)
      ∨ ¬ cond0_0 (grid0.coords t) ∧ ¬ cond0_1 (grid0.coords t) ∧ cond0_2 (grid0.coords t) := by
    rw [hcond0_0, hcond0_1, hcond0_2]; omega
  rcases key with ⟨h0, h1, h2⟩ | ⟨h0, h1, h2⟩ | ⟨h0, h1, h2⟩
  · iapply (run_A c (grid0.coords t) _ _ _ _ _ _ _ _ _ _ _ _ _ _ _ _ _ _ _ _ _ _ _ _ _ _ _ _ _ _ _ _ _ _ _ _ _ _ _ _ _ _ _ _ _ _ _ _ _ _ h0 h1 h2
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, H20, H21, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · iapply (run_B c (grid0.coords t) _ _ _ _ _ _ _ _ _ _ _ _ _ _ _ _ _ _ _ _ _ _ _ _ _ _ _ _ _ _ _ _ _ _ _ _ _ _ _ _ _ _ _ _ _ _ _ _ _ _ h0 h1 h2
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, H20, H21, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · iapply (run_C c (grid0.coords t) _ _ _ _ _ _ _ _ _ _ _ _ _ _ _ _ _ _ _ _ _ _ _ _ _ _ _ _ _ _ _ _ _ _ _ _ _ _ _ _ _ _ _ _ _ _ _ _ _ _ h0 h1 h2
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, H20, H21, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- The body table's row at a point is the body there. -/
theorem body_row (t : Fin cfg0.N) :
    defs₀ (F := F) .tc cfg0.body (cfg0.bodyArgs t (cfg0.slots t)) = bodyAt0 t := by
  unfold defs₀; rw [Defs.onTc_tc]

theorem obligation (c : Dev nD) :
    BodyObligation (pdats (F := F) m 0 c) (defs₀ (F := F)) Variants.none () Set.univ forgotten := fun t => by
  rw [bigSep_W0, bigSep_W0, body_row]
  exact triple_restated (sound_body m c t) rfl .rfl fun _ => .rfl

set_option backward.isDefEq.respectTransparency.types false in
/-- Every execution ends, with every counter at zero and the pipeline's inputs as they were. -/
theorem run_counters : θ_run defs (onTc (τ := τ) (main (F := F))) (s₀ m ρ) (fun r =>
    (Pipeline.RDat.FramePost (cfgs 0) (fun c => (pdats m 0 c).toRForget forgotten) (V m)) r ∧ r.2.sem = fun _ => 0) :=
  Pipeline.θ_run_frame_track_forget (Q' := _) cfgs (pdats m) (0 : Fin 1) launch0 defs₀ Variants.none forgotten m ρ main
    (hbody := fun c => (obligation m c).loose) (hshare := fun c => (pdats m 0 c).share_full fun _ => rfl)
    (howed := fun _ _ => rfl) (V := V m) (hmain := hmain m Variants.none) (hA := pA_eq m)
    (hin := fun _ => Idealize.SL.BI.Entails.refl _) (hout := fun _ => Idealize.SL.BI.Entails.refl _)

/-- The frame's statement from a run that names the inputs' arrays only. -/
theorem frame_of_inputs (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 9 rfl).trans ((hA c 9).trans (V_main_arg5 m c)),
      (Pipeline.RDat.FramePost.arr_in h c 10 rfl).trans ((hA c 10).trans (V_main_arg6 m c)),
      ((h c).2 main_arg7 (Pipeline.mem_restRefs_of main_arg7 (by decide) (by decide))).trans (V_main_arg7 m c),
      (Pipeline.RDat.FramePost.arr_in h c 12 rfl).trans ((hA c 12).trans (V_main_arg8 m c)),
      (Pipeline.RDat.FramePost.arr_in h c 13 rfl).trans ((hA c 13).trans (V_main_arg9 m c)),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-- The frame: every execution ends, leaving the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of_inputs m ρ (fun c => (pdats m 0 c).toRForget forgotten) (pA_eq m)
      ((θ_run defs _ _).mono (fun _ h => h.1) (run_counters m ρ)))
    ((θ_run defs _ _).mono (fun _ h => h.2) (run_counters m ρ))

end Cert.Kernel.Gen

end
-- ==== Proof.Runs.lean ====
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, e0]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_1, k0_cond2, e0]
    word_cmp
   : ∀ t : Fin grid0.N, cond0_1 (grid0.coords t) ↔ t.val % 65 = 0)

/-- The condition of the body's `scf.if` 2 (`k0_h3`), from the grid coordinates (the skeleton's scalar
    chain substituted). -/
abbrev cond0_2 (i : grid0.Coords) : Prop := k0_cond3 i = 1#1
/-- It holds at point 63 only — by arithmetic of the point. -/
theorem hcond0_2 : ∀ t : Fin cfg0.N, cond0_2 (grid0.coords t) ↔ t.val % 65 = 63 :=
  (fun t => by
    have ht : t.val < 65 := Nat.lt_of_lt_of_eq t.isLt N_0
    have e0 : (grid0.coords t 0).val = t.val / 1 % 65 := Pipeline.Grid.coords_val t 0 (by decide) rfl
    simp only [cond0_2, k0_cond3, e0]
    word_cmp
   : ∀ t : Fin grid0.N, cond0_2 (grid0.coords t) ↔ t.val % 65 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x256x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x128x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x128x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x4096 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S4096x1024 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S2x128x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S128x1x1024 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S2x128x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S2x128x128 .f32 := win0_21.stage (cfg0.slots t 21)
abbrev hs0_21 (t : Fin cfg0.N) : (ms0_21 t).IsWhole := hstage0_21 ((cfg0.slots t 21).cast nbuf0_21)
/-- The scratch operands: whole scoped buffers of the kernel's own, passed beside the windows. -/
abbrev scM0_0 : Memref sig .tc .vmem S2x128x128 .f32 := Memref.whole cc0_scratch0
abbrev scM0_1 : Memref sig .tc .vmem S2x128x128 .f32 := Memref.whole cc0_scratch1
abbrev scM0_2 : Memref sig .tc .vmem S2x128x512 .f32 := Memref.whole cc0_scratch2
/-- The scratch `arg23` the kernel carries between points, as a view: what it holds is stated through it. -/
abbrev VS0_0 : View sig .tc .vmem S2x128x128 .f32 := scM0_0.view
/-- The scratch `arg24` the kernel carries between points, as a view: what it holds is stated through it. -/
abbrev VS0_1 : View sig .tc .vmem S2x128x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Step.lean ====
module

public import proofs.«01_k».proof.Proof.Runs
public import proofs.«01_k».proof.Proof.Gen.KernelIdeal.Skeleton
public import Idealize.ShloMosaic.Lib.Pipeline.Value

@[expose] public section

set_option maxRecDepth 16384

/-! What one step of the kernel computes, as functions of the blocks it finds in its buffers. -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The blocks a step finds: the eighteen staged inputs, then the keys, the values and the attention rows the step before left. -/
structure Blk (F : FTy → Type) [FloatOps F] where
  q : Vec F S2x128x512 .f32
  kv : Vec F S2x128x256 .f32
  ta : Vec F S1x1x256 .f32
  tb : Vec F S128x256 .f32
  qw : Vec F S1x512 .f32
  kw : Vec F S1x128 .f32
  sk : Vec F S1x8 .f32
  on : Vec F S256x256 .bf16
  bi : Vec F S2x256x512 .f32
  x : Vec F S2x128x1024 .f32
  yr : Vec F S2x128x512 .f32
  xd : Vec F S128x1024 .f32
  yrd : Vec F S128x512 .f32
  yad : Vec F S128x512 .f32
  wo : Vec F S1024x1024 .bf16
  nw : Vec F S1x1024 .f32
  wu : Vec F S1024x4096 .bf16
  wd : Vec F S4096x1024 .bf16
  kp : Vec F S2x128x128 .f32
  vp : Vec F S2x128x128 .f32
  ya : Vec F S2x128x512 .f32

/-- The rows of `x` (the previous block, or the decode rows twice at the first step). -/
def s0 (i : grid0.Coords) (b : Blk F) := k0_pay10 i (View.ld b.x (Rect.unit ![0, 0, 0] S1x128x1024.size inb_S2x128x1024_S1x128x1024_0_0_0)) (View.ld b.x (Rect.unit ![1, 0, 0] S1x128x1024.size inb_S2x128x1024_S1x128x1024_1_0_0)) (View.ld b.xd (Rect.unit ![0, 0] S128x1024.size inb_S128x1024_S128x1024_0_0))
def s1 (i : grid0.Coords) (b : Blk F) := k0_pay11 i (View.ld b.yr (Rect.unit ![0, 0, 0] S1x128x512.size inb_S2x128x512_S1x128x512_0_0_0)) (View.ld b.yr (Rect.unit ![1, 0, 0] S1x128x512.size inb_S2x128x512_S1x128x512_1_0_0)) (View.ld b.yrd (Rect.unit ![0, 0] S128x512.size inb_S128x512_S128x512_0_0)) (View.ld b.ya (Rect.unit ![0, 0, 0] S1x128x512.size inb_S2x128x512_S1x128x512_0_0_0)) (View.ld b.ya (Rect.unit ![1, 0, 0] S1x128x512.size inb_S2x128x512_S1x128x512_1_0_0)) (View.ld b.yad (Rect.unit ![0, 0] S128x512.size inb_S128x512_S128x512_0_0))
/-- The residual rows after the output projection. -/
def s2 (i : grid0.Coords) (b : Blk F) := k0_pay12 (s0 i b) (s1 i b) (View.ld b.wo (Rect.unit ![0, 0] S1024x1024.size inb_S1024x1024_S1024x1024_0_0))
def s3 (i : grid0.Coords) (b : Blk F) := k0_pay21 (View.ld b.tb (Rect.unit ![0, 0] S128x256.size inb_S128x256_S128x256_0_0)) (View.ld b.ta (Rect.unit ![0, 0, 0] S1x1x256.size inb_S1x1x256_S1x1x256_0_0_0))
def s4 (i : grid0.Coords) (b : Blk F) := k0_pay22 (View.ld b.tb (Rect.unit ![0, 0] S128x256.size inb_S128x256_S128x256_0_0)) (View.ld b.ta (Rect.unit ![0, 0, 0] S1x1x256.size inb_S1x1x256_S1x1x256_0_0_0))
def s5 (i : grid0.Coords) (b : Blk F) := k0_pay23 (View.ld b.tb (Rect.unit ![0, 0] S128x256.size inb_S128x256_S128x256_0_0)) (View.ld b.ta (Rect.unit ![0, 0, 0] S1x1x256.size inb_S1x1x256_S1x1x256_0_0_0))
def s6 (i : grid0.Coords) (b : Blk F) := k0_pay24 (View.ld b.tb (Rect.unit ![0, 0] S128x256.size inb_S128x256_S128x256_0_0)) (View.ld b.ta (Rect.unit ![0, 0, 0] S1x1x256.size inb_S1x1x256_S1x1x256_0_0_0))
def s7 (i : grid0.Coords) (b : Blk F) := k0_pay25 (s4 i b)
def s8 (i : grid0.Coords) (b : Blk F) := k0_pay26 (s5 i b)
/-- The first sequence's queries, normalised, rotated and scaled. -/
def s9 (i : grid0.Coords) (b : Blk F) := k0_pay27 (s4 i b) (s5 i b) (s6 i b) (View.ld b.q (Rect.unit ![0, 0, 0] S1x128x512.size inb_S2x128x512_S1x128x512_0_0_0)) (View.ld b.qw (Rect.unit ![0, 0] S1x512.size inb_S1x512_S1x512_0_0)) (View.ld b.on (Rect.unit ![0, 0] S256x256.size inb_S256x256_S256x256_0_0))
def s10 (i : grid0.Coords) (b : Blk F) := k0_pay28 (View.ld b.q (Rect.unit ![1, 0, 0] S1x128x512.size inb_S2x128x512_S1x128x512_1_0_0))
def s11 (i : grid0.Coords) (b : Blk F) := k0_pay29 (View.ld b.qw (Rect.unit ![0, 0] S1x512.size inb_S1x512_S1x512_0_0))
def s12 (i : grid0.Coords) (b : Blk F) := k0_pay30 (View.ld b.q (Rect.unit ![1, 0, 0] S1x128x512.size inb_S2x128x512_S1x128x512_1_0_0))
/-- The second sequence's queries. -/
def s13 (i : grid0.Coords) (b : Blk F) := k0_pay31 (s6 i b) (s7 i b) (s8 i b) (s10 i b) (s11 i b) (s12 i b) (View.ld b.on (Rect.unit ![0, 0] S256x256.size inb_S256x256_S256x256_0_0))
def s14 (i : grid0.Coords) (b : Blk F) := k0_pay32 (View.ld b.kv (Rect.unit ![0, 0, 0] S1x128x256.size inb_S2x128x256_S1x128x256_0_0_0))
def s15 (i : grid0.Coords) (b : Blk F) := k0_pay33 (View.ld b.kv (Rect.unit ![1, 0, 0] S1x128x256.size inb_S2x128x256_S1x128x256_1_0_0))
def s16 (i : grid0.Coords) (b : Blk F) := k0_pay34 (View.ld b.kv (Rect.unit ![0, 0, 0] S1x128x256.size inb_S2x128x256_S1x128x256_0_0_0))
def s17 (i : grid0.Coords) (b : Blk F) := k0_pay35 (View.ld b.kw (Rect.unit ![0, 0] S1x128.size inb_S1x128_S1x128_0_0))
def s18 (i : grid0.Coords) (b : Blk F) := k0_pay36 (View.ld b.kv (Rect.unit ![0, 0, 0] S1x128x256.size inb_S2x128x256_S1x128x256_0_0_0)) (View.ld b.on (Rect.unit ![0, 0] S128x128.size inb_S256x256_S128x128_0_0))
/-- The first sequence's keys of this block. -/
def s19 (i : grid0.Coords) (b : Blk F) := k0_pay38 (s3 i b) (s4 i b) (s5 i b) (s16 i b) (s17 i b) (s18 i b) k0_pay37
/-- The second sequence's keys of this block. -/
def s20 (i : grid0.Coords) (b : Blk F) := k0_pay39 (s3 i b) (s4 i b) (s5 i b) (s15 i b) (View.ld b.kw (Rect.unit ![0, 0] S1x128.size inb_S1x128_S1x128_0_0)) (View.ld b.on (Rect.unit ![0, 0] S128x128.size inb_S256x256_S128x128_0_0))
def s21 (i : grid0.Coords) (b : Blk F) := k0_pay40 (s14 i b)
def s22 (i : grid0.Coords) (b : Blk F) := k0_pay41 (s15 i b)
def s23 (i : grid0.Coords) (b : Blk F) := k0_pay42 (s3 i b) (s4 i b) (s5 i b) (s16 i b) (s17 i b) (s18 i b) k0_pay37 (View.ld b.kp (Rect.unit ![0, 0, 0] S1x128x128.size inb_S2x128x128_S1x128x128_0_0_0))
def s24 (i : grid0.Coords) (b : Blk F) := k0_pay43 (s3 i b) (s4 i b) (s5 i b) (s15 i b) (View.ld b.kw (Rect.unit ![0, 0] S1x128.size inb_S1x128_S1x128_0_0)) (View.ld b.on (Rect.unit ![0, 0] S128x128.size inb_S256x256_S128x128_0_0)) (View.ld b.kp (Rect.unit ![1, 0, 0] S1x128x128.size inb_S2x128x128_S1x128x128_1_0_0))
def s25 (i : grid0.Coords) (b : Blk F) := k0_pay44 (s21 i b) (View.ld b.vp (Rect.unit ![0, 0, 0] S1x128x128.size inb_S2x128x128_S1x128x128_0_0_0))
def s26 (i : grid0.Coords) (b : Blk F) := k0_pay45 (s22 i b) (View.ld b.vp (Rect.unit ![1, 0, 0] S1x128x128.size inb_S2x128x128_S1x128x128_1_0_0))
/-- The rows normalised for the feed-forward. -/
def s27 (i : grid0.Coords) (b : Blk F) := k0_pay50 (s2 i b) (View.ld b.nw (Rect.unit ![0, 0] S1x1024.size inb_S1x1024_S1x1024_0_0))
def s28 (i : grid0.Coords) (b : Blk F) := k0_pay51 (s27 i b) (View.ld b.wu (Rect.unit ![0, 0] S1024x1024.size inb_S1024x4096_S1024x1024_0_0))
/-- The mask added to the scores. -/
def s29 (i : grid0.Coords) (b : Blk F) := k0_pay52 (View.ld b.bi (Rect.unit (k0_off1 i) S1x256x512.size (k0_off1_inb i)))
def s30 (i : grid0.Coords) (b : Blk F) := k0_pay53 (View.ld b.sk (Rect.unit ![0, 0] S1x8.size inb_S1x8_S1x8_0_0))
def s31 (i : grid0.Coords) (b : Blk F) := k0_pay55 (View.ld b.on (Rect.unit ![0, 0] S1x256.size inb_S256x256_S1x256_0_0))
def s32 (i : grid0.Coords) (b : Blk F) := k0_pay56 (View.ld b.on (Rect.unit ![64, 0] S1x256.size inb_S256x256_S1x256_64_0))
def s33 (i : grid0.Coords) (b : Blk F) := k0_pay57 (View.ld b.on (Rect.unit ![128, 0] S1x256.size inb_S256x256_S1x256_128_0))
def s34 (i : grid0.Coords) (b : Blk F) := k0_pay58 (View.ld b.on (Rect.unit ![192, 0] S1x256.size inb_S256x256_S1x256_192_0))
def s35 (i : grid0.Coords) (b : Blk F) := k0_pay61 (s23 i b)
def s36 (i : grid0.Coords) (b : Blk F) := k0_pay62 (s23 i b)
def s37 (i : grid0.Coords) (b : Blk F) := k0_pay63 (s24 i b)
def s38 (i : grid0.Coords) (b : Blk F) := k0_pay64 (s24 i b)
def s39 (i : grid0.Coords) (b : Blk F) := k0_pay65 (s25 i b)
def s40 (i : grid0.Coords) (b : Blk F) := k0_pay66 (s26 i b)
def s41 (i : grid0.Coords) (b : Blk F) := k0_pay67 (s9 i b)
def s42 (i : grid0.Coords) (b : Blk F) := k0_pay68 (s9 i b)
def s43 (i : grid0.Coords) (b : Blk F) := k0_pay69 (s31 i b) (s32 i b) (s33 i b) (s34 i b) (s41 i b)
def s44 (i : grid0.Coords) (b : Blk F) := k0_pay70 (s31 i b) (s32 i b) (s33 i b) (s34 i b) (s42 i b)
def s45 (i : grid0.Coords) (b : Blk F) := k0_pay71 (s13 i b) (s31 i b) (s32 i b) (s33 i b) (s34 i b)
def s46 (i : grid0.Coords) (b : Blk F) := k0_pay72 (s13 i b) (s31 i b) (s32 i b) (s33 i b) (s34 i b)
def s47 (i : grid0.Coords) (b : Blk F) := k0_pay73 (s30 i b)
def s48 (i : grid0.Coords) (b : Blk F) := k0_pay74 (s30 i b)
def s49 (i : grid0.Coords) (b : Blk F) := k0_pay75 (s30 i b)
def s50 (i : grid0.Coords) (b : Blk F) := k0_pay76 (s30 i b)
def s51 (i : grid0.Coords) (b : Blk F) := k0_pay77 (s30 i b) (s48 i b) (s49 i b) (s50 i b)
def s52 (i : grid0.Coords) (b : Blk F) := k0_pay78 (s30 i b)
def s53 (i : grid0.Coords) (b : Blk F) := k0_pay79 (s30 i b)
def s54 (i : grid0.Coords) (b : Blk F) := k0_pay80 (s2 i b) (s28 i b) (View.ld b.wd (Rect.unit ![0, 0] S1024x1024.size inb_S4096x1024_S1024x1024_0_0))
def s55 (i : grid0.Coords) (b : Blk F) := k0_pay81 (s29 i b) (s35 i b) (s43 i b)
def s56 (i : grid0.Coords) (b : Blk F) := k0_pay82 (s29 i b) (s36 i b) (s44 i b)
def s57 (i : grid0.Coords) (b : Blk F) := k0_pay83 (s29 i b) (s37 i b) (s45 i b)
def s58 (i : grid0.Coords) (b : Blk F) := k0_pay84 (s29 i b) (s38 i b) (s46 i b)
def s59 (i : grid0.Coords) (b : Blk F) := k0_pay85 (View.ld b.wu (Rect.unit ![0, 1024] S1024x1024.size inb_S1024x4096_S1024x1024_0_1024))
def s60 (i : grid0.Coords) (b : Blk F) := k0_pay89 (s53 i b) (s58 i b)
def s61 (i : grid0.Coords) (b : Blk F) := k0_pay90 (s47 i b) (s55 i b)
def s62 (i : grid0.Coords) (b : Blk F) := k0_pay91 (s51 i b) (s56 i b)
def s63 (i : grid0.Coords) (b : Blk F) := k0_pay92 (s52 i b) (s57 i b)
def s64 (i : grid0.Coords) (b : Blk F) := k0_pay93 (s53 i b) (s58 i b)
def s65 (i : grid0.Coords) (b : Blk F) := k0_pay94 (s27 i b) (s54 i b) (s59 i b) (View.ld b.wd (Rect.unit ![1024, 0] S1024x1024.size inb_S4096x1024_S1024x1024_1024_0))
def s66 (i : grid0.Coords) (b : Blk F) := k0_pay95 (s47 i b) (s55 i b)
def s67 (i : grid0.Coords) (b : Blk F) := k0_pay96 (s51 i b) (s56 i b)
def s68 (i : grid0.Coords) (b : Blk F) := k0_pay97 (s52 i b) (s57 i b)
def s69 (i : grid0.Coords) (b : Blk F) := k0_pay98 (s40 i b) (s63 i b) (s68 i b)
def s70 (i : grid0.Coords) (b : Blk F) := k0_pay99 (s40 i b) (s53 i b) (s60 i b) (s64 i b)
def s71 (i : grid0.Coords) (b : Blk F) := k0_pay100 (s27 i b) (View.ld b.wu (Rect.unit ![0, 2048] S1024x1024.size inb_S1024x4096_S1024x1024_0_2048))
/-- The first sequence's attention rows. -/
def s72 (i : grid0.Coords) (b : Blk F) := k0_pay101 (s39 i b) (s61 i b) (s62 i b) (s66 i b) (s67 i b)
def s73 (i : grid0.Coords) (b : Blk F) := k0_pay102 (s40 i b) (s63 i b) (s68 i b)
def s74 (i : grid0.Coords) (b : Blk F) := k0_pay103 (s40 i b) (s63 i b) (s68 i b)
/-- The second sequence's attention rows. -/
def s75 (i : grid0.Coords) (b : Blk F) := k0_pay104 (s69 i b) (s70 i b) (s73 i b) (s74 i b)
/-- The feed-forward's result, all 256 rows. -/
def s76 (i : grid0.Coords) (b : Blk F) := k0_pay105 (s27 i b) (s65 i b) (s71 i b) (View.ld b.wd (Rect.unit ![2048, 0] S1024x1024.size inb_S4096x1024_S1024x1024_2048_0)) (View.ld b.wu (Rect.unit ![0, 3072] S1024x1024.size inb_S1024x4096_S1024x1024_0_3072)) (View.ld b.wd (Rect.unit ![3072, 0] S1024x1024.size inb_S4096x1024_S1024x1024_3072_0))
/-- Its last 128 rows. -/
def s77 (i : grid0.Coords) (b : Blk F) := k0_pay108 (s27 i b) (s65 i b) (s71 i b) (View.ld b.wd (Rect.unit ![2048, 0] S1024x1024.size inb_S4096x1024_S1024x1024_2048_0)) (View.ld b.wu (Rect.unit ![0, 3072] S1024x1024.size inb_S1024x4096_S1024x1024_0_3072)) (View.ld b.wd (Rect.unit ![3072, 0] S1024x1024.size inb_S4096x1024_S1024x1024_3072_0))

/-- The first sequence's rows of the feed-forward's result. -/
def sTop (i : grid0.Coords) (b : Blk F) := k0_pay106 (s27 i b) (s65 i b) (s71 i b) (View.ld b.wd (Rect.unit ![2048, 0] S1024x1024.size inb_S4096x1024_S1024x1024_2048_0)) (View.ld b.wu (Rect.unit ![0, 3072] S1024x1024.size inb_S1024x4096_S1024x1024_0_3072)) (View.ld b.wd (Rect.unit ![3072, 0] S1024x1024.size inb_S4096x1024_S1024x1024_3072_0))
/-- What the step stores into the prompt's output block. -/
def stepO (i : grid0.Coords) (b : Blk F) : Vec F S2x128x1024 .f32 := View.canon [⟨Rect.unit ![1, 0, 0] ![1, 128, 1024] inb_S2x128x1024_S1x128x1024_1_0_0, s77 i b⟩, ⟨Rect.unit ![0, 0, 0] ![1, 128, 1024] inb_S2x128x1024_S1x128x1024_0_0_0, sTop i b⟩]
/-- What the first step stores into the decode output. -/
def stepOd (i : grid0.Coords) (b : Blk F) : Vec F S128x1x1024 .f32 := k0_pay2 (s76 i b)
/-- The key window, as stored at point 63. -/
def stepKw (i : grid0.Coords) (b : Blk F) : Vec F S2x128x128 .f32 := View.canon [⟨Rect.unit ![1, 0, 0] ![1, 128, 128] inb_S2x128x128_S1x128x128_1_0_0, k0_pay5 (s20 i b)⟩, ⟨Rect.unit ![0, 0, 0] ![1, 128, 128] inb_S2x128x128_S1x128x128_0_0_0, k0_pay3 (s19 i b)⟩]
/-- The value window. -/
def stepVw (i : grid0.Coords) (b : Blk F) : Vec F S2x128x128 .f32 := View.canon [⟨Rect.unit ![1, 0, 0] ![1, 128, 128] inb_S2x128x128_S1x128x128_1_0_0, k0_pay6 (s22 i b)⟩, ⟨Rect.unit ![0, 0, 0] ![1, 128, 128] inb_S2x128x128_S1x128x128_0_0_0, k0_pay4 (s21 i b)⟩]
/-- The keys handed to the next step. -/
def stepK (i : grid0.Coords) (b : Blk F) : Vec F S2x128x128 .f32 := View.canon [⟨Rect.unit ![1, 0, 0] ![1, 128, 128] inb_S2x128x128_S1x128x128_1_0_0, k0_pay48 (s20 i b)⟩, ⟨Rect.unit ![0, 0, 0] ![1, 128, 128] inb_S2x128x128_S1x128x128_0_0_0, k0_pay46 (s19 i b)⟩]
/-- The values handed to the next step. -/
def stepV (i : grid0.Coords) (b : Blk F) : Vec F S2x128x128 .f32 := View.canon [⟨Rect.unit ![1, 0, 0] ![1, 128, 128] inb_S2x128x128_S1x128x128_1_0_0, k0_pay49 (s22 i b)⟩, ⟨Rect.unit ![0, 0, 0] ![1, 128, 128] inb_S2x128x128_S1x128x128_0_0_0, k0_pay47 (s21 i b)⟩]
/-- The attention rows handed to the next step. -/
def stepY (i : grid0.Coords) (b : Blk F) : Vec F S2x128x512 .f32 := View.canon [⟨Rect.unit ![1, 0, 0] ![1, 128, 512] inb_S2x128x512_S1x128x512_1_0_0, k0_pay1 (s75 i b)⟩, ⟨Rect.unit ![0, 0, 0] ![1, 128, 512] inb_S2x128x512_S1x128x512_0_0_0, k0_pay107 (s72 i b)⟩]

/-- The two rows' stores fill a block of width 1024. -/
theorem cover_1024 (w1 w0 : Vec F S1x128x1024 .f32) : ∀ y : S2x128x1024.Idx, ∃ p ∈ ([⟨Rect.unit ![1, 0, 0] ![1, 128, 1024] inb_S2x128x1024_S1x128x1024_1_0_0, w1⟩, ⟨Rect.unit ![0, 0, 0] ![1, 128, 1024] inb_S2x128x1024_S1x128x1024_0_0_0, w0⟩] : List (View.Piece (Elt F) S2x128x1024 .f32)), y ∈ p.1.set :=
  View.cover_of_tiledL _ ![1, 128, 1024] (by rfl)

/-- The two rows' stores fill a block of width 128. -/
theorem cover_128 (w1 w0 : Vec F S1x128x128 .f32) : ∀ y : S2x128x128.Idx, ∃ p ∈ ([⟨Rect.unit ![1, 0, 0] ![1, 128, 128] inb_S2x128x128_S1x128x128_1_0_0, w1⟩, ⟨Rect.unit ![0, 0, 0] ![1, 128, 128] inb_S2x128x128_S1x128x128_0_0_0, w0⟩] : List (View.Piece (Elt F) S2x128x128 .f32)), y ∈ p.1.set :=
  View.cover_of_tiledL _ ![1, 128, 128] (by rfl)

/-- The two rows' stores fill a block of width 512. -/
theorem cover_512 (w1 w0 : Vec F S1x128x512 .f32) : ∀ y : S2x128x512.Idx, ∃ p ∈ ([⟨Rect.unit ![1, 0, 0] ![1, 128, 512] inb_S2x128x512_S1x128x512_1_0_0, w1⟩, ⟨Rect.unit ![0, 0, 0] ![1, 128, 512] inb_S2x128x512_S1x128x512_0_0_0, w0⟩] : List (View.Piece (Elt F) S2x128x512 .f32)), y ∈ p.1.set :=
  View.cover_of_tiledL _ ![1, 128, 512] (by rfl)

/-- Two stores that fill a buffer leave the same contents whatever was stored before. -/
theorem read_writes_two {S : Shape} (v : View sig .tc .vmem S .f32) (f : v.ty.Contents (Elt F)) (p q : View.Piece (Elt F) S .f32)
    (L : List (View.Piece (Elt F) S .f32)) (h : ∀ y : S.Idx, ∃ r ∈ [p, q], y ∈ r.1.set) :
    v.read (Elt F) (v.writes (Elt F) f (p :: q :: L)) = View.canon [p, q] :=
  View.read_writes_eq_canon v (v.writes (Elt F) f L) [p, q] h

end Cert.KernelIdeal.Gen

end
-- ==== Proof.IdealDats.lean ====
module

public import proofs.«01_k».proof.Proof.Step
public import Idealize.ShloMosaic.Lib.Claim
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The grid point `n`. -/
def pt (n : ℕ) (h : n < 65 := by decide) : Fin cfg0.N := ⟨n, lt_of_lt_of_eq h N_0.symm⟩

/-- The blocks point `t` finds, given what the step before left in the scratch buffers. -/
def blkAt (c : Dev nD) (t : Fin cfg0.N) (s : Vec F S2x128x128 .f32 × Vec F S2x128x128 .f32 × Vec F S2x128x512 .f32) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, s.1, s.2.1, s.2.2⟩

/-- What the scratch buffers hold when point `n` runs: zeroes at the first point, then what each step leaves. -/
def scr (c : Dev nD) : ℕ → Vec F S2x128x128 .f32 × Vec F S2x128x128 .f32 × Vec F S2x128x512 .f32
  | 0 => (k0_pay7, k0_pay8, k0_pay9)
  | n + 1 => if h : n < cfg0.N then
      (stepK (grid0.coords ⟨n, h⟩) (blkAt m c ⟨n, h⟩ (scr c n)), stepV (grid0.coords ⟨n, h⟩) (blkAt m c ⟨n, h⟩ (scr c n)),
        stepY (grid0.coords ⟨n, h⟩) (blkAt m c ⟨n, h⟩ (scr c n)))
    else scr c n

/-- The blocks point `t` finds. -/
def blkOf (c : Dev nD) (t : Fin cfg0.N) : Blk F := blkAt m c t (scr m c t.val)

theorem scr_succ (c : Dev nD) (t : Fin cfg0.N) : scr m c (t.val + 1)
    = (stepK (grid0.coords t) (blkOf m c t), stepV (grid0.coords t) (blkOf m c t), stepY (grid0.coords t) (blkOf m c t)) := by
  rw [scr, dif_pos t.isLt]; rfl

/-- What holds between points: the scratch buffers at the recursion's contents (at any, before the first point). -/
def Phi (c : Dev nD) : ℕ → sProp 𝕄
  | 0 => Pipeline.ΦA spec0 c
  | n + 1 => iprop(iprop(owns (c : Thread nD τ) scM0_0 fullShare (scr m c (n + 1)).1
      ∗ owns (c : Thread nD τ) scM0_1 fullShare (scr m c (n + 1)).2.1
      ∗ owns (c : Thread nD τ) scM0_2 fullShare (scr m c (n + 1)).2.2) ∗ (∃ r, prngReg c r))

/-- The proof data of the pipeline: each input's buffer holds its block after every point, the row output what the step
    stores, the three outputs stored once what the one point that stores them stores. -/
def pdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => stepO (grid0.coords t) (blkOf m c t)
    | ⟨19, _⟩ => stepOd (grid0.coords (pt 0)) (blkOf m c (pt 0))
    | ⟨20, _⟩ => stepKw (grid0.coords (pt 63)) (blkOf m c (pt 63))
    | ⟨21, _⟩ => stepVw (grid0.coords (pt 63)) (blkOf m c (pt 63))
    | ⟨_ + 22, h⟩ => absurd h (Nat.not_lt.2 (Nat.le_add_left _ _))
  Φ k := Phi m c k.val
  q _ := fullShare
  owed _ := 0

theorem pA_eq (c : Dev nD) (w : Fin cfg0.W) : (pdats m 0 c).A w = V m c (Pipeline.arrRef spec0 w) := by
  dsimp only [pdats]

theorem pafter_0 (c : Dev nD) (t : Fin cfg0.N) : (pdats m 0 c).after 0 t = iblk m c 0 t := by dsimp only [pdats]
theorem pbefore_0 (c : Dev nD) (t : Fin cfg0.N) (d) : (pdats m 0 c).before 0 t d = iblk m c 0 t :=
  before0_0_of m (pdats m 0 c) (pA_eq m c 0) (pafter_0 m c) t d
theorem pleaves_0 (c : Dev nD) (t : Fin cfg0.N) :
    (pdats m 0 c).leavesExact 0 t = owns (c : Thread nD τ) (ms0_0 t) fullShare (iblk m c 0 t) := by
  unfold Dat.leavesExact; rw [liveAt0_0 t, pafter_0]
theorem pafter_1 (c : Dev nD) (t : Fin cfg0.N) : (pdats m 0 c).after 1 t = iblk m c 1 t := by dsimp only [pdats]
theorem pbefore_1 (c : Dev nD) (t : Fin cfg0.N) (d) : (pdats m 0 c).before 1 t d = iblk m c 1 t :=
  before0_1_of m (pdats m 0 c) (pA_eq m c 1) (pafter_1 m c) t d
theorem pleaves_1 (c : Dev nD) (t : Fin cfg0.N) :
    (pdats m 0 c).leavesExact 1 t = owns (c : Thread nD τ) (ms0_1 t) fullShare (iblk m c 1 t) := by
  unfold Dat.leavesExact; rw [liveAt0_1 t, pafter_1]
theorem pafter_2 (c : Dev nD) (t : Fin cfg0.N) : (pdats m 0 c).after 2 t = iblk m c 2 t := by dsimp only [pdats]
theorem pbefore_2 (c : Dev nD) (t : Fin cfg0.N) (d) : (pdats m 0 c).before 2 t d = iblk m c 2 t :=
  before0_2_of m (pdats m 0 c) (pA_eq m c 2) (pafter_2 m c) t d
theorem pleaves_2 (c : Dev nD) (t : Fin cfg0.N) :
    (pdats m 0 c).leavesExact 2 t = owns (c : Thread nD τ) (ms0_2 t) fullShare (iblk m c 2 t) := by
  unfold Dat.leavesExact; rw [liveAt0_2 t, pafter_2]
theorem pafter_3 (c : Dev nD) (t : Fin cfg0.N) : (pdats m 0 c).after 3 t = iblk m c 3 t := by dsimp only [pdats]
theorem pbefore_3 (c : Dev nD) (t : Fin cfg0.N) (d) : (pdats m 0 c).before 3 t d = iblk m c 3 t :=
  before0_3_of m (pdats m 0 c) (pA_eq m c 3) (pafter_3 m c) t d
theorem pleaves_3 (c : Dev nD) (t : Fin cfg0.N) :
    (pdats m 0 c).leavesExact 3 t = owns (c : Thread nD τ) (ms0_3 t) fullShare (iblk m c 3 t) := by
  unfold Dat.leavesExact; rw [liveAt0_3 t, pafter_3]
theorem pafter_4 (c : Dev nD) (t : Fin cfg0.N) : (pdats m 0 c).after 4 t = iblk m c 4 t := by dsimp only [pdats]
theorem pbefore_4 (c : Dev nD) (t : Fin cfg0.N) (d) : (pdats m 0 c).before 4 t d = iblk m c 4 t :=
  before0_4_of m (pdats m 0 c) (pA_eq m c 4) (pafter_4 m c) t d
theorem pleaves_4 (c : Dev nD) (t : Fin cfg0.N) :
    (pdats m 0 c).leavesExact 4 t = owns (c : Thread nD τ) (ms0_4 t) fullShare (iblk m c 4 t) := by
  unfold Dat.leavesExact; rw [liveAt0_4 t, pafter_4]
theorem pafter_5 (c : Dev nD) (t : Fin cfg0.N) : (pdats m 0 c).after 5 t = iblk m c 5 t := by dsimp only [pdats]
theorem pbefore_5 (c : Dev nD) (t : Fin cfg0.N) (d) : (pdats m 0 c).before 5 t d = iblk m c 5 t :=
  before0_5_of m (pdats m 0 c) (pA_eq m c 5) (pafter_5 m c) t d
theorem pleaves_5 (c : Dev nD) (t : Fin cfg0.N) :
    (pdats m 0 c).leavesExact 5 t = owns (c : Thread nD τ) (ms0_5 t) fullShare (iblk m c 5 t) := by
  unfold Dat.leavesExact; rw [liveAt0_5 t, pafter_5]
theorem pafter_6 (c : Dev nD) (t : Fin cfg0.N) : (pdats m 0 c).after 6 t = iblk m c 6 t := by dsimp only [pdats]
theorem pbefore_6 (c : Dev nD) (t : Fin cfg0.N) (d) : (pdats m 0 c).before 6 t d = iblk m c 6 t :=
  before0_6_of m (pdats m 0 c) (pA_eq m c 6) (pafter_6 m c) t d
theorem pleaves_6 (c : Dev nD) (t : Fin cfg0.N) :
    (pdats m 0 c).leavesExact 6 t = owns (c : Thread nD τ) (ms0_6 t) fullShare (iblk m c 6 t) := by
  unfold Dat.leavesExact; rw [liveAt0_6 t, pafter_6]
theorem pafter_7 (c : Dev nD) (t : Fin cfg0.N) : (pdats m 0 c).after 7 t = iblk m c 7 t := by dsimp only [pdats]
theorem pbefore_7 (c : Dev nD) (t : Fin cfg0.N) (d) : (pdats m 0 c).before 7 t d = iblk m c 7 t :=
  before0_7_of m (pdats m 0 c) (pA_eq m c 7) (pafter_7 m c) t d
theorem pleaves_7 (c : Dev nD) (t : Fin cfg0.N) :
    (pdats m 0 c).leavesExact 7 t = owns (c : Thread nD τ) (ms0_7 t) fullShare (iblk m c 7 t) := by
  unfold Dat.leavesExact; rw [liveAt0_7 t, pafter_7]
theorem pafter_8 (c : Dev nD) (t : Fin cfg0.N) : (pdats m 0 c).after 8 t = iblk m c 8 t := by dsimp only [pdats]
theorem pbefore_8 (c : Dev nD) (t : Fin cfg0.N) (d) : (pdats m 0 c).before 8 t d = iblk m c 8 t :=
  before0_8_of m (pdats m 0 c) (pA_eq m c 8) (pafter_8 m c) t d
theorem pleaves_8 (c : Dev nD) (t : Fin cfg0.N) :
    (pdats m 0 c).leavesExact 8 t = owns (c : Thread nD τ) (ms0_8 t) fullShare (iblk m c 8 t) := by
  unfold Dat.leavesExact; rw [liveAt0_8 t, pafter_8]
theorem pafter_9 (c : Dev nD) (t : Fin cfg0.N) : (pdats m 0 c).after 9 t = iblk m c 9 t := by dsimp only [pdats]
theorem pbefore_9 (c : Dev nD) (t : Fin cfg0.N) (d) : (pdats m 0 c).before 9 t d = iblk m c 9 t :=
  before0_9_of m (pdats m 0 c) (pA_eq m c 9) (pafter_9 m c) t d
theorem pleaves_9 (c : Dev nD) (t : Fin cfg0.N) :
    (pdats m 0 c).leavesExact 9 t = owns (c : Thread nD τ) (ms0_9 t) fullShare (iblk m c 9 t) := by
  unfold Dat.leavesExact; rw [liveAt0_9 t, pafter_9]
theorem pafter_10 (c : Dev nD) (t : Fin cfg0.N) : (pdats m 0 c).after 10 t = iblk m c 10 t := by dsimp only [pdats]
theorem pbefore_10 (c : Dev nD) (t : Fin cfg0.N) (d) : (pdats m 0 c).before 10 t d = iblk m c 10 t :=
  before0_10_of m (pdats m 0 c) (pA_eq m c 10) (pafter_10 m c) t d
theorem pleaves_10 (c : Dev nD) (t : Fin cfg0.N) :
    (pdats m 0 c).leavesExact 10 t = owns (c : Thread nD τ) (ms0_10 t) fullShare (iblk m c 10 t) := by
  unfold Dat.leavesExact; rw [liveAt0_10 t, pafter_10]
theorem pafter_11 (c : Dev nD) (t : Fin cfg0.N) : (pdats m 0 c).after 11 t = iblk m c 11 t := by dsimp only [pdats]
theorem pbefore_11 (c : Dev nD) (t : Fin cfg0.N) (d) : (pdats m 0 c).before 11 t d = iblk m c 11 t :=
  before0_11_of m (pdats m 0 c) (pA_eq m c 11) (pafter_11 m c) t d
theorem pleaves_11 (c : Dev nD) (t : Fin cfg0.N) :
    (pdats m 0 c).leavesExact 11 t = owns (c : Thread nD τ) (ms0_11 t) fullShare (iblk m c 11 t) := by
  unfold Dat.leavesExact; rw [liveAt0_11 t, pafter_11]
theorem pafter_12 (c : Dev nD) (t : Fin cfg0.N) : (pdats m 0 c).after 12 t = iblk m c 12 t := by dsimp only [pdats]
theorem pbefore_12 (c : Dev nD) (t : Fin cfg0.N) (d) : (pdats m 0 c).before 12 t d = iblk m c 12 t :=
  before0_12_of m (pdats m 0 c) (pA_eq m c 12) (pafter_12 m c) t d
theorem pleaves_12 (c : Dev nD) (t : Fin cfg0.N) :
    (pdats m 0 c).leavesExact 12 t = owns (c : Thread nD τ) (ms0_12 t) fullShare (iblk m c 12 t) := by
  unfold Dat.leavesExact; rw [liveAt0_12 t, pafter_12]
theorem pafter_13 (c : Dev nD) (t : Fin cfg0.N) : (pdats m 0 c).after 13 t = iblk m c 13 t := by dsimp only [pdats]
theorem pbefore_13 (c : Dev nD) (t : Fin cfg0.N) (d) : (pdats m 0 c).before 13 t d = iblk m c 13 t :=
  before0_13_of m (pdats m 0 c) (pA_eq m c 13) (pafter_13 m c) t d
theorem pleaves_13 (c : Dev nD) (t : Fin cfg0.N) :
    (pdats m 0 c).leavesExact 13 t = owns (c : Thread nD τ) (ms0_13 t) fullShare (iblk m c 13 t) := by
  unfold Dat.leavesExact; rw [liveAt0_13 t, pafter_13]
theorem pafter_14 (c : Dev nD) (t : Fin cfg0.N) : (pdats m 0 c).after 14 t = iblk m c 14 t := by dsimp only [pdats]
theorem pbefore_14 (c : Dev nD) (t : Fin cfg0.N) (d) : (pdats m 0 c).before 14 t d = iblk m c 14 t :=
  before0_14_of m (pdats m 0 c) (pA_eq m c 14) (pafter_14 m c) t d
theorem pleaves_14 (c : Dev nD) (t : Fin cfg0.N) :
    (pdats m 0 c).leavesExact 14 t = owns (c : Thread nD τ) (ms0_14 t) fullShare (iblk m c 14 t) := by
  unfold Dat.leavesExact; rw [liveAt0_14 t, pafter_14]
theorem pafter_15 (c : Dev nD) (t : Fin cfg0.N) : (pdats m 0 c).after 15 t = iblk m c 15 t := by dsimp only [pdats]
theorem pbefore_15 (c : Dev nD) (t : Fin cfg0.N) (d) : (pdats m 0 c).before 15 t d = iblk m c 15 t :=
  before0_15_of m (pdats m 0 c) (pA_eq m c 15) (pafter_15 m c) t d
theorem pleaves_15 (c : Dev nD) (t : Fin cfg0.N) :
    (pdats m 0 c).leavesExact 15 t = owns (c : Thread nD τ) (ms0_15 t) fullShare (iblk m c 15 t) := by
  unfold Dat.leavesExact; rw [liveAt0_15 t, pafter_15]
theorem pafter_16 (c : Dev nD) (t : Fin cfg0.N) : (pdats m 0 c).after 16 t = iblk m c 16 t := by dsimp only [pdats]
theorem pbefore_16 (c : Dev nD) (t : Fin cfg0.N) (d) : (pdats m 0 c).before 16 t d = iblk m c 16 t :=
  before0_16_of m (pdats m 0 c) (pA_eq m c 16) (pafter_16 m c) t d
theorem pleaves_16 (c : Dev nD) (t : Fin cfg0.N) :
    (pdats m 0 c).leavesExact 16 t = owns (c : Thread nD τ) (ms0_16 t) fullShare (iblk m c 16 t) := by
  unfold Dat.leavesExact; rw [liveAt0_16 t, pafter_16]
theorem pafter_17 (c : Dev nD) (t : Fin cfg0.N) : (pdats m 0 c).after 17 t = iblk m c 17 t := by dsimp only [pdats]
theorem pbefore_17 (c : Dev nD) (t : Fin cfg0.N) (d) : (pdats m 0 c).before 17 t d = iblk m c 17 t :=
  before0_17_of m (pdats m 0 c) (pA_eq m c 17) (pafter_17 m c) t d
theorem pleaves_17 (c : Dev nD) (t : Fin cfg0.N) :
    (pdats m 0 c).leavesExact 17 t = owns (c : Thread nD τ) (ms0_17 t) fullShare (iblk m c 17 t) := by
  unfold Dat.leavesExact; rw [liveAt0_17 t, pafter_17]

theorem pafter_18 (c : Dev nD) (t : Fin cfg0.N) : (pdats m 0 c).after 18 t = stepO (grid0.coords t) (blkOf m c t) := by dsimp only [pdats]
theorem pafter_19 (c : Dev nD) (t : Fin cfg0.N) : (pdats m 0 c).after 19 t = stepOd (grid0.coords (pt 0)) (blkOf m c (pt 0)) := by dsimp only [pdats]
theorem pafter_20 (c : Dev nD) (t : Fin cfg0.N) : (pdats m 0 c).after 20 t = stepKw (grid0.coords (pt 63)) (blkOf m c (pt 63)) := by dsimp only [pdats]
theorem pafter_21 (c : Dev nD) (t : Fin cfg0.N) : (pdats m 0 c).after 21 t = stepVw (grid0.coords (pt 63)) (blkOf m c (pt 63)) := by dsimp only [pdats]

theorem live_18 (t : Fin cfg0.N) : cfg0.idle 18 (grid0.coords t) = false := rfl
theorem idle_19 : ∀ t : Fin cfg0.N, cfg0.idle 19 (grid0.coords t) = !decide (t.val = 0) := by decide +kernel
theorem idle_20 : ∀ t : Fin cfg0.N, cfg0.idle 20 (grid0.coords t) = !decide (t.val = 63) := by decide +kernel
theorem idle_21 : ∀ t : Fin cfg0.N, cfg0.idle 21 (grid0.coords t) = !decide (t.val = 63) := by decide +kernel

theorem flushes_19 (t : Fin cfg0.N) : (cfg0.win 19).flush t = decide (t.val = 64) := by
  have hN : t.val < 65 := lt_of_lt_of_eq t.isLt N_0
  rw [Bool.eq_iff_iff, flush0_19, decide_eq_true_iff]; omega
theorem fresh_19 : ∀ n, n ≤ cfg0.N → cfg0.fresh 19 n = decide (n = 0 ∨ n = 65) :=
  cfg0.fresh_tab 19 (fun n => decide (n = 0 ∨ n = 65)) (by decide) (fun t => by
    have hN : t.val < 65 := lt_of_lt_of_eq t.isLt N_0
    rw [flushes_19]
    show _ = (_ || (cfg0.idle 19 (grid0.coords t) && _))
    rw [idle_19, Bool.eq_iff_iff]; simp only [Bool.or_eq_true, Bool.and_eq_true, Bool.not_eq_true', decide_eq_true_iff, decide_eq_false_iff_not]; omega)
theorem pbefore_19 (c : Dev nD) (t : Fin cfg0.N) (d) :
    (pdats m 0 c).before 19 t d = if t.val = 0 then d else stepOd (grid0.coords (pt 0)) (blkOf m c (pt 0)) := by
  have hN : t.val < 65 := lt_of_lt_of_eq t.isLt N_0
  rw [(pdats m 0 c).before_out_traj 19 rfl (fun _ _ => rfl) (fun t _ _ _ => by rw [pafter_19, pafter_19]) t.val t rfl d, fresh_19 t.val t.isLt.le, pafter_19]
  have e : (t.val = 0 ∨ t.val = 65) ↔ t.val = 0 := by omega
  simp only [e, decide_eq_true_iff]
/-- What window 19's buffer is left at: what was found before the point that stores it, what that point stores from then on. -/
theorem pleaves_19 (c : Dev nD) (t : Fin cfg0.N) (X : _) (h : X = stepOd (grid0.coords (pt 0)) (blkOf m c (pt 0))) :
    owns (c : Thread nD τ) (ms0_19 t) fullShare X ⊢ ((pdats m 0 c).leavesExact 19 t : sProp 𝕄) := by
  have hN : t.val < 65 := lt_of_lt_of_eq t.isLt N_0
  unfold Dat.leavesExact
  rw [idle_19 t, flushes_19 t]
  by_cases h0 : t.val = 0
  · have e : X = stepOd (grid0.coords (pt 0)) (blkOf m c (pt 0)) := by exact h
    rw [e, decide_eq_true h0, pafter_19]; exact .rfl
  · rw [decide_eq_false h0]
    by_cases h1 : t.val = 64
    · have e : X = stepOd (grid0.coords (pt 0)) (blkOf m c (pt 0)) := by exact h
      rw [e, decide_eq_true h1, pafter_19]; exact .rfl
    · rw [decide_eq_false h1]
      show _ ⊢ iprop(∃ d, owns (c : Thread nD τ) (ms0_19 t) fullShare ((pdats m 0 c).before 19 t d))
      iintro H
      iexists X
      rw [pbefore_19]
      rw [if_neg h0, ← h]; iexact H
theorem flushes_20 (t : Fin cfg0.N) : (cfg0.win 20).flush t = decide (t.val = 64) := by
  have hN : t.val < 65 := lt_of_lt_of_eq t.isLt N_0
  rw [Bool.eq_iff_iff, flush0_20, decide_eq_true_iff]; omega
theorem fresh_20 : ∀ n, n ≤ cfg0.N → cfg0.fresh 20 n = decide (n < 64 ∨ n = 65) :=
  cfg0.fresh_tab 20 (fun n => decide (n < 64 ∨ n = 65)) (by decide) (fun t => by
    have hN : t.val < 65 := lt_of_lt_of_eq t.isLt N_0
    rw [flushes_20]
    show _ = (_ || (cfg0.idle 20 (grid0.coords t) && _))
    rw [idle_20, Bool.eq_iff_iff]; simp only [Bool.or_eq_true, Bool.and_eq_true, Bool.not_eq_true', decide_eq_true_iff, decide_eq_false_iff_not]; omega)
theorem pbefore_20 (c : Dev nD) (t : Fin cfg0.N) (d) :
    (pdats m 0 c).before 20 t d = if t.val < 64 then d else stepKw (grid0.coords (pt 63)) (blkOf m c (pt 63)) := by
  have hN : t.val < 65 := lt_of_lt_of_eq t.isLt N_0
  rw [(pdats m 0 c).before_out_traj 20 rfl (fun _ _ => rfl) (fun t _ _ _ => by rw [pafter_20, pafter_20]) t.val t rfl d, fresh_20 t.val t.isLt.le, pafter_20]
  have e : (t.val < 64 ∨ t.val = 65) ↔ t.val < 64 := by omega
  simp only [e, decide_eq_true_iff]
/-- What window 20's buffer is left at: what was found before the point that stores it, what that point stores from then on. -/
theorem pleaves_20 (c : Dev nD) (t : Fin cfg0.N) (X : _) (h : t.val < 63 ∨ X = stepKw (grid0.coords (pt 63)) (blkOf m c (pt 63))) :
    owns (c : Thread nD τ) (ms0_20 t) fullShare X ⊢ ((pdats m 0 c).leavesExact 20 t : sProp 𝕄) := by
  have hN : t.val < 65 := lt_of_lt_of_eq t.isLt N_0
  unfold Dat.leavesExact
  rw [idle_20 t, flushes_20 t]
  by_cases h0 : t.val = 63
  · have e : X = stepKw (grid0.coords (pt 63)) (blkOf m c (pt 63)) := by exact h.resolve_left (by omega)
    rw [e, decide_eq_true h0, pafter_20]; exact .rfl
  · rw [decide_eq_false h0]
    by_cases h1 : t.val = 64
    · have e : X = stepKw (grid0.coords (pt 63)) (blkOf m c (pt 63)) := by exact h.resolve_left (by omega)
      rw [e, decide_eq_true h1, pafter_20]; exact .rfl
    · rw [decide_eq_false h1]
      show _ ⊢ iprop(∃ d, owns (c : Thread nD τ) (ms0_20 t) fullShare ((pdats m 0 c).before 20 t d))
      iintro H
      iexists X
      rw [pbefore_20]
      rw [if_pos (by omega)]; iexact H
theorem flushes_21 (t : Fin cfg0.N) : (cfg0.win 21).flush t = decide (t.val = 64) := by
  have hN : t.val < 65 := lt_of_lt_of_eq t.isLt N_0
  rw [Bool.eq_iff_iff, flush0_21, decide_eq_true_iff]; omega
theorem fresh_21 : ∀ n, n ≤ cfg0.N → cfg0.fresh 21 n = decide (n < 64 ∨ n = 65) :=
  cfg0.fresh_tab 21 (fun n => decide (n < 64 ∨ n = 65)) (by decide) (fun t => by
    have hN : t.val < 65 := lt_of_lt_of_eq t.isLt N_0
    rw [flushes_21]
    show _ = (_ || (cfg0.idle 21 (grid0.coords t) && _))
    rw [idle_21, Bool.eq_iff_iff]; simp only [Bool.or_eq_true, Bool.and_eq_true, Bool.not_eq_true', decide_eq_true_iff, decide_eq_false_iff_not]; omega)
theorem pbefore_21 (c : Dev nD) (t : Fin cfg0.N) (d) :
    (pdats m 0 c).before 21 t d = if t.val < 64 then d else stepVw (grid0.coords (pt 63)) (blkOf m c (pt 63)) := by
  have hN : t.val < 65 := lt_of_lt_of_eq t.isLt N_0
  rw [(pdats m 0 c).before_out_traj 21 rfl (fun _ _ => rfl) (fun t _ _ _ => by rw [pafter_21, pafter_21]) t.val t rfl d, fresh_21 t.val t.isLt.le, pafter_21]
  have e : (t.val < 64 ∨ t.val = 65) ↔ t.val < 64 := by omega
  simp only [e, decide_eq_true_iff]
/-- What window 21's buffer is left at: what was found before the point that stores it, what that point stores from then on. -/
theorem pleaves_21 (c : Dev nD) (t : Fin cfg0.N) (X : _) (h : t.val < 63 ∨ X = stepVw (grid0.coords (pt 63)) (blkOf m c (pt 63))) :
    owns (c : Thread nD τ) (ms0_21 t) fullShare X ⊢ ((pdats m 0 c).leavesExact 21 t : sProp 𝕄) := by
  have hN : t.val < 65 := lt_of_lt_of_eq t.isLt N_0
  unfold Dat.leavesExact
  rw [idle_21 t, flushes_21 t]
  by_cases h0 : t.val = 63
  · have e : X = stepVw (grid0.coords (pt 63)) (blkOf m c (pt 63)) := by exact h.resolve_left (by omega)
    rw [e, decide_eq_true h0, pafter_21]; exact .rfl
  · rw [decide_eq_false h0]
    by_cases h1 : t.val = 64
    · have e : X = stepVw (grid0.coords (pt 63)) (blkOf m c (pt 63)) := by exact h.resolve_left (by omega)
      rw [e, decide_eq_true h1, pafter_21]; exact .rfl
    · rw [decide_eq_false h1]
      show _ ⊢ iprop(∃ d, owns (c : Thread nD τ) (ms0_21 t) fullShare ((pdats m 0 c).before 21 t d))
      iintro H
      iexists X
      rw [pbefore_21]
      rw [if_pos (by omega)]; iexact H

theorem pleaves_18 (c : Dev nD) (t : Fin cfg0.N) :
    (pdats m 0 c).leavesExact 18 t = owns (c : Thread nD τ) (ms0_18 t) fullShare (stepO (grid0.coords t) (blkOf m c t)) := by
  unfold Dat.leavesExact; rw [live_18 t, pafter_18]

end Cert.KernelIdeal.Gen

end
-- ==== Proof.RunA.lean ====
module

public import proofs.«01_k».proof.Proof.Step
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at the first point, where the scratch is zeroed first and the decode rows are stored. -/
theorem run_A (c : Dev nD) (i : grid0.Coords)
    (arg1 : Memref sig .tc .vmem S2x128x512 .f32) (harg1 : arg1.IsWhole) (arg2 : Memref sig .tc .vmem S2x128x256 .f32) (harg2 : arg2.IsWhole) (arg3 : Memref sig .tc .vmem S1x1x256 .f32) (harg3 : arg3.IsWhole) (arg4 : Memref sig .tc .vmem S128x256 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x8 .f32) (harg7 : arg7.IsWhole) (arg8 : Memref sig .tc .vmem S256x256 .bf16) (harg8 : arg8.IsWhole) (arg9 : Memref sig .tc .vmem S2x256x512 .f32) (harg9 : arg9.IsWhole) (arg10 : Memref sig .tc .vmem S2x128x1024 .f32) (harg10 : arg10.IsWhole) (arg11 : Memref sig .tc .vmem S2x128x512 .f32) (harg11 : arg11.IsWhole) (arg12 : Memref sig .tc .vmem S128x1024 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S2x128x1024 .f32) (harg19 : arg19.IsWhole) (arg20 : Memref sig .tc .vmem S128x1x1024 .f32) (harg20 : arg20.IsWhole) (arg21 : Memref sig .tc .vmem S2x128x128 .f32) (harg21 : arg21.IsWhole) (arg22 : Memref sig .tc .vmem S2x128x128 .f32) (harg22 : arg22.IsWhole) (arg23 : Memref sig .tc .vmem S2x128x128 .f32) (harg23 : arg23.IsWhole) (arg24 : Memref sig .tc .vmem S2x128x128 .f32) (harg24 : arg24.IsWhole) (arg25 : Memref sig .tc .vmem S2x128x512 .f32) (harg25 : arg25.IsWhole)
    (hc0 : cond0_0 i) (hc1 : cond0_1 i) (hc2 : ¬ cond0_2 i)
    (x0 : Vec F S2x128x512 .f32) (x1 : Vec F S2x128x256 .f32) (x2 : Vec F S1x1x256 .f32) (x3 : Vec F S128x256 .f32) (x4 : Vec F S1x512 .f32) (x5 : Vec F S1x128 .f32) (x6 : Vec F S1x8 .f32) (x7 : Vec F S256x256 .bf16) (x8 : Vec F S2x256x512 .f32) (x9 : Vec F S2x128x1024 .f32) (x10 : Vec F S2x128x512 .f32) (x11 : Vec F S128x1024 .f32) (x12 : Vec F S128x512 .f32) (x13 : Vec F S128x512 .f32) (x14 : Vec F S1024x1024 .bf16) (x15 : Vec F S1x1024 .f32) (x16 : Vec F S1024x4096 .bf16) (x17 : Vec F S4096x1024 .bf16)
    (y20 : Vec F S2x128x128 .f32) (y21 : Vec F S2x128x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗
      owns (c : Thread nD τ) arg16 fullShare x15 ∗ owns (c : Thread nD τ) arg17 fullShare x16 ∗ owns (c : Thread nD τ) arg18 fullShare x17 ∗
      (∃ d, owns (c : Thread nD τ) arg19 fullShare d) ∗ (∃ d, owns (c : Thread nD τ) arg20 fullShare d) ∗ owns (c : Thread nD τ) arg21 fullShare y20 ∗
      owns (c : Thread nD τ) arg22 fullShare y21 ∗ (∃ d, owns (c : Thread nD τ) arg23 fullShare d) ∗ (∃ d, owns (c : Thread nD τ) arg24 fullShare d) ∗
      (∃ d, owns (c : Thread nD τ) arg25 fullShare d) ∗
      (iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗
      owns (c : Thread nD τ) arg16 fullShare x15 ∗ owns (c : Thread nD τ) arg17 fullShare x16 ∗ owns (c : Thread nD τ) arg18 fullShare x17 ∗
      owns (c : Thread nD τ) arg19 fullShare (stepO i ⟨x0, x1, x2, x3, x4, x5, x6, x7, x8, x9, x10, x11, x12, x13, x14, x15, x16, x17, k0_pay7, k0_pay8, k0_pay9⟩) ∗ owns (c : Thread nD τ) arg20 fullShare (stepOd i ⟨x0, x1, x2, x3, x4, x5, x6, x7, x8, x9, x10, x11, x12, x13, x14, x15, x16, x17, k0_pay7, k0_pay8, k0_pay9⟩) ∗ owns (c : Thread nD τ) arg21 fullShare y20 ∗
      owns (c : Thread nD τ) arg22 fullShare y21 ∗ owns (c : Thread nD τ) arg23 fullShare (stepK i ⟨x0, x1, x2, x3, x4, x5, x6, x7, x8, x9, x10, x11, x12, x13, x14, x15, x16, x17, k0_pay7, k0_pay8, k0_pay9⟩) ∗ owns (c : Thread nD τ) arg24 fullShare (stepV i ⟨x0, x1, x2, x3, x4, x5, x6, x7, x8, x9, x10, x11, x12, x13, x14, x15, x16, x17, k0_pay7, k0_pay8, k0_pay9⟩) ∗
      owns (c : Thread nD τ) arg25 fullShare (stepY i ⟨x0, x1, x2, x3, x4, x5, x6, x7, x8, x9, x10, x11, x12, x13, x14, x15, x16, x17, k0_pay7, k0_pay8, k0_pay9⟩)) -∗ K ⟨⟩))
    ⊢ wp frame (wpE (defs₀ (F := F)) Variants.none c none) E
      (cc0_attn_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_attn_ffn_eq_skeleton]; unfold cc0_attn_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%f21, %hf21, H21⟩, ⟨%f22, %hf22, H22⟩, ⟨%d23, %f23, -, H23⟩, ⟨%d24, %f24, -, H24⟩, ⟨%d25, %f25, -, H25⟩, Hk⟩
  subst hf1 hf2 hf3 hf4 hf5 hf6 hf7 hf8 hf9 hf10 hf11 hf12 hf13 hf14 hf15 hf16 hf17 hf18 hf21 hf22
  sl_exec (disch := first | sl_exact hc0 | sl_exact hc1 | sl_exact hc2)
  sl_step
  iapply Hk
  have hk := View.read_writes_full (Val := Elt F) arg23.view arg23.view.junk inb_S2x128x128_S2x128x128_0_0_0 (k0_pay7 (F := F)) []
  have hv := View.read_writes_full (Val := Elt F) arg24.view arg24.view.junk inb_S2x128x128_S2x128x128_0_0_0 (k0_pay8 (F := F)) []
  have hy := View.read_writes_full (Val := Elt F) arg25.view arg25.view.junk inb_S2x128x512_S2x128x512_0_0_0 (k0_pay9 (F := F)) []
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists _; isplitr; swap; · iexact H19
    ipureintro
    rw [← hk, ← hv, ← hy]
    exact (View.read_writes_eq_canon _ _ _ (cover_1024 _ _)).trans rfl
  isplitl [H20]
  · iexists _; isplitr; swap; · iexact H20
    ipureintro
    rw [← hk, ← hv, ← hy]
    exact (View.read_writes_full _ _ _ _ _).trans rfl
  isplitl [H21]
  · iexists _; isplitr; swap; · iexact H21
    ipureintro
    rfl
  isplitl [H22]
  · iexists _; isplitr; swap; · iexact H22
    ipureintro
    rfl
  isplitl [H23]
  · iexists _; isplitr; swap; · iexact H23
    ipureintro
    refine (read_writes_two _ _ _ _ _ (cover_128 _ _)).trans ?_
    rfl
  isplitl [H24]
  · iexists _; isplitr; swap; · iexact H24
    ipureintro
    refine (read_writes_two _ _ _ _ _ (cover_128 _ _)).trans ?_
    rfl
  iexists _; isplitr; swap; · iexact H25
  ipureintro
  rw [← hk, ← hv, ← hy]
  refine (read_writes_two _ _ _ _ _ (cover_512 _ _)).trans ?_
  rfl

end Cert.KernelIdeal.Gen

end
-- ==== Proof.RunB.lean ====
module

public import proofs.«01_k».proof.Proof.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a middle point or the last. -/
theorem run_B (c : Dev nD) (i : grid0.Coords)
    (arg1 : Memref sig .tc .vmem S2x128x512 .f32) (harg1 : arg1.IsWhole) (arg2 : Memref sig .tc .vmem S2x128x256 .f32) (harg2 : arg2.IsWhole) (arg3 : Memref sig .tc .vmem S1x1x256 .f32) (harg3 : arg3.IsWhole) (arg4 : Memref sig .tc .vmem S128x256 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x8 .f32) (harg7 : arg7.IsWhole) (arg8 : Memref sig .tc .vmem S256x256 .bf16) (harg8 : arg8.IsWhole) (arg9 : Memref sig .tc .vmem S2x256x512 .f32) (harg9 : arg9.IsWhole) (arg10 : Memref sig .tc .vmem S2x128x1024 .f32) (harg10 : arg10.IsWhole) (arg11 : Memref sig .tc .vmem S2x128x512 .f32) (harg11 : arg11.IsWhole) (arg12 : Memref sig .tc .vmem S128x1024 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S2x128x1024 .f32) (harg19 : arg19.IsWhole) (arg20 : Memref sig .tc .vmem S128x1x1024 .f32) (harg20 : arg20.IsWhole) (arg21 : Memref sig .tc .vmem S2x128x128 .f32) (harg21 : arg21.IsWhole) (arg22 : Memref sig .tc .vmem S2x128x128 .f32) (harg22 : arg22.IsWhole) (arg23 : Memref sig .tc .vmem S2x128x128 .f32) (harg23 : arg23.IsWhole) (arg24 : Memref sig .tc .vmem S2x128x128 .f32) (harg24 : arg24.IsWhole) (arg25 : Memref sig .tc .vmem S2x128x512 .f32) (harg25 : arg25.IsWhole)
    (hc0 : ¬ cond0_0 i) (hc1 : ¬ cond0_1 i) (hc2 : ¬ cond0_2 i)
    (x0 : Vec F S2x128x512 .f32) (x1 : Vec F S2x128x256 .f32) (x2 : Vec F S1x1x256 .f32) (x3 : Vec F S128x256 .f32) (x4 : Vec F S1x512 .f32) (x5 : Vec F S1x128 .f32) (x6 : Vec F S1x8 .f32) (x7 : Vec F S256x256 .bf16) (x8 : Vec F S2x256x512 .f32) (x9 : Vec F S2x128x1024 .f32) (x10 : Vec F S2x128x512 .f32) (x11 : Vec F S128x1024 .f32) (x12 : Vec F S128x512 .f32) (x13 : Vec F S128x512 .f32) (x14 : Vec F S1024x1024 .bf16) (x15 : Vec F S1x1024 .f32) (x16 : Vec F S1024x4096 .bf16) (x17 : Vec F S4096x1024 .bf16)
    (y19 : Vec F S128x1x1024 .f32) (y20 : Vec F S2x128x128 .f32) (y21 : Vec F S2x128x128 .f32) (y22 : Vec F S2x128x128 .f32) (y23 : Vec F S2x128x128 .f32) (y24 : Vec F S2x128x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗
      owns (c : Thread nD τ) arg16 fullShare x15 ∗ owns (c : Thread nD τ) arg17 fullShare x16 ∗ owns (c : Thread nD τ) arg18 fullShare x17 ∗
      (∃ d, owns (c : Thread nD τ) arg19 fullShare d) ∗ owns (c : Thread nD τ) arg20 fullShare y19 ∗ owns (c : Thread nD τ) arg21 fullShare y20 ∗
      owns (c : Thread nD τ) arg22 fullShare y21 ∗ owns (c : Thread nD τ) arg23 fullShare y22 ∗ owns (c : Thread nD τ) arg24 fullShare y23 ∗
      owns (c : Thread nD τ) arg25 fullShare y24 ∗
      (iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗
      owns (c : Thread nD τ) arg16 fullShare x15 ∗ owns (c : Thread nD τ) arg17 fullShare x16 ∗ owns (c : Thread nD τ) arg18 fullShare x17 ∗
      owns (c : Thread nD τ) arg19 fullShare (stepO i ⟨x0, x1, x2, x3, x4, x5, x6, x7, x8, x9, x10, x11, x12, x13, x14, x15, x16, x17, y22, y23, y24⟩) ∗ owns (c : Thread nD τ) arg20 fullShare y19 ∗ owns (c : Thread nD τ) arg21 fullShare y20 ∗
      owns (c : Thread nD τ) arg22 fullShare y21 ∗ owns (c : Thread nD τ) arg23 fullShare (stepK i ⟨x0, x1, x2, x3, x4, x5, x6, x7, x8, x9, x10, x11, x12, x13, x14, x15, x16, x17, y22, y23, y24⟩) ∗ owns (c : Thread nD τ) arg24 fullShare (stepV i ⟨x0, x1, x2, x3, x4, x5, x6, x7, x8, x9, x10, x11, x12, x13, x14, x15, x16, x17, y22, y23, y24⟩) ∗
      owns (c : Thread nD τ) arg25 fullShare (stepY i ⟨x0, x1, x2, x3, x4, x5, x6, x7, x8, x9, x10, x11, x12, x13, x14, x15, x16, x17, y22, y23, y24⟩)) -∗ K ⟨⟩))
    ⊢ wp frame (wpE (defs₀ (F := F)) Variants.none c none) E
      (cc0_attn_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_attn_ffn_eq_skeleton]; unfold cc0_attn_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
  subst hf1 hf2 hf3 hf4 hf5 hf6 hf7 hf8 hf9 hf10 hf11 hf12 hf13 hf14 hf15 hf16 hf17 hf18 hf20 hf21 hf22 hf23 hf24 hf25
  sl_exec (disch := first | sl_exact hc0 | sl_exact hc1 | sl_exact hc2)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists _; isplitr; swap; · iexact H19
    ipureintro
    exact (View.read_writes_eq_canon _ _ _ (cover_1024 _ _)).trans rfl
  isplitl [H20]
  · iexists _; isplitr; swap; · iexact H20
    ipureintro
    rfl
  isplitl [H21]
  · iexists _; isplitr; swap; · iexact H21
    ipureintro
    rfl
  isplitl [H22]
  · iexists _; isplitr; swap; · iexact H22
    ipureintro
    rfl
  isplitl [H23]
  · iexists _; isplitr; swap; · iexact H23
    ipureintro
    exact (View.read_writes_eq_canon _ _ _ (cover_128 _ _)).trans rfl
  isplitl [H24]
  · iexists _; isplitr; swap; · iexact H24
    ipureintro
    exact (View.read_writes_eq_canon _ _ _ (cover_128 _ _)).trans rfl
  iexists _; isplitr; swap; · iexact H25
  ipureintro
  exact (View.read_writes_eq_canon _ _ _ (cover_512 _ _)).trans rfl

end Cert.KernelIdeal.Gen

end
-- ==== Proof.RunC.lean ====
module

public import proofs.«01_k».proof.Proof.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at point 63, where the window results are stored. -/
theorem run_C (c : Dev nD) (i : grid0.Coords)
    (arg1 : Memref sig .tc .vmem S2x128x512 .f32) (harg1 : arg1.IsWhole) (arg2 : Memref sig .tc .vmem S2x128x256 .f32) (harg2 : arg2.IsWhole) (arg3 : Memref sig .tc .vmem S1x1x256 .f32) (harg3 : arg3.IsWhole) (arg4 : Memref sig .tc .vmem S128x256 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x8 .f32) (harg7 : arg7.IsWhole) (arg8 : Memref sig .tc .vmem S256x256 .bf16) (harg8 : arg8.IsWhole) (arg9 : Memref sig .tc .vmem S2x256x512 .f32) (harg9 : arg9.IsWhole) (arg10 : Memref sig .tc .vmem S2x128x1024 .f32) (harg10 : arg10.IsWhole) (arg11 : Memref sig .tc .vmem S2x128x512 .f32) (harg11 : arg11.IsWhole) (arg12 : Memref sig .tc .vmem S128x1024 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x4096 .bf16) (harg17 : arg17.IsWhole) (arg18 : Memref sig .tc .vmem S4096x1024 .bf16) (harg18 : arg18.IsWhole) (arg19 : Memref sig .tc .vmem S2x128x1024 .f32) (harg19 : arg19.IsWhole) (arg20 : Memref sig .tc .vmem S128x1x1024 .f32) (harg20 : arg20.IsWhole) (arg21 : Memref sig .tc .vmem S2x128x128 .f32) (harg21 : arg21.IsWhole) (arg22 : Memref sig .tc .vmem S2x128x128 .f32) (harg22 : arg22.IsWhole) (arg23 : Memref sig .tc .vmem S2x128x128 .f32) (harg23 : arg23.IsWhole) (arg24 : Memref sig .tc .vmem S2x128x128 .f32) (harg24 : arg24.IsWhole) (arg25 : Memref sig .tc .vmem S2x128x512 .f32) (harg25 : arg25.IsWhole)
    (hc0 : ¬ cond0_0 i) (hc1 : ¬ cond0_1 i) (hc2 : cond0_2 i)
    (x0 : Vec F S2x128x512 .f32) (x1 : Vec F S2x128x256 .f32) (x2 : Vec F S1x1x256 .f32) (x3 : Vec F S128x256 .f32) (x4 : Vec F S1x512 .f32) (x5 : Vec F S1x128 .f32) (x6 : Vec F S1x8 .f32) (x7 : Vec F S256x256 .bf16) (x8 : Vec F S2x256x512 .f32) (x9 : Vec F S2x128x1024 .f32) (x10 : Vec F S2x128x512 .f32) (x11 : Vec F S128x1024 .f32) (x12 : Vec F S128x512 .f32) (x13 : Vec F S128x512 .f32) (x14 : Vec F S1024x1024 .bf16) (x15 : Vec F S1x1024 .f32) (x16 : Vec F S1024x4096 .bf16) (x17 : Vec F S4096x1024 .bf16)
    (y19 : Vec F S128x1x1024 .f32) (y22 : Vec F S2x128x128 .f32) (y23 : Vec F S2x128x128 .f32) (y24 : Vec F S2x128x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗
      owns (c : Thread nD τ) arg16 fullShare x15 ∗ owns (c : Thread nD τ) arg17 fullShare x16 ∗ owns (c : Thread nD τ) arg18 fullShare x17 ∗
      (∃ d, owns (c : Thread nD τ) arg19 fullShare d) ∗ owns (c : Thread nD τ) arg20 fullShare y19 ∗ (∃ d, owns (c : Thread nD τ) arg21 fullShare d) ∗
      (∃ d, owns (c : Thread nD τ) arg22 fullShare d) ∗ owns (c : Thread nD τ) arg23 fullShare y22 ∗ owns (c : Thread nD τ) arg24 fullShare y23 ∗
      owns (c : Thread nD τ) arg25 fullShare y24 ∗
      (iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗
      owns (c : Thread nD τ) arg16 fullShare x15 ∗ owns (c : Thread nD τ) arg17 fullShare x16 ∗ owns (c : Thread nD τ) arg18 fullShare x17 ∗
      owns (c : Thread nD τ) arg19 fullShare (stepO i ⟨x0, x1, x2, x3, x4, x5, x6, x7, x8, x9, x10, x11, x12, x13, x14, x15, x16, x17, y22, y23, y24⟩) ∗ owns (c : Thread nD τ) arg20 fullShare y19 ∗ owns (c : Thread nD τ) arg21 fullShare (stepKw i ⟨x0, x1, x2, x3, x4, x5, x6, x7, x8, x9, x10, x11, x12, x13, x14, x15, x16, x17, y22, y23, y24⟩) ∗
      owns (c : Thread nD τ) arg22 fullShare (stepVw i ⟨x0, x1, x2, x3, x4, x5, x6, x7, x8, x9, x10, x11, x12, x13, x14, x15, x16, x17, y22, y23, y24⟩) ∗ owns (c : Thread nD τ) arg23 fullShare (stepK i ⟨x0, x1, x2, x3, x4, x5, x6, x7, x8, x9, x10, x11, x12, x13, x14, x15, x16, x17, y22, y23, y24⟩) ∗ owns (c : Thread nD τ) arg24 fullShare (stepV i ⟨x0, x1, x2, x3, x4, x5, x6, x7, x8, x9, x10, x11, x12, x13, x14, x15, x16, x17, y22, y23, y24⟩) ∗
      owns (c : Thread nD τ) arg25 fullShare (stepY i ⟨x0, x1, x2, x3, x4, x5, x6, x7, x8, x9, x10, x11, x12, x13, x14, x15, x16, x17, y22, y23, y24⟩)) -∗ K ⟨⟩))
    ⊢ wp frame (wpE (defs₀ (F := F)) Variants.none c none) E
      (cc0_attn_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_attn_ffn_eq_skeleton]; unfold cc0_attn_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%d21, %f21, -, H21⟩, ⟨%d22, %f22, -, H22⟩, ⟨%f23, %hf23, H23⟩, ⟨%f24, %hf24, H24⟩, ⟨%f25, %hf25, H25⟩, Hk⟩
  subst hf1 hf2 hf3 hf4 hf5 hf6 hf7 hf8 hf9 hf10 hf11 hf12 hf13 hf14 hf15 hf16 hf17 hf18 hf20 hf23 hf24 hf25
  sl_exec (disch := first | sl_exact hc0 | sl_exact hc1 | sl_exact hc2)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists _; isplitr; swap; · iexact H19
    ipureintro
    exact (View.read_writes_eq_canon _ _ _ (cover_1024 _ _)).trans rfl
  isplitl [H20]
  · iexists _; isplitr; swap; · iexact H20
    ipureintro
    rfl
  isplitl [H21]
  · iexists _; isplitr; swap; · iexact H21
    ipureintro
    exact (View.read_writes_eq_canon _ _ _ (cover_128 _ _)).trans rfl
  isplitl [H22]
  · iexists _; isplitr; swap; · iexact H22
    ipureintro
    exact (View.read_writes_eq_canon _ _ _ (cover_128 _ _)).trans rfl
  isplitl [H23]
  · iexists _; isplitr; swap; · iexact H23
    ipureintro
    exact (View.read_writes_eq_canon _ _ _ (cover_128 _ _)).trans rfl
  isplitl [H24]
  · iexists _; isplitr; swap; · iexact H24
    ipureintro
    exact (View.read_writes_eq_canon _ _ _ (cover_128 _ _)).trans rfl
  iexists _; isplitr; swap; · iexact H25
  ipureintro
  exact (View.read_writes_eq_canon _ _ _ (cover_512 _ _)).trans rfl

end Cert.KernelIdeal.Gen

end
-- ==== Proof.IdealFrame.lean ====
module

public import proofs.«01_k».proof.Proof.IdealDats
public import proofs.«01_k».proof.Proof.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem Phi_pos (c : Dev nD) (n : ℕ) (h : n ≠ 0) : Phi m c n
    = iprop(iprop(owns (c : Thread nD τ) scM0_0 fullShare (scr m c n).1 ∗ owns (c : Thread nD τ) scM0_1 fullShare (scr m c n).2.1
      ∗ owns (c : Thread nD τ) scM0_2 fullShare (scr m c n).2.2) ∗ (∃ r, prngReg c r)) := by
  obtain ⟨k, rfl⟩ := Nat.exists_eq_succ_of_ne_zero h
  rfl
theorem Phi_next (c : Dev nD) (t : Fin cfg0.N) : Phi m c (t.val + 1)
    = iprop(iprop(owns (c : Thread nD τ) scM0_0 fullShare (stepK (grid0.coords t) (blkOf m c t))
      ∗ owns (c : Thread nD τ) scM0_1 fullShare (stepV (grid0.coords t) (blkOf m c t))
      ∗ owns (c : Thread nD τ) scM0_2 fullShare (stepY (grid0.coords t) (blkOf m c t))) ∗ (∃ r, prngReg c r)) := by
  rw [Phi_pos m c _ (Nat.succ_ne_zero _), scr_succ]

/-- What the body takes at a point. -/
def bodyPre (c : Dev nD) (t : Fin cfg0.N) : sProp 𝕄 :=
  iprop((pdats m 0 c).Φ t.castSucc ∗ (pdats m 0 c).owesAt () t.castSucc
    ∗ (∃ d, owns (c : Thread nD τ) (ms0_0 t) fullShare ((pdats m 0 c).before 0 t d))
    ∗ (∃ d, owns (c : Thread nD τ) (ms0_1 t) fullShare ((pdats m 0 c).before 1 t d))
    ∗ (∃ d, owns (c : Thread nD τ) (ms0_2 t) fullShare ((pdats m 0 c).before 2 t d))
    ∗ (∃ d, owns (c : Thread nD τ) (ms0_3 t) fullShare ((pdats m 0 c).before 3 t d))
    ∗ (∃ d, owns (c : Thread nD τ) (ms0_4 t) fullShare ((pdats m 0 c).before 4 t d))
    ∗ (∃ d, owns (c : Thread nD τ) (ms0_5 t) fullShare ((pdats m 0 c).before 5 t d))
    ∗ (∃ d, owns (c : Thread nD τ) (ms0_6 t) fullShare ((pdats m 0 c).before 6 t d))
    ∗ (∃ d, owns (c : Thread nD τ) (ms0_7 t) fullShare ((pdats m 0 c).before 7 t d))
    ∗ (∃ d, owns (c : Thread nD τ) (ms0_8 t) fullShare ((pdats m 0 c).before 8 t d))
    ∗ (∃ d, owns (c : Thread nD τ) (ms0_9 t) fullShare ((pdats m 0 c).before 9 t d))
    ∗ (∃ d, owns (c : Thread nD τ) (ms0_10 t) fullShare ((pdats m 0 c).before 10 t d))
    ∗ (∃ d, owns (c : Thread nD τ) (ms0_11 t) fullShare ((pdats m 0 c).before 11 t d))
    ∗ (∃ d, owns (c : Thread nD τ) (ms0_12 t) fullShare ((pdats m 0 c).before 12 t d))
    ∗ (∃ d, owns (c : Thread nD τ) (ms0_13 t) fullShare ((pdats m 0 c).before 13 t d))
    ∗ (∃ d, owns (c : Thread nD τ) (ms0_14 t) fullShare ((pdats m 0 c).before 14 t d))
    ∗ (∃ d, owns (c : Thread nD τ) (ms0_15 t) fullShare ((pdats m 0 c).before 15 t d))
    ∗ (∃ d, owns (c : Thread nD τ) (ms0_16 t) fullShare ((pdats m 0 c).before 16 t d))
    ∗ (∃ d, owns (c : Thread nD τ) (ms0_17 t) fullShare ((pdats m 0 c).before 17 t d))
    ∗ (∃ d, owns (c : Thread nD τ) (ms0_18 t) fullShare ((pdats m 0 c).before 18 t d))
    ∗ (∃ d, owns (c : Thread nD τ) (ms0_19 t) fullShare ((pdats m 0 c).before 19 t d))
    ∗ (∃ d, owns (c : Thread nD τ) (ms0_20 t) fullShare ((pdats m 0 c).before 20 t d))
    ∗ (∃ d, owns (c : Thread nD τ) (ms0_21 t) fullShare ((pdats m 0 c).before 21 t d)))

/-- What the body gives back. -/
def bodyPost (c : Dev nD) (t : Fin cfg0.N) : sProp 𝕄 :=
  iprop((pdats m 0 c).Φ t.succ ∗ (pdats m 0 c).owesAt () t.succ
    ∗ (pdats m 0 c).leavesExact 0 t
    ∗ (pdats m 0 c).leavesExact 1 t
    ∗ (pdats m 0 c).leavesExact 2 t
    ∗ (pdats m 0 c).leavesExact 3 t
    ∗ (pdats m 0 c).leavesExact 4 t
    ∗ (pdats m 0 c).leavesExact 5 t
    ∗ (pdats m 0 c).leavesExact 6 t
    ∗ (pdats m 0 c).leavesExact 7 t
    ∗ (pdats m 0 c).leavesExact 8 t
    ∗ (pdats m 0 c).leavesExact 9 t
    ∗ (pdats m 0 c).leavesExact 10 t
    ∗ (pdats m 0 c).leavesExact 11 t
    ∗ (pdats m 0 c).leavesExact 12 t
    ∗ (pdats m 0 c).leavesExact 13 t
    ∗ (pdats m 0 c).leavesExact 14 t
    ∗ (pdats m 0 c).leavesExact 15 t
    ∗ (pdats m 0 c).leavesExact 16 t
    ∗ (pdats m 0 c).leavesExact 17 t
    ∗ (pdats m 0 c).leavesExact 18 t
    ∗ (pdats m 0 c).leavesExact 19 t
    ∗ (pdats m 0 c).leavesExact 20 t
    ∗ (pdats m 0 c).leavesExact 21 t)

/-- The body at any point, whichever case it is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [pbefore_0, pleaves_0, pbefore_1, pleaves_1, pbefore_2, pleaves_2, pbefore_3, pleaves_3, pbefore_4, pleaves_4, pbefore_5, pleaves_5, pbefore_6, pleaves_6, pbefore_7, pleaves_7, pbefore_8, pleaves_8, pbefore_9, pleaves_9, pbefore_10, pleaves_10, pbefore_11, pleaves_11, pbefore_12, pleaves_12, pbefore_13, pleaves_13, pbefore_14, pleaves_14, pbefore_15, pleaves_15, pbefore_16, pleaves_16, pbefore_17, pleaves_17, pleaves_18]
  rw [show (pdats m 0 c).owesAt () t.succ = (pdats m 0 c).owesAt () t.castSucc from rfl,
    show (pdats m 0 c).Φ t.succ = Phi m c (t.val + 1) from rfl,
    show (pdats m 0 c).Φ t.castSucc = Phi m c t.val from rfl, Phi_next]
  have hN : t.val < 65 := lt_of_lt_of_eq t.isLt (show cfg0.N = 65 from N_0)
  have key : t.val = 0 ∧ cond0_0 (grid0.coords t) ∧ cond0_1 (grid0.coords t) ∧ ¬ cond0_2 (grid0.coords t)
      ∨ (t.val ≠ 0 ∧ t.val ≠ 63) ∧ ¬ cond0_0 (grid0.coords t) ∧ ¬ cond0_1 (grid0.coords t) ∧ ¬ cond0_2 (grid0.coords t)
      ∨ t.val = 63 ∧ ¬ cond0_0 (grid0.coords t) ∧ ¬ cond0_1 (grid0.coords t) ∧ cond0_2 (grid0.coords t) := by
    rw [hcond0_0, hcond0_1, hcond0_2]; omega
  rcases key with ⟨ht, h0, h1, h2⟩ | ⟨ht, h0, h1, h2⟩ | ⟨ht, h0, h1, h2⟩
  · have hz : 0 < 65 := by decide
    obtain rfl : t = (pt 0 hz) := Fin.ext ht
    rw [show (Phi m c (pt 0 hz).val : sProp 𝕄) = Pipeline.ΦA spec0 c from rfl, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (run_A c (grid0.coords (pt 0 hz)) _ _ _ _ _ _ _ _ _ _ _ _ _ _ _ _ _ _ _ _ _ _ _ _ _ _ _ _ _ _ _ _ _ _ _ _ _ _ _ _ _ _ _ _ _ _ _ _ _ _ h0 h1 h2
      (iblk m c 0 (pt 0 hz)) (iblk m c 1 (pt 0 hz)) (iblk m c 2 (pt 0 hz)) (iblk m c 3 (pt 0 hz)) (iblk m c 4 (pt 0 hz)) (iblk m c 5 (pt 0 hz)) (iblk m c 6 (pt 0 hz)) (iblk m c 7 (pt 0 hz)) (iblk m c 8 (pt 0 hz)) (iblk m c 9 (pt 0 hz)) (iblk m c 10 (pt 0 hz)) (iblk m c 11 (pt 0 hz)) (iblk m c 12 (pt 0 hz)) (iblk m c 13 (pt 0 hz)) (iblk m c 14 (pt 0 hz)) (iblk m c 15 (pt 0 hz)) (iblk m c 16 (pt 0 hz)) (iblk m c 17 (pt 0 hz)) ((pdats m 0 c).before 20 (pt 0 hz) d20) ((pdats m 0 c).before 21 (pt 0 hz) d21) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexact H20
    isplitl [H21]; · iexact H21
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, H20, H21, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]
    · iapply (pleaves_19 m c (pt 0 hz) (stepOd (grid0.coords (pt 0 hz)) (blkOf m c (pt 0 hz))) rfl); iexact H19
    isplitl [H20]
    · iapply (pleaves_20 m c (pt 0 hz) ((pdats m 0 c).before 20 (pt 0 hz) d20) (Or.inl (by show 0 < 63; decide))); iexact H20
    iapply (pleaves_21 m c (pt 0 hz) ((pdats m 0 c).before 21 (pt 0 hz) d21) (Or.inl (by show 0 < 63; decide))); iexact H21
  · rw [Phi_pos m c t.val ht.1]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (run_B c (grid0.coords t) _ _ _ _ _ _ _ _ _ _ _ _ _ _ _ _ _ _ _ _ _ _ _ _ _ _ _ _ _ _ _ _ _ _ _ _ _ _ _ _ _ _ _ _ _ _ _ _ _ _ h0 h1 h2
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ((pdats m 0 c).before 19 t d19) ((pdats m 0 c).before 20 t d20) ((pdats m 0 c).before 21 t d21) (scr m c t.val).1 (scr m c t.val).2.1 (scr m c t.val).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexact H19
    isplitl [H20]; · iexact H20
    isplitl [H21]; · iexact H21
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, H20, H21, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]
    · iapply (pleaves_19 m c t ((pdats m 0 c).before 19 t d19) (by rw [pbefore_19, if_neg ht.1])); iexact H19
    isplitl [H20]
    · iapply (pleaves_20 m c t ((pdats m 0 c).before 20 t d20) ((lt_or_ge t.val 63).imp id fun h => by rw [pbefore_20, if_neg (by omega)])); iexact H20
    iapply (pleaves_21 m c t ((pdats m 0 c).before 21 t d21) ((lt_or_ge t.val 63).imp id fun h => by rw [pbefore_21, if_neg (by omega)])); iexact H21
  · have ht0 : t.val ≠ 0 := by omega
    have et : t = pt 63 := Fin.ext ht
    rw [Phi_pos m c t.val ht0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (run_C c (grid0.coords t) _ _ _ _ _ _ _ _ _ _ _ _ _ _ _ _ _ _ _ _ _ _ _ _ _ _ _ _ _ _ _ _ _ _ _ _ _ _ _ _ _ _ _ _ _ _ _ _ _ _ h0 h1 h2
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ((pdats m 0 c).before 19 t d19) (scr m c t.val).1 (scr m c t.val).2.1 (scr m c t.val).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexact H19
    isplitl [H20]; · iexists _; iexact H20
    isplitl [H21]; · iexists _; iexact H21
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, H20, H21, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]
    · iapply (pleaves_19 m c t ((pdats m 0 c).before 19 t d19) (by rw [pbefore_19, if_neg ht0])); iexact H19
    isplitl [H20]
    · iapply (pleaves_20 m c t (stepKw (grid0.coords t) (blkOf m c t)) (Or.inr (by rw [et]))); iexact H20
    iapply (pleaves_21 m c t (stepVw (grid0.coords t) (blkOf m c t)) (Or.inr (by rw [et]))); iexact H21

/-- The body table's row at a point is the body there. -/
theorem body_row (t : Fin cfg0.N) :
    defs₀ (F := F) .tc cfg0.body (cfg0.bodyArgs t (cfg0.slots t)) = bodyAt0 t := by
  unfold defs₀; rw [Defs.onTc_tc]

theorem obligation (c : Dev nD) :
    BodyObligation (pdats (F := F) m 0 c) (defs₀ (F := F)) Variants.none () Set.univ := fun t => by
  rw [body_row]
  refine triple_restated (sound_body m c t) rfl ?_ fun _ => ?_
  · rw [bigSep_W0]
    exact .rfl
  · unfold bodyPost
    rw [← bigSep_W0 (fun w => (pdats m 0 c).leavesExact w t)]

theorem Phi_end (c : Dev nD) (n : ℕ) : Phi m c n ⊢ (Pipeline.ΦA spec0 c : sProp 𝕄) := by
  cases n with
  | zero => exact .rfl
  | succ n =>
    rw [PhiA0_eq]
    show iprop(iprop(owns (c : Thread nD τ) scM0_0 fullShare (scr m c (n + 1)).1
      ∗ owns (c : Thread nD τ) scM0_1 fullShare (scr m c (n + 1)).2.1
      ∗ owns (c : Thread nD τ) scM0_2 fullShare (scr m c (n + 1)).2.2) ∗ (∃ r, prngReg c r)) ⊢ _
    iintro ⟨⟨HS0, HS1, HS2⟩, Hg⟩
    isplitl [HS0 HS1 HS2]
    · isplitl [HS0]; · iexists _; iexact HS0
      isplitl [HS1]; · iexists _; iexact HS1
      iexists _; iexact HS2
    iexact Hg

theorem Phi_last (c : Dev nD) : (pdats m 0 c).Φ (Fin.last (cfgs 0).N) ⊢ (Pipeline.ΦA (cfgs 0).spec c : sProp 𝕄) := by
  show Phi m c (Fin.last cfg0.N).val ⊢ Pipeline.ΦA spec0 c
  exact Phi_end m c _

set_option backward.isDefEq.respectTransparency.types false in
/-- Every execution ends, with every counter at zero and every array at what the steps stored into it. -/
theorem run_counters : θ_run defs (onTc (τ := τ) (main (F := F))) (s₀ m ρ) (fun r =>
    (Pipeline.FramePost cfgs (pdats m) 0 (V m)) r ∧ r.2.sem = fun _ => 0) :=
  Pipeline.θ_run_frame_track (Q' := _) cfgs (pdats m) (0 : Fin 1) launch0 defs₀ Variants.none m ρ main
    (hbody := fun c => (obligation m c).loose) (hshare := fun c => (pdats m 0 c).share_full fun _ => rfl)
    (howed := fun _ _ => rfl) (V := V m) (hmain := hmain m Variants.none) (hA := pA_eq m)
    (hin := fun _ => Idealize.SL.BI.Entails.refl _) (hout := Phi_last m)

/-- The frame: every execution ends, leaving the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (pdats m) (pA_eq m) ((θ_run defs _ _).mono (fun _ h => h.1) (run_counters m ρ)))
    ((θ_run defs _ _).mono (fun _ h => h.2) (run_counters m ρ))

end Cert.KernelIdeal.Gen

end
-- ==== Proof.FfnRow.lean ====
module

public import proofs.«01_k».proof.Proof.Step
public import Idealize.ShloMosaic.Lib.Pointwise
public import Idealize.ShloMosaic.Lib.ValueIdx

@[expose] public section

set_option maxRecDepth 16384

noncomputable section

/-! The second half of the layer on one row: the output projection added to the residual, the feed-forward norm, and the squared-relu feed-forward. -/

namespace Cert.KernelIdeal.Row

open Idealize.ShloMosaic Cert.KernelIdeal Cert.KernelIdeal.Gen

/-- A vector of extended reals. -/
abbrev EV (n : ℕ) := Fin n → EReal

/-- The residual row plus the mixed row through the output projection. -/
def res (x mix : EV 1024) (wo : Fin 1024 → EV 1024) : EV 1024 := fun n => x n + ∑ k, mix k * wo k n

/-- The norm of a row of 1024 channels with its weight. -/
def nrm (r w : EV 1024) : EV 1024 := fun k =>
  r k * Ideal.rsqrt (Ideal.div (∑ j, r j * r j) (Ideal.ofBits .f32 0x44800000#32) + Ideal.ofBits .f32 0x358637BD#32) * w k

/-- The square of the positive part. -/
def sqrelu (u : EReal) : EReal := max u 0 * max u 0

/-- One hidden channel of the feed-forward. -/
def hid {m : ℕ} (h : EV 1024) (wu : Fin 1024 → EV m) (f : Fin m) : EReal := sqrelu (∑ k, h k * wu k f)

/-- The row after the feed-forward. -/
def tail (r nw : EV 1024) (wu : Fin 1024 → EV 4096) (wd : Fin 4096 → EV 1024) : EV 1024 := fun n =>
  r n + ∑ f, hid (nrm r nw) wu f * wd f n

theorem pay12_at (v11 : FVec Ideal S256x1024 .f32) (v30 : FVec Ideal S256x1024 .bf16) (v31 : Vec Ideal S1024x1024 .bf16) (p : Fin 256) (n : Fin 1024) :
    k0_pay12 (F := Ideal) v11 v30 v31 (ix2 p n) = v11 (ix2 p n) + ∑ k : Fin 1024, v30 (ix2 p k) * v31 (ix2 k n) := by
  pointwise [k0_pay12, dot_S256x1024_S1024x1024_S256x1024_1_0_0_1_n_n]

theorem pay50_at (v34 : FVec Ideal S256x1024 .f32) (nw : Vec Ideal S1x1024 .f32) (p : Fin 256) (n : Fin 1024) :
    k0_pay50 (F := Ideal) v34 nw (ix2 p n) = nrm (fun k => v34 (ix2 p k)) (fun k => nw (ix2 0 k)) n := by
  unfold nrm
  pointwise [k0_pay50]

theorem pay51_at (v : FVec Ideal S256x1024 .bf16) (w : Vec Ideal S1024x1024 .bf16) (p : Fin 256) (n : Fin 1024) :
    k0_pay51 (F := Ideal) v w (ix2 p n) = ∑ k : Fin 1024, v (ix2 p k) * w (ix2 k n) := by
  pointwise [k0_pay51, dot_S256x1024_S1024x1024_S256x1024_1_0_0_1_n_n]

theorem pay100_at (v : FVec Ideal S256x1024 .bf16) (w : Vec Ideal S1024x1024 .bf16) (p : Fin 256) (n : Fin 1024) :
    k0_pay100 (F := Ideal) v w (ix2 p n) = ∑ k : Fin 1024, v (ix2 p k) * w (ix2 k n) := by
  pointwise [k0_pay100, dot_S256x1024_S1024x1024_S256x1024_1_0_0_1_n_n]

theorem pay80_at (v34 : FVec Ideal S256x1024 .f32) (u : FVec Ideal S256x1024 .f32) (w : Vec Ideal S1024x1024 .bf16) (p : Fin 256) (n : Fin 1024) :
    k0_pay80 (F := Ideal) v34 u w (ix2 p n) = v34 (ix2 p n) + ∑ f : Fin 1024, sqrelu (u (ix2 p f)) * w (ix2 f n) := by
  unfold sqrelu
  pointwise [k0_pay80, dot_S256x1024_S1024x1024_S256x1024_1_0_0_1_n_n]

theorem pay94_at (h : FVec Ideal S256x1024 .bf16) (acc : FVec Ideal S256x1024 .f32) (wu : FVec Ideal S1024x1024 .bf16) (wd : Vec Ideal S1024x1024 .bf16) (p : Fin 256) (n : Fin 1024) :
    k0_pay94 (F := Ideal) h acc wu wd (ix2 p n) = acc (ix2 p n) + ∑ f : Fin 1024, hid (fun k => h (ix2 p k)) (fun k f => wu (ix2 k f)) f * wd (ix2 f n) := by
  unfold hid sqrelu
  pointwise [k0_pay94, dot_S256x1024_S1024x1024_S256x1024_1_0_0_1_n_n]

theorem pay105_at (h : FVec Ideal S256x1024 .bf16) (acc u : FVec Ideal S256x1024 .f32) (wd2 wu3 wd3 : Vec Ideal S1024x1024 .bf16) (p : Fin 256) (n : Fin 1024) :
    k0_pay105 (F := Ideal) h acc u wd2 wu3 wd3 (ix2 p n) = acc (ix2 p n) + ∑ f : Fin 1024, sqrelu (u (ix2 p f)) * wd2 (ix2 f n)
      + ∑ f : Fin 1024, hid (fun k => h (ix2 p k)) (fun k f => wu3 (ix2 k f)) f * wd3 (ix2 f n) := by
  unfold hid sqrelu
  pointwise [k0_pay105, dot_S256x1024_S1024x1024_S256x1024_1_0_0_1_n_n]

/-- A sum over 4096 indices in four runs of 1024. -/
theorem sum_four (g : Fin 4096 → EReal) :
    ∑ f, g f = (∑ f : Fin 1024, g ⟨f.val, by omega⟩) + (∑ f : Fin 1024, g ⟨1024 + f.val, by omega⟩)
      + (∑ f : Fin 1024, g ⟨2048 + f.val, by omega⟩) + ∑ f : Fin 1024, g ⟨3072 + f.val, by omega⟩ := by
  have h1 := Fin.sum_univ_add (a := 3072) (b := 1024) g
  have h2 := Fin.sum_univ_add (a := 2048) (b := 1024) (fun i : Fin 3072 => g (Fin.castAdd 1024 i))
  have h3 := Fin.sum_univ_add (a := 1024) (b := 1024) (fun i : Fin 2048 => g (Fin.castAdd 1024 (Fin.castAdd 1024 i)))
  exact h1.trans (congrArg (· + _) (h2.trans (congrArg (· + _) h3)))

/-- The rows of the feed-forward's result, from the residual rows. -/
theorem s76_at (i : grid0.Coords) (b : Blk Ideal) (p : Fin 256) (n : Fin 1024) :
    s76 i b (ix2 p n) = tail (fun k => s2 i b (ix2 p k)) (fun k => b.nw (ix2 0 k)) (fun k f => b.wu (ix2 k f)) (fun f n => b.wd (ix2 f n)) n := by
  unfold s76 s65 s54 tail
  rw [pay105_at, pay94_at, pay80_at, sum_four]
  have h27 : ∀ k, s27 i b (ix2 p k) = nrm (fun k => s2 i b (ix2 p k)) (fun k => b.nw (ix2 0 k)) k := by
    intro k; unfold s27; rw [pay50_at]; pointwise
  simp only [← add_assoc]
  unfold hid
  congr 1
  · congr 1
    · congr 1
      · congr 1
        refine Finset.sum_congr rfl fun f _ => ?_
        unfold s28
        rw [pay51_at]
        simp only [h27]
        pointwise
      · refine Finset.sum_congr rfl fun f _ => ?_
        simp only [h27]
        unfold s59
        pointwise [k0_pay85]
    · refine Finset.sum_congr rfl fun f _ => ?_
      unfold s71
      rw [pay100_at]
      simp only [h27]
      pointwise
  · refine Finset.sum_congr rfl fun f _ => ?_
    simp only [h27]
    pointwise

theorem s77_at (i : grid0.Coords) (b : Blk Ideal) (r : Fin 128) (n : Fin 1024) :
    s77 i b (ix3 0 r n) = s76 i b (ix2 ⟨128 + r.val, by omega⟩ n) := by
  unfold s77 s76
  pointwise [k0_pay108]

theorem sTop_at (i : grid0.Coords) (b : Blk Ideal) (r : Fin 128) (n : Fin 1024) :
    sTop i b (ix3 0 r n) = s76 i b (ix2 ⟨r.val, by omega⟩ n) := by
  unfold sTop s76
  pointwise [k0_pay106]

theorem stepOd_at (i : grid0.Coords) (b : Blk Ideal) (r : Fin 128) (n : Fin 1024) :
    stepOd i b (ix3 r 0 n) = s76 i b (ix2 ⟨r.val, by omega⟩ n) := by
  unfold stepOd
  pointwise [k0_pay2]

end Cert.KernelIdeal.Row
-- ==== Proof.HostVals.lean ====
module

public import proofs.«01_k».proof.Proof.FfnRow
public import proofs.«01_k».proof.Proof.IdealDats
public import Idealize.ShloMosaic.Lib.StableHlo.ReadAt

@[expose] public section

set_option maxRecDepth 16384

noncomputable section

/-! The arrays that the host prepares for the call, read at an index. -/

namespace Cert.KernelIdeal.Row

open Idealize.ShloMosaic Idealize.ShloMosaic.TcCoe Cert.KernelIdeal Cert.KernelIdeal.Gen

variable (m : (ℓ : Loc nD τ sig) → Buf (Elt Ideal) ℓ) (c : Dev nD)

/-- An array as launched. -/
abbrev inp (b : Ref sig .tc) : Buf (Elt Ideal) ((c : Thread nD τ).loc b) := m ((c : Thread nD τ).loc b)

theorem v47_at (r : Fin 128) (n : Fin 1024) : V m c main_v47 (ix2 r n) = inp m c main_arg7 (ix3 r 0 n) := by
  unfold Gen.V; after_reads_at

theorem v49_at (k n : Fin 1024) : V m c main_v49 (ix2 k n) = inp m c main_arg10 (ix3 0 k n) := by
  unfold Gen.V; after_reads_at

theorem v51_at (k : Fin 1024) (n : Fin 4096) : V m c main_v51 (ix2 k n) = inp m c main_arg12 (ix3 0 k n) := by
  unfold Gen.V; after_reads_at

theorem v53_at (k : Fin 4096) (n : Fin 1024) : V m c main_v53 (ix2 k n) = inp m c main_arg13 (ix3 0 k n) := by
  unfold Gen.V; after_reads_at

theorem v21_at (n : Fin 1024) : V m c main_v21 (ix2 0 n) = inp m c main_arg11 (ix2 0 n) := by
  unfold Gen.V; after_reads_at

theorem v14_at (n : Fin 512) : V m c main_v14 (ix2 0 n) = inp m c main_arg2 (ix2 0 ⟨n.val % 64, Nat.mod_lt _ (by decide)⟩) := by
  unfold Gen.V; after_reads_at

theorem v19_at (n : Fin 128) : V m c main_v19 (ix2 0 n) = inp m c main_arg3 (ix2 0 ⟨n.val % 64, Nat.mod_lt _ (by decide)⟩) := by
  unfold Gen.V; after_reads_at

theorem v55_at (n : Fin 8) : V m c main_v55 (ix2 0 n) = inp m c main_arg4 (ix2 0 n) := by
  unfold Gen.V; after_reads_at

/-- The word of a truth value, as a number. -/
theorem uitofp_ite (b : Prop) [Decidable b] (w : BitVec 1) (h : w = if b then 1#1 else 0#1) :
    (FloatOps.uitofp .f32 w : Ideal .f32) = if b then (1 : EReal) else 0 := by
  subst h
  split <;> simp [FloatOps.uitofp]

theorem shr6_eq : ∀ j k : Fin 256,
    IntOp.cmpi .eq (IntOp.shrsi .host (BitVec.ofNat 32 j.val) 6#32) (IntOp.shrsi .host (BitVec.ofNat 32 k.val) 6#32)
      = if j.val / 64 = k.val / 64 then 1#1 else 0#1 := by
  have h : ∀ j : Fin 256, IntOp.shrsi .host (BitVec.ofNat 32 j.val) 6#32 = BitVec.ofNat 32 (j.val / 64) := by decide +kernel
  intro j k
  rw [h, h]
  have : ∀ a b : Fin 4, IntOp.cmpi .eq (BitVec.ofNat 32 a.val) (BitVec.ofNat 32 b.val) = if a.val = b.val then 1#1 else 0#1 := by decide
  exact this ⟨j.val / 64, by omega⟩ ⟨k.val / 64, by omega⟩

theorem v9_at (j k : Fin 256) : V m c main_v9 (ix2 j k) = if j.val / 64 = k.val / 64 then (1 : EReal) else 0 := by
  unfold Gen.V; after_reads_at
  exact uitofp_ite _ _ (shr6_eq j k)

/-- The rotary frequency of pair `p`: `500000 ^ (-p/8)`. -/
def fr (p : ℕ) : ℝ := (500000 : ℝ) ^ (-((p : ℝ) * (1 / 8)))

/-- The word of the pair number `p`. -/
def pairWord (p : ℕ) : BitVec 32 :=
  match p with
  | 0 => 0x00000000#32 | 1 => 0x3F800000#32 | 2 => 0x40000000#32 | 3 => 0x40400000#32
  | 4 => 0x40800000#32 | 5 => 0x40A00000#32 | 6 => 0x40C00000#32 | _ => 0x40E00000#32

theorem lit0_word : ∀ l : Fin 128, lit0 (S128.rowMajor (ix1 l)) = pairWord (l.val % 8) := by decide +kernel

theorem pairWord_val : ∀ p : Fin 8, Ideal.ofBits .f32 (pairWord p.val) = ((p.val : ℝ) : EReal) := by
  intro p
  fin_cases p
  · simp [pairWord]
  all_goals
    simp [pairWord, Ideal.ofBits, Ideal.ieee, -EReal.coe_mul]
    try norm_num

theorem ofBits_theta : Ideal.ofBits .f32 0x48F42400#32 = ((500000 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem pow_fr (p : ℝ) : Ideal.pow (Ideal.ofBits .f32 0x48F42400#32) (-(p : EReal) * Ideal.ofBits .f32 0x3E000000#32)
    = (((500000 : ℝ) ^ (-(p * (1 / 8))) : ℝ) : EReal) := by
  rw [ofBits_theta, ofBits_eighth, ← EReal.coe_neg, ← EReal.coe_mul, neg_mul]
  rfl

theorem pow_lit (l : Fin 128) : Ideal.pow (Ideal.ofBits .f32 0x48F42400#32) (-Ideal.ofBits .f32 (lit0 (S128.rowMajor (ix1 l))) * Ideal.ofBits .f32 0x3E000000#32)
    = ((fr (l.val % 8) : ℝ) : EReal) := by
  rw [lit0_word, pairWord_val ⟨l.val % 8, Nat.mod_lt _ (by decide)⟩, pow_fr]
  rfl

theorem sitofp_nat (n : ℕ) (h : n < 2 ^ 31) : (FloatOps.sitofp .f32 (BitVec.ofNat 32 n) : Ideal .f32) = (((n : ℝ)) : EReal) := by
  have e : (BitVec.ofNat 32 n).toInt = (n : ℤ) := by
    rw [BitVec.toInt_ofNat']
    simp [Int.bmod]
    omega
  show (((BitVec.ofNat 32 n).toInt : ℝ) : EReal) = _
  rw [e]; norm_cast

/-- The first table: cosine then sine of the angle of position `128 i`. -/
theorem v46_at (i : Fin 129) (l : Fin 256) : V m c main_v46 (ix3 i 0 l)
    = if l.val < 128 then ((Real.cos ((i.val : ℝ) * 128 * fr (l.val % 8)) : ℝ) : EReal)
      else ((Real.sin ((i.val : ℝ) * 128 * fr (l.val % 8)) : ℝ) : EReal) := by
  unfold Gen.V; after_reads_at
  after_reads_at
  split
  · rw [pow_lit, ofBits_128, sitofp_nat _ (by omega), ← EReal.coe_mul, ← EReal.coe_mul, Ideal.cos_coe]
  · rw [pow_lit, ofBits_128, sitofp_nat _ (by omega), ← EReal.coe_mul, ← EReal.coe_mul, Ideal.sin_coe]
    rw [show (l.val - 128) % 8 = l.val % 8 by omega]

/-- The second table: cosine then sine of the angle of position `i`. -/
theorem v45_at (i : Fin 128) (l : Fin 256) : V m c main_v45 (ix2 i l)
    = if l.val < 128 then ((Real.cos ((i.val : ℝ) * fr (l.val % 8)) : ℝ) : EReal)
      else ((Real.sin ((i.val : ℝ) * fr (l.val % 8)) : ℝ) : EReal) := by
  unfold Gen.V; after_reads_at
  split
  · rw [pow_lit, sitofp_nat _ (by omega), ← EReal.coe_mul, Ideal.cos_coe]
  · rw [pow_lit, sitofp_nat _ (by omega), ← EReal.coe_mul, Ideal.sin_coe]
    rw [show (l.val - 128) % 8 = l.val % 8 by omega]

theorem ofBits_neg_inf : Ideal.ofBits .f32 0xFF800000#32 = ⊥ := by
  simp [Ideal.ofBits, Ideal.ieee]

/-- Which keys the query in lane `k` of a block sees among the 256 of the window: those of the 128 positions up to its own, and no key before the first block. -/
def sees (e : ℕ) (r : ℕ) (k : ℕ) : Prop := r ≤ k % 128 + 128 ∧ k % 128 < r ∧ (e = 1 ∨ 128 ≤ r)

instance (e r k : ℕ) : Decidable (sees e r k) := by unfold sees; infer_instance

theorem sub_toInt (a b : ℕ) (ha : a < 2 ^ 30) (hb : b < 2 ^ 30) : (IntOp.subi (BitVec.ofNat 32 a) (BitVec.ofNat 32 b)).toInt = (a : ℤ) - b := by
  rw [IntOp.subi, BitVec.toInt_sub, BitVec.toInt_ofNat', BitVec.toInt_ofNat']
  simp only [Int.bmod]; omega

theorem ofBool_ite (b : Prop) [Decidable b] (x : Bool) (h : x = true ↔ b) : BitVec.ofBool x = if b then 1#1 else 0#1 := by
  split <;> rename_i hb
  · rw [h.mpr hb]; rfl
  · rw [Bool.eq_false_iff.mpr (fun e => hb (h.mp e))]; rfl

theorem sub_sge (a b : ℕ) (ha : a < 2 ^ 30) (hb : b < 2 ^ 30) :
    IntOp.cmpi CmpIPredicate.sge (IntOp.subi (BitVec.ofNat 32 a) (BitVec.ofNat 32 b)) 0#32 = if b ≤ a then 1#1 else 0#1 := by
  refine ofBool_ite _ _ ?_
  rw [BitVec.sle_iff_toInt_le, sub_toInt a b ha hb]
  simp

theorem sub_slt (a b : ℕ) (ha : a < 2 ^ 30) (hb : b < 2 ^ 30) :
    IntOp.cmpi CmpIPredicate.slt (IntOp.subi (BitVec.ofNat 32 a) (BitVec.ofNat 32 b)) 128#32 = if a < b + 128 then 1#1 else 0#1 := by
  refine ofBool_ite _ _ ?_
  rw [BitVec.slt_iff_toInt_lt, sub_toInt a b ha hb]
  simp; omega

theorem and_ite (a b : Prop) [Decidable a] [Decidable b] : IntOp.andi (if a then 1#1 else 0#1) (if b then 1#1 else 0#1) = if a ∧ b then 1#1 else 0#1 := by
  by_cases ha : a <;> by_cases hb : b <;> simp [ha, hb, IntOp.andi]

theorem or_ite (a b : Prop) [Decidable a] [Decidable b] : IntOp.ori (if a then 1#1 else 0#1) (if b then 1#1 else 0#1) = if a ∨ b then 1#1 else 0#1 := by
  by_cases ha : a <;> by_cases hb : b <;> simp [ha, hb, IntOp.ori]

theorem mask_word (e : Fin 2) (r : Fin 256) (k : Fin 512) :
    (IntOp.andi
        (IntOp.andi
          (IntOp.cmpi CmpIPredicate.sge (IntOp.subi (IntOp.addi (IntOp.andi (BitVec.ofNat 32 k.val) 127#32) 128#32) (BitVec.ofNat 32 r.val)) 0#32)
          (IntOp.cmpi CmpIPredicate.slt (IntOp.subi (IntOp.addi (IntOp.andi (BitVec.ofNat 32 k.val) 127#32) 128#32) (BitVec.ofNat 32 r.val)) 128#32))
        (IntOp.ori (IntOp.cmpi CmpIPredicate.eq (BitVec.ofNat 32 e.val) 1#32) (IntOp.cmpi CmpIPredicate.sge (BitVec.ofNat 32 r.val) 128#32)))
      = if sees e.val r.val k.val then 1#1 else 0#1 := by
  have h1 : ∀ k : Fin 512, IntOp.addi (IntOp.andi (BitVec.ofNat 32 k.val) 127#32) 128#32 = BitVec.ofNat 32 (k.val % 128 + 128) := by decide +kernel
  have h3 : ∀ e : Fin 2, IntOp.cmpi CmpIPredicate.eq (BitVec.ofNat 32 e.val) 1#32 = if e.val = 1 then 1#1 else 0#1 := by decide
  have h4 : ∀ r : Fin 256, IntOp.cmpi CmpIPredicate.sge (BitVec.ofNat 32 r.val) 128#32 = if 128 ≤ r.val then 1#1 else 0#1 := by decide +kernel
  simp only [h1 k, h3 e, h4 r, sub_sge (k.val % 128 + 128) r.val (by omega) (by omega), sub_slt (k.val % 128 + 128) r.val (by omega) (by omega), and_ite, or_ite]
  refine if_congr ?_ rfl rfl
  unfold sees
  omega

theorem v76_at (e : Fin 2) (r : Fin 256) (k : Fin 512) : V m c main_v76 (ix3 e r k) = if sees e.val r.val k.val then (0 : EReal) else ⊥ := by
  unfold Gen.V; after_reads_at
  rw [id]
  pointwise
  rw [mask_word, ofBits_neg_inf]
  split <;> rfl

end Cert.KernelIdeal.Row
-- ==== Proof.RopeRow.lean ====
module

public import proofs.«01_k».proof.Proof.HostVals

@[expose] public section

set_option maxRecDepth 16384

noncomputable section

/-! The head norm and the rotary embedding of one row of queries or keys, lane by lane. -/

namespace Cert.KernelIdeal.Row

open Idealize.ShloMosaic Cert.KernelIdeal Cert.KernelIdeal.Gen

/-- The norm of one head of 64 lanes, with its weight. -/
def hn (h w : EV 64) : EV 64 := fun d =>
  h d * Ideal.rsqrt (Ideal.div (∑ j, h j * h j) (Ideal.ofBits .f32 0x42800000#32) + Ideal.ofBits .f32 0x358637BD#32) * w d

/-- The rotary embedding of a head at position `pos`: lanes 0..7 and 8..15 are rotated in pairs, the other lanes pass. -/
def rope (pos : ℕ) (h : EV 64) : EV 64 := fun d =>
  if h1 : d.val < 8 then
    h d * ((Real.cos ((pos : ℝ) * fr d.val) : ℝ) : EReal) - h ⟨d.val + 8, by omega⟩ * ((Real.sin ((pos : ℝ) * fr d.val) : ℝ) : EReal)
  else if h2 : d.val < 16 then
    h d * ((Real.cos ((pos : ℝ) * fr (d.val - 8)) : ℝ) : EReal) + h ⟨d.val - 8, by omega⟩ * ((Real.sin ((pos : ℝ) * fr (d.val - 8)) : ℝ) : EReal)
  else h d

theorem ofBits_64 : Ideal.ofBits .f32 0x42800000#32 = ((64 : ℝ) : EReal) := by
  simp [Ideal.ofBits, Ideal.ieee, -EReal.coe_mul]; norm_num

theorem ofBits_inv64 : Ideal.ofBits .f32 0x3C800000#32 = ((64⁻¹ : ℝ) : EReal) := by
  simp [Ideal.ofBits, Ideal.ieee, -EReal.coe_mul]; norm_num

theorem mean64 (x : EReal) : x * Ideal.ofBits .f32 0x3C800000#32 = Ideal.div x (Ideal.ofBits .f32 0x42800000#32) := by
  rw [ofBits_64, ofBits_inv64, Ideal.div, if_neg (by norm_num), EReal.coe_inv]

/-- A sum against the indicator of one group of 64 lanes is the sum over that group. -/
theorem seg_sum {N : ℕ} (g : ℕ) (hg : 64 * g + 64 ≤ N) (f : Fin N → EReal) (u : Fin N → EReal)
    (hu : ∀ k, u k = f k * (if k.val / 64 = g then (1 : EReal) else 0)) :
    ∑ k, u k = ∑ d : Fin 64, f ⟨64 * g + d.val, by omega⟩ := by
  have e : ∀ k, u k = if k.val / 64 = g then f k else 0 := by
    intro k; rw [hu]; split <;> simp
  simp only [e]
  rw [← Finset.sum_filter]
  refine Finset.sum_nbij' (fun k => (⟨k.val % 64, Nat.mod_lt _ (by decide)⟩ : Fin 64)) (fun d => ⟨64 * g + d.val, by omega⟩) ?_ ?_ ?_ ?_ ?_
  · intro k _; simp
  · intro d _; simp; omega
  · intro k hk; simp at hk; ext; simp; omega
  · intro d _; ext; simp
  · intro k hk
    simp at hk
    congr 1; ext; simp; omega

/-- One lane of a row normed head by head. -/
theorem head_norm {N : ℕ} (x : Fin N → EReal) (g : ℕ) (hg : 64 * g + 64 ≤ N) (l : Fin N) (hl : l.val / 64 = g) (sum : EReal)
    (hs : sum = ∑ d : Fin 64, x ⟨64 * g + d.val, by omega⟩ * x ⟨64 * g + d.val, by omega⟩) (wl : EReal) (w : EV 64)
    (d : Fin 64) (hd : d.val = l.val % 64) (hw : wl = w d) :
    x l * Ideal.rsqrt (sum * Ideal.ofBits .f32 0x3C800000#32 + Ideal.ofBits .f32 0x358637BD#32) * wl
      = hn (fun d => x ⟨64 * g + d.val, by omega⟩) w d := by
  unfold hn
  rw [mean64, hs, hw]
  have e : (⟨64 * g + d.val, by omega⟩ : Fin N) = l := by ext; simp; omega
  simp only [e]

/-- One lane of the rotary embedding, from the three lanes and the three tables that it is computed from. -/
theorem rope_lane (pos : ℕ) (h : EV 64) (d : Fin 64) (x xf xb C S1 S2 : EReal) (hx : x = h d)
    (hf : ∀ hd : d.val < 8, xf = h ⟨d.val + 8, by omega⟩) (hb : ∀ hd : 8 ≤ d.val, ∀ hd' : d.val < 16, xb = h ⟨d.val - 8, by omega⟩)
    (hC : C = if d.val < 16 then ((Real.cos ((pos : ℝ) * fr (d.val % 8)) : ℝ) : EReal) else 1)
    (h1 : S1 = if d.val < 8 then -((Real.sin ((pos : ℝ) * fr (d.val % 8)) : ℝ) : EReal) else 0)
    (h2 : S2 = if 8 ≤ d.val ∧ d.val < 16 then ((Real.sin ((pos : ℝ) * fr (d.val % 8)) : ℝ) : EReal) else 0) :
    x * C + xf * S1 + xb * S2 = rope pos h d := by
  unfold rope
  subst hx hC h1 h2
  by_cases a : d.val < 8
  · rw [dif_pos a, if_pos (by omega), if_pos a, if_neg (by omega), mul_zero, add_zero, hf a, mul_neg, ← sub_eq_add_neg, Nat.mod_eq_of_lt a]
  · rw [dif_neg a, if_neg a, mul_zero, add_zero]
    by_cases b : d.val < 16
    · rw [dif_pos b, if_pos b, if_pos ⟨by omega, b⟩, hb (by omega) b, show d.val % 8 = d.val - 8 by omega]
    · rw [dif_neg b, if_neg b, if_neg (by omega), mul_zero, add_zero, mul_one]

/-- The tables and weights of a step: the rotary tables of block `n`, the indicator of equal groups of 64 lanes, and the two
    head weights. -/
structure Tabs (b : Blk Ideal) (n : ℕ) (qw kw : EV 64) : Prop where
  ta_lo : ∀ l : Fin 128, b.ta (ix3 0 0 ⟨l.val, by omega⟩) = ((Real.cos ((n : ℝ) * 128 * fr (l.val % 8)) : ℝ) : EReal)
  ta_hi : ∀ l : Fin 128, b.ta (ix3 0 0 ⟨128 + l.val, by omega⟩) = ((Real.sin ((n : ℝ) * 128 * fr (l.val % 8)) : ℝ) : EReal)
  tb_lo : ∀ (r l : Fin 128), b.tb (ix2 r ⟨l.val, by omega⟩) = ((Real.cos ((r.val : ℝ) * fr (l.val % 8)) : ℝ) : EReal)
  tb_hi : ∀ (r l : Fin 128), b.tb (ix2 r ⟨128 + l.val, by omega⟩) = ((Real.sin ((r.val : ℝ) * fr (l.val % 8)) : ℝ) : EReal)
  on : ∀ j k : Fin 256, b.on (ix2 j k) = if j.val / 64 = k.val / 64 then (1 : EReal) else 0
  qw : ∀ n : Fin 512, b.qw (ix2 0 n) = qw ⟨n.val % 64, Nat.mod_lt _ (by decide)⟩
  kw : ∀ n : Fin 128, b.kw (ix2 0 n) = kw ⟨n.val % 64, Nat.mod_lt _ (by decide)⟩

theorem select_word (w : BitVec 1) (p : Prop) [Decidable p] (h : w = if p then 1#1 else 0#1) (x y : EReal) :
    Scalar.select w x y = if p then x else y := by
  subst h
  split <;> rfl

theorem lt16_word : ∀ l : Fin 128, IntOp.cmpi CmpIPredicate.slt (IntOp.andi (BitVec.ofNat 32 l.val) 63#32) 16#32 = if l.val % 64 < 16 then 1#1 else 0#1 := by
  decide +kernel
theorem lt8_word : ∀ l : Fin 128, IntOp.cmpi CmpIPredicate.slt (IntOp.andi (BitVec.ofNat 32 l.val) 63#32) 8#32 = if l.val % 64 < 8 then 1#1 else 0#1 := by
  decide +kernel
theorem ge8_word : ∀ l : Fin 128, IntOp.andi (IntOp.cmpi CmpIPredicate.sge (IntOp.andi (BitVec.ofNat 32 l.val) 63#32) 8#32)
    (IntOp.cmpi CmpIPredicate.slt (IntOp.andi (BitVec.ofNat 32 l.val) 63#32) 16#32) = if 8 ≤ l.val % 64 ∧ l.val % 64 < 16 then 1#1 else 0#1 := by
  decide +kernel

variable (i : grid0.Coords) (b : Blk Ideal) {n : ℕ} {qw kw : EV 64}

/-- The cosine of the position of row `r` of block `n`. -/
theorem cos_sum (n r : ℕ) (f : ℝ) : ((Real.cos ((n : ℝ) * 128 * f) : ℝ) : EReal) * ((Real.cos ((r : ℝ) * f) : ℝ) : EReal)
    - ((Real.sin ((n : ℝ) * 128 * f) : ℝ) : EReal) * ((Real.sin ((r : ℝ) * f) : ℝ) : EReal) = ((Real.cos (((n * 128 + r : ℕ) : ℝ) * f) : ℝ) : EReal) := by
  rw [← EReal.coe_mul, ← EReal.coe_mul, ← EReal.coe_sub, ← Real.cos_add]
  push_cast; ring_nf

/-- The sine of the position of row `r` of block `n`. -/
theorem sin_sum (n r : ℕ) (f : ℝ) : ((Real.sin ((n : ℝ) * 128 * f) : ℝ) : EReal) * ((Real.cos ((r : ℝ) * f) : ℝ) : EReal)
    + ((Real.cos ((n : ℝ) * 128 * f) : ℝ) : EReal) * ((Real.sin ((r : ℝ) * f) : ℝ) : EReal) = ((Real.sin (((n * 128 + r : ℕ) : ℝ) * f) : ℝ) : EReal) := by
  rw [← EReal.coe_mul, ← EReal.coe_mul, ← EReal.coe_add, ← Real.sin_add]
  push_cast; ring_nf

theorem mod8 (l : ℕ) : l % 8 = l % 64 % 8 := by omega

theorem s3_at (T : Tabs b n qw kw) (r l : Fin 128) : s3 i b (ix2 r l)
    = if l.val % 64 < 16 then ((Real.cos (((n * 128 + r.val : ℕ) : ℝ) * fr (l.val % 64 % 8)) : ℝ) : EReal) else 1 := by
  unfold s3
  pointwise [k0_pay21, k0_pay20, k0_pay18, k0_pay17, k0_pay16, k0_pay15, k0_pay14, k0_pay13]
  rw [select_word _ _ (lt16_word l), T.ta_lo, T.tb_lo, T.ta_hi, T.tb_hi, cos_sum, mod8]

theorem s4_at (T : Tabs b n qw kw) (r l : Fin 128) : s4 i b (ix2 r l)
    = if l.val % 64 < 8 then -((Real.sin (((n * 128 + r.val : ℕ) : ℝ) * fr (l.val % 64 % 8)) : ℝ) : EReal) else 0 := by
  unfold s4
  pointwise [k0_pay22, k0_pay19, k0_pay20, k0_pay18, k0_pay17, k0_pay16, k0_pay15, k0_pay14, k0_pay13]
  rw [select_word _ _ (lt8_word l), T.ta_lo, T.tb_lo, T.ta_hi, T.tb_hi, sin_sum, mod8, zero_sub]

theorem s5_at (T : Tabs b n qw kw) (r l : Fin 128) : s5 i b (ix2 r l)
    = if 8 ≤ l.val % 64 ∧ l.val % 64 < 16 then ((Real.sin (((n * 128 + r.val : ℕ) : ℝ) * fr (l.val % 64 % 8)) : ℝ) : EReal) else 0 := by
  unfold s5
  pointwise [k0_pay23, k0_pay19, k0_pay20, k0_pay18, k0_pay17, k0_pay16, k0_pay15, k0_pay14, k0_pay13]
  rw [select_word _ _ (ge8_word l), T.ta_lo, T.tb_lo, T.ta_hi, T.tb_hi, sin_sum, mod8]

/-- Row `r` of sequence `e` of the keys before the norm. -/
abbrev kin (e : Fin 2) (r : Fin 128) (g : Fin 2) : EV 64 := fun d => b.kv (ix3 e r ⟨64 * g.val + d.val, by omega⟩)

theorem key_lane (T : Tabs b n qw kw) (e : Fin 2) (r l : Fin 128) (g : Fin 2) (hl : l.val / 64 = g.val) (d : Fin 64) (hd : d.val = l.val % 64) :
    b.kv (ix3 e r ⟨l.val, by omega⟩) * Ideal.rsqrt ((∑ x : Fin 128, b.kv (ix3 e r ⟨x.val, by omega⟩) * b.kv (ix3 e r ⟨x.val, by omega⟩)
      * b.on (ix2 ⟨x.val, by omega⟩ ⟨l.val, by omega⟩)) * Ideal.ofBits .f32 0x3C800000#32 + Ideal.ofBits .f32 0x358637BD#32) * b.kw (ix2 0 l)
      = hn (kin b e r g) kw d := by
  refine head_norm (fun x : Fin 128 => b.kv (ix3 e r ⟨x.val, by omega⟩)) g.val (by omega) l hl _ ?_ _ kw d hd ?_
  · refine seg_sum g.val (by omega) (fun x : Fin 128 => b.kv (ix3 e r ⟨x.val, by omega⟩) * b.kv (ix3 e r ⟨x.val, by omega⟩)) _ (fun k => ?_)
    rw [T.on, hl]
  · rw [T.kw]; congr 1; ext; exact hd.symm

theorem key_row (T : Tabs b n qw kw) (e : Fin 2) (r l : Fin 128) :
    rope (n * 128 + r.val) (hn (kin b e r ⟨l.val / 64, by omega⟩) kw) ⟨l.val % 64, Nat.mod_lt _ (by decide)⟩ =
    b.kv (ix3 e r ⟨l.val, by omega⟩) * Ideal.rsqrt ((∑ x : Fin 128, b.kv (ix3 e r ⟨x.val, by omega⟩) * b.kv (ix3 e r ⟨x.val, by omega⟩)
      * b.on (ix2 ⟨x.val, by omega⟩ ⟨l.val, by omega⟩)) * Ideal.ofBits .f32 0x3C800000#32 + Ideal.ofBits .f32 0x358637BD#32) * b.kw (ix2 0 l) * s3 i b (ix2 r l)
    + b.kv (ix3 e r ⟨(l.val + 128 - 120) % 128, by omega⟩) * Ideal.rsqrt ((∑ x : Fin 128, b.kv (ix3 e r ⟨x.val, by omega⟩) * b.kv (ix3 e r ⟨x.val, by omega⟩)
      * b.on (ix2 ⟨x.val, by omega⟩ ⟨(l.val + 128 - 120) % 128, by omega⟩)) * Ideal.ofBits .f32 0x3C800000#32 + Ideal.ofBits .f32 0x358637BD#32)
        * b.kw (ix2 0 ⟨(l.val + 128 - 120) % 128, by omega⟩) * s4 i b (ix2 r l)
    + b.kv (ix3 e r ⟨(l.val + 128 - 8) % 128, by omega⟩) * Ideal.rsqrt ((∑ x : Fin 128, b.kv (ix3 e r ⟨x.val, by omega⟩) * b.kv (ix3 e r ⟨x.val, by omega⟩)
      * b.on (ix2 ⟨x.val, by omega⟩ ⟨(l.val + 128 - 8) % 128, by omega⟩)) * Ideal.ofBits .f32 0x3C800000#32 + Ideal.ofBits .f32 0x358637BD#32)
        * b.kw (ix2 0 ⟨(l.val + 128 - 8) % 128, by omega⟩) * s5 i b (ix2 r l) := by
  symm
  refine rope_lane _ _ ⟨l.val % 64, Nat.mod_lt _ (by decide)⟩ _ _ _ _ _ _ (key_lane b T e r l _ rfl _ rfl) (fun hd => ?_) (fun hd hd' => ?_)
    (s3_at i b T r l) (s4_at i b T r l) (s5_at i b T r l)
  · simp only at hd
    exact key_lane b T e r ⟨(l.val + 128 - 120) % 128, by omega⟩ _ (by simp; omega) _ (by simp; omega)
  · simp only at hd hd'
    exact key_lane b T e r ⟨(l.val + 128 - 8) % 128, by omega⟩ _ (by simp; omega) _ (by simp; omega)

/-- The keys of a step, first sequence. -/
theorem s19_at (T : Tabs b n qw kw) (r l : Fin 128) : s19 i b (ix2 r l)
    = rope (n * 128 + r.val) (hn (kin b 0 r ⟨l.val / 64, by omega⟩) kw) ⟨l.val % 64, Nat.mod_lt _ (by decide)⟩ := by
  rw [key_row i b T]
  unfold s19 s16 s17 s18
  pointwise [k0_pay38, k0_pay34, k0_pay32, k0_pay35, k0_pay36, k0_pay37]

/-- The keys of a step, second sequence. -/
theorem s20_at (T : Tabs b n qw kw) (r l : Fin 128) : s20 i b (ix2 r l)
    = rope (n * 128 + r.val) (hn (kin b 1 r ⟨l.val / 64, by omega⟩) kw) ⟨l.val % 64, Nat.mod_lt _ (by decide)⟩ := by
  rw [key_row i b T]
  unfold s20 s15
  pointwise [k0_pay39, k0_pay33]

/-- The values of a step. -/
theorem s21_at (r l : Fin 128) : s21 i b (ix2 r l) = b.kv (ix3 0 r ⟨128 + l.val, by omega⟩) := by
  unfold s21 s14
  pointwise [k0_pay40, k0_pay32]

theorem s22_at (r l : Fin 128) : s22 i b (ix2 r l) = b.kv (ix3 1 r ⟨128 + l.val, by omega⟩) := by
  unfold s22 s15
  pointwise [k0_pay41, k0_pay33]

/-- Row `r` of sequence `e` of head `g` of the queries before the norm. -/
abbrev qin (e : Fin 2) (r : Fin 128) (g : Fin 8) : EV 64 := fun d => b.q (ix3 e r ⟨64 * g.val + d.val, by omega⟩)

theorem query_lane (T : Tabs b n qw kw) (e : Fin 2) (r : Fin 128) (l : Fin 512) (g : Fin 8) (hl : l.val / 64 = g.val) (d : Fin 64) (hd : d.val = l.val % 64) :
    b.q (ix3 e r l) * Ideal.rsqrt ((if h : l.val < 256 then ∑ x : Fin 256, b.q (ix3 e r ⟨x.val, by omega⟩) * b.q (ix3 e r ⟨x.val, by omega⟩) * b.on (ix2 x ⟨l.val, h⟩)
        else ∑ x : Fin 256, b.q (ix3 e r ⟨256 + x.val, by omega⟩) * b.q (ix3 e r ⟨256 + x.val, by omega⟩) * b.on (ix2 x ⟨l.val - 256, by omega⟩))
      * Ideal.ofBits .f32 0x3C800000#32 + Ideal.ofBits .f32 0x358637BD#32) * b.qw (ix2 0 l)
      = hn (qin b e r g) qw d := by
  refine head_norm (fun x : Fin 512 => b.q (ix3 e r x)) g.val (by omega) l hl _ ?_ _ qw d hd ?_
  · split
    · rename_i h
      refine (seg_sum g.val (by omega) (fun x : Fin 256 => b.q (ix3 e r ⟨x.val, by omega⟩) * b.q (ix3 e r ⟨x.val, by omega⟩)) _ (fun k => ?_))
      rw [T.on]; simp only [hl]
    · rename_i h
      refine (seg_sum (g.val - 4) (by omega) (fun x : Fin 256 => b.q (ix3 e r ⟨256 + x.val, by omega⟩) * b.q (ix3 e r ⟨256 + x.val, by omega⟩)) _ (fun k => ?_)).trans ?_
      · rw [T.on, show (l.val - 256) / 64 = g.val - 4 by omega]
      · refine Finset.sum_congr rfl fun d _ => ?_
        have : (⟨256 + (64 * (g.val - 4) + d.val), by omega⟩ : Fin 512) = ⟨64 * g.val + d.val, by omega⟩ := by ext; simp; omega
        simp only [this]
  · rw [T.qw]; congr 1; ext; exact hd.symm

theorem s6_at (r : Fin 128) (l : Fin 512) : s6 i b (ix2 r l) = s3 i b (ix2 r ⟨l.val % 128, Nat.mod_lt _ (by decide)⟩) := by
  unfold s6 s3
  pointwise [k0_pay24]
  split_ifs <;> congr 2 <;> ext <;> simp <;> omega

theorem four_at (f : Fin 128 → EReal) (l : Fin 512) :
    (if h : l.val < 128 then f ⟨l.val, h⟩ else if h : l.val - 128 < 128 then f ⟨l.val - 128, h⟩ else if h : l.val - 128 - 128 < 128 then f ⟨l.val - 128 - 128, h⟩
      else f ⟨l.val - 128 - 128 - 128, by omega⟩) = f ⟨l.val % 128, Nat.mod_lt _ (by decide)⟩ := by
  split_ifs <;> congr 1 <;> ext <;> simp <;> omega

end Cert.KernelIdeal.Row
-- ==== Proof.QueryRow.lean ====
module

public import proofs.«01_k».proof.Proof.RopeRow

@[expose] public section

set_option maxRecDepth 16384

noncomputable section

/-! The queries of a step, lane by lane, and the rows of keys and values that a step stores. -/

namespace Cert.KernelIdeal.Row

open Idealize.ShloMosaic Cert.KernelIdeal Cert.KernelIdeal.Gen

variable (i : grid0.Coords) (b : Blk Ideal) {n : ℕ} {qw kw : EV 64}

/-- The scale of the queries: an eighth, in base two. -/
def qs : EReal := ((8⁻¹ * (Real.log 2)⁻¹ : ℝ) : EReal)

theorem named_qs : Named.named (F := Ideal) κ "qscale" (φ := .f32) 0x3E38AA3B#32 = qs :=
  IdealRules.named_const.ideal_named_scalar _ _ _ _ rfl

/-- The base-two logarithm of `e`. -/
def l2e : EReal := (((Real.log 2)⁻¹ : ℝ) : EReal)

theorem named_l2e : Named.named (F := Ideal) κ "log2e" (φ := .f32) 0x3FB8AA3B#32 = l2e :=
  IdealRules.named_const.ideal_named_scalar _ _ _ _ rfl

theorem tab3 (T : Tabs b n qw kw) (r : Fin 128) (l : Fin 512) : s3 i b (ix2 r ⟨l.val % 128, Nat.mod_lt _ (by decide)⟩)
    = if l.val % 64 < 16 then ((Real.cos (((n * 128 + r.val : ℕ) : ℝ) * fr (l.val % 64 % 8)) : ℝ) : EReal) else 1 := by
  rw [s3_at i b T]; simp only [show l.val % 128 % 64 = l.val % 64 by omega]

theorem tab4 (T : Tabs b n qw kw) (r : Fin 128) (l : Fin 512) : s4 i b (ix2 r ⟨l.val % 128, Nat.mod_lt _ (by decide)⟩)
    = if l.val % 64 < 8 then -((Real.sin (((n * 128 + r.val : ℕ) : ℝ) * fr (l.val % 64 % 8)) : ℝ) : EReal) else 0 := by
  rw [s4_at i b T]; simp only [show l.val % 128 % 64 = l.val % 64 by omega]

theorem tab5 (T : Tabs b n qw kw) (r : Fin 128) (l : Fin 512) : s5 i b (ix2 r ⟨l.val % 128, Nat.mod_lt _ (by decide)⟩)
    = if 8 ≤ l.val % 64 ∧ l.val % 64 < 16 then ((Real.sin (((n * 128 + r.val : ℕ) : ℝ) * fr (l.val % 64 % 8)) : ℝ) : EReal) else 0 := by
  rw [s5_at i b T]; simp only [show l.val % 128 % 64 = l.val % 64 by omega]

theorem s7_at (r : Fin 128) (l : Fin 512) : s7 i b (ix2 r l) = s4 i b (ix2 r ⟨l.val % 128, Nat.mod_lt _ (by decide)⟩) := by
  refine Eq.trans ?_ (four_at (fun l => s4 i b (ix2 r l)) l)
  unfold s7
  pointwise [k0_pay25]

theorem s8_at (r : Fin 128) (l : Fin 512) : s8 i b (ix2 r l) = s5 i b (ix2 r ⟨l.val % 128, Nat.mod_lt _ (by decide)⟩) := by
  refine Eq.trans ?_ (four_at (fun l => s5 i b (ix2 r l)) l)
  unfold s8
  pointwise [k0_pay26]

/-- The queries of a step, first sequence. -/
theorem s9_at (T : Tabs b n qw kw) (r : Fin 128) (l : Fin 512) : s9 i b (ix2 r l)
    = rope (n * 128 + r.val) (hn (qin b 0 r ⟨l.val / 64, by omega⟩) qw) ⟨l.val % 64, Nat.mod_lt _ (by decide)⟩ * qs := by
  unfold s9
  pointwise [k0_pay27, k0_pay25, k0_pay26]
  refine congrArg₂ (· * ·) (rope_lane _ _ ⟨l.val % 64, Nat.mod_lt _ (by decide)⟩ _ _ _ _ _ _ (query_lane b T 0 r l _ rfl _ rfl) (fun hd => ?_)
    (fun hd hd' => ?_) ((s6_at i b r l).trans (tab3 i b T r l)) ((four_at (fun l => s4 i b (ix2 r l)) l).trans (tab4 i b T r l))
    ((four_at (fun l => s5 i b (ix2 r l)) l).trans (tab5 i b T r l))) named_qs
  · simp only at hd
    exact query_lane b T 0 r ⟨(l.val + 512 - 504) % 512, by omega⟩ _ (by simp; omega) _ (by simp; omega)
  · simp only at hd hd'
    exact query_lane b T 0 r ⟨(l.val + 512 - 8) % 512, by omega⟩ _ (by simp; omega) _ (by simp; omega)

/-- The queries of a step, second sequence. -/
theorem s13_at (T : Tabs b n qw kw) (r : Fin 128) (l : Fin 512) : s13 i b (ix2 r l)
    = rope (n * 128 + r.val) (hn (qin b 1 r ⟨l.val / 64, by omega⟩) qw) ⟨l.val % 64, Nat.mod_lt _ (by decide)⟩ * qs := by
  unfold s13 s10 s11 s12
  pointwise [k0_pay31, k0_pay30, k0_pay29, k0_pay28]
  refine congrArg₂ (· * ·) (rope_lane _ _ ⟨l.val % 64, Nat.mod_lt _ (by decide)⟩ _ _ _ _ _ _ (query_lane b T 1 r l _ rfl _ rfl) (fun hd => ?_)
    (fun hd hd' => ?_) ((s6_at i b r l).trans (tab3 i b T r l)) ((s7_at i b r l).trans (tab4 i b T r l))
    ((s8_at i b r l).trans (tab5 i b T r l))) named_qs
  · simp only at hd
    exact query_lane b T 1 r ⟨(l.val + 512 - 504) % 512, by omega⟩ _ (by simp; omega) _ (by simp; omega)
  · simp only at hd hd'
    exact query_lane b T 1 r ⟨(l.val + 512 - 8) % 512, by omega⟩ _ (by simp; omega) _ (by simp; omega)

/-- A buffer of two rows, filled by one store per row, read at an index. -/
theorem two_rows {D : ℕ} (h1 : ∀ a, (![1, 0, 0] : Fin 3 → ℕ) a + (![1, 128, D] : Fin 3 → ℕ) a ≤ (⟨3, ![2, 128, D]⟩ : Shape).size a)
    (h0 : ∀ a, (![0, 0, 0] : Fin 3 → ℕ) a + (![1, 128, D] : Fin 3 → ℕ) a ≤ (⟨3, ![2, 128, D]⟩ : Shape).size a)
    (w1 w0 : Vec Ideal ⟨3, ![1, 128, D]⟩ .f32) (e : Fin 2) (r : Fin 128) (l : Fin D) :
    View.canon (Val := Elt Ideal) (s := ⟨3, ![2, 128, D]⟩) (e := .f32) [⟨Rect.unit ![1, 0, 0] ![1, 128, D] h1, w1⟩, ⟨Rect.unit ![0, 0, 0] ![1, 128, D] h0, w0⟩] (ix3 e r l)
      = if e = 0 then w0 (ix3 0 r l) else w1 (ix3 0 r l) := by
  by_cases he : e = 0
  · subst he
    rw [if_pos rfl, View.canon_cons_of_not_mem]
    · have : (ix3 0 r l : (⟨3, ![2, 128, D]⟩ : Shape).Idx) = (Rect.unit (s := ⟨3, ![2, 128, D]⟩) ![0, 0, 0] ![1, 128, D] h0).emb (ix3 0 r l) := by
        funext a; apply Fin.ext; fin_cases a <;> simp [Rect.emb, Rect.unit, ix3]
      rw [this, View.canon_cons_emb]
    · intro hm
      obtain ⟨j, _, hj⟩ := (LoadRect.mem_set _).mp hm (0 : Fin 3)
      simp [Rect.unit, ix3] at hj
      omega
  · obtain rfl : e = 1 := by omega
    rw [if_neg he]
    have : (ix3 1 r l : (⟨3, ![2, 128, D]⟩ : Shape).Idx) = (Rect.unit (s := ⟨3, ![2, 128, D]⟩) ![1, 0, 0] ![1, 128, D] h1).emb (ix3 0 r l) := by
      funext a; apply Fin.ext; fin_cases a <;> simp [Rect.emb, Rect.unit, ix3]
    rw [this, View.canon_cons_emb]

/-- The keys of sequence `e` at row `r`, lane `l`. -/
def keyAt (b : Blk Ideal) (n : ℕ) (kw : EV 64) (e : Fin 2) (r l : Fin 128) : EReal :=
  rope (n * 128 + r.val) (hn (kin b e r ⟨l.val / 64, by omega⟩) kw) ⟨l.val % 64, Nat.mod_lt _ (by decide)⟩

theorem stepKw_at (T : Tabs b n qw kw) (e : Fin 2) (l r : Fin 128) : stepKw i b (ix3 e l r) = keyAt b n kw e r l := by
  refine (two_rows _ _ _ _ e _ _).trans ?_
  split
  · rename_i he; subst he
    refine Eq.trans ?_ (s19_at i b T r l)
    pointwise [k0_pay3]
  · rename_i he; obtain rfl : e = 1 := by omega
    refine Eq.trans ?_ (s20_at i b T r l)
    pointwise [k0_pay5]

theorem stepVw_at (e : Fin 2) (l r : Fin 128) : stepVw i b (ix3 e l r) = b.kv (ix3 e r ⟨128 + l.val, by omega⟩) := by
  refine (two_rows _ _ _ _ e _ _).trans ?_
  split
  · rename_i he; subst he
    refine Eq.trans ?_ (s21_at i b r l)
    pointwise [k0_pay4]
  · rename_i he; obtain rfl : e = 1 := by omega
    refine Eq.trans ?_ (s22_at i b r l)
    pointwise [k0_pay6]

theorem stepK_at (T : Tabs b n qw kw) (e : Fin 2) (r l : Fin 128) : stepK i b (ix3 e r l) = keyAt b n kw e r l := by
  refine (two_rows _ _ _ _ e _ _).trans ?_
  split
  · rename_i he; subst he
    refine Eq.trans ?_ (s19_at i b T r l)
    pointwise [k0_pay46]
  · rename_i he; obtain rfl : e = 1 := by omega
    refine Eq.trans ?_ (s20_at i b T r l)
    pointwise [k0_pay48]

theorem stepV_at (e : Fin 2) (r l : Fin 128) : stepV i b (ix3 e r l) = b.kv (ix3 e r ⟨128 + l.val, by omega⟩) := by
  refine (two_rows _ _ _ _ e _ _).trans ?_
  split
  · rename_i he; subst he
    refine Eq.trans ?_ (s21_at i b r l)
    pointwise [k0_pay47]
  · rename_i he; obtain rfl : e = 1 := by omega
    refine Eq.trans ?_ (s22_at i b r l)
    pointwise [k0_pay49]

theorem stepY_at (e : Fin 2) (r : Fin 128) (l : Fin 512) : stepY i b (ix3 e r l) = if e = 0 then s72 i b (ix2 r l) else s75 i b (ix2 r l) := by
  refine (two_rows _ _ _ _ e _ _).trans ?_
  split
  · pointwise [k0_pay107]
  · pointwise [k0_pay1]

theorem stepO_at (e : Fin 2) (r : Fin 128) (l : Fin 1024) : stepO i b (ix3 e r l) = s76 i b (ix2 ⟨e.val * 128 + r.val, by omega⟩ l) := by
  refine (two_rows _ _ _ _ e _ _).trans ?_
  split
  · rename_i he; subst he
    refine (sTop_at i b r l).trans ?_
    simp
  · rename_i he; obtain rfl : e = 1 := by omega
    refine (s77_at i b r l).trans ?_
    simp

end Cert.KernelIdeal.Row
-- ==== Proof.SoftRow.lean ====
module

public import proofs.«01_k».proof.Proof.QueryRow

@[expose] public section

set_option maxRecDepth 16384

noncomputable section

/-! One row of the attention with a sink: the softmax weights in base `e` dividing before the weighted sum, and in base two dividing after it. -/

namespace Cert.KernelIdeal.Row

open Idealize.ShloMosaic

/-- The largest of a row's scores and its sink. -/
def smax (s : EV 256) (z : EReal) : EReal := max (Finset.univ.sup s) z

/-- The softmax over the scores and the sink, applied to the values: each weight divided by the sum. -/
def soft (s : EV 256) (z : EReal) (v : EV 256) : EReal :=
  ∑ k, v k * Ideal.div (Ideal.exp (s k - smax s z)) ((∑ k, Ideal.exp (s k - smax s z)) + Ideal.exp (z - smax s z))

/-- The same in base two, the weighted sum times the reciprocal of the sum of weights. -/
def soft2 (s : EV 256) (z : EReal) (v : EV 256) : EReal :=
  (∑ k, v k * Ideal.exp2 (s k - smax s z)) * Ideal.div 1 ((∑ k, Ideal.exp2 (s k - smax s z)) + Ideal.exp2 (z - smax s z))

/-- A real number among the extended reals. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_sum {n : ℕ} (r : Fin n → ℝ) : (∑ k, (r k : EReal)) = ((∑ k, r k : ℝ) : EReal) := by
  have : ∀ S : Finset (Fin n), (∑ k ∈ S, (r k : EReal)) = ((∑ k ∈ S, r k : ℝ) : EReal) := by
    intro S
    induction S using Finset.induction_on with
    | empty => simp
    | insert a S ha ih => rw [Finset.sum_insert ha, Finset.sum_insert ha, ih, EReal.coe_add]
  exact this _

theorem IsReal.sum {n : ℕ} {f : Fin n → EReal} (h : ∀ k, IsReal (f k)) : IsReal (∑ k, f k) := by
  choose r hr using h
  exact ⟨∑ k, r k, by rw [Finset.sum_congr rfl fun k _ => hr k, coe_sum]⟩

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨a, rfl⟩ := h; exact EReal.coe_ne_top a

theorem sum_mul_real {n : ℕ} (f : Fin n → EReal) (c : ℝ) (hc : 0 ≤ c) : (∑ k, f k) * (c : EReal) = ∑ k, f k * (c : EReal) := by
  have h0 : (0 : EReal) ≤ (c : EReal) := by exact_mod_cast hc
  rw [mul_comm]
  have : ∀ S : Finset (Fin n), (c : EReal) * ∑ k ∈ S, f k = ∑ k ∈ S, f k * (c : EReal) := by
    intro S
    induction S using Finset.induction_on with
    | empty => simp
    | insert a S ha ih =>
      rw [Finset.sum_insert ha, Finset.sum_insert ha, EReal.left_distrib_of_nonneg_of_ne_top h0 (EReal.coe_ne_top c), ih, mul_comm]
  exact this _

theorem log_inv_pos : (0 : ℝ) < (Real.log 2)⁻¹ := inv_pos.mpr (Real.log_pos (by norm_num))

theorem mul_l2e_mono : Monotone fun x : EReal => x * l2e := fun x y h =>
  mul_le_mul_of_nonneg_right h (by unfold l2e; exact_mod_cast log_inv_pos.le)

theorem bot_mul_l2e : (⊥ : EReal) * l2e = ⊥ := EReal.bot_mul_coe_of_pos log_inv_pos

theorem top_mul_l2e : (⊤ : EReal) * l2e = ⊤ := EReal.top_mul_coe_of_pos log_inv_pos

theorem smax_l2e (s : EV 256) (z : EReal) : smax (fun k => s k * l2e) (z * l2e) = smax s z * l2e := by
  unfold smax
  rw [mul_l2e_mono.map_max, Finset.comp_sup_eq_sup_comp (fun x : EReal => x * l2e) (fun a b => mul_l2e_mono.map_max) bot_mul_l2e]
  rfl

theorem exp2_l2e (x M : EReal) : Ideal.exp2 (x * l2e - M * l2e) = Ideal.exp (x - M) := by
  induction x with
  | bot => rw [bot_mul_l2e, EReal.bot_sub, EReal.bot_sub]; rfl
  | top =>
    induction M with
    | bot => rw [bot_mul_l2e, top_mul_l2e]; rfl
    | top => rw [top_mul_l2e]; rfl
    | coe M => rw [top_mul_l2e, EReal.top_sub_coe, show (M : EReal) * l2e = ((M * (Real.log 2)⁻¹ : ℝ) : EReal) from rfl, EReal.top_sub_coe]; rfl
  | coe x =>
    induction M with
    | bot => rw [bot_mul_l2e, show (x : EReal) * l2e = ((x * (Real.log 2)⁻¹ : ℝ) : EReal) from rfl]; rfl
    | top => rw [top_mul_l2e, EReal.sub_top, EReal.sub_top]; rfl
    | coe M =>
      rw [show (x : EReal) * l2e - (M : EReal) * l2e = ((x * (Real.log 2)⁻¹ - M * (Real.log 2)⁻¹ : ℝ) : EReal) from rfl, ← EReal.coe_sub]
      show (((2 : ℝ) ^ (x * (Real.log 2)⁻¹ - M * (Real.log 2)⁻¹) : ℝ) : EReal) = ((Real.exp (x - M) : ℝ) : EReal)
      rw [Real.rpow_def_of_pos (by norm_num), ← sub_mul, mul_comm, mul_assoc, inv_mul_cancel₀ (Real.log_pos (by norm_num)).ne', mul_one]

theorem exp_sub_real {x : EReal} (hx : x ≠ ⊤) (M : ℝ) : ∃ r : ℝ, 0 ≤ r ∧ Ideal.exp (x - (M : EReal)) = (r : EReal) := by
  induction x with
  | bot => exact ⟨0, le_rfl, by rw [EReal.bot_sub]; rfl⟩
  | top => exact absurd rfl hx
  | coe x => exact ⟨Real.exp (x - M), (Real.exp_pos _).le, by rw [← EReal.coe_sub]; rfl⟩

/-- Dividing each weight or the weighted sum is the same where no score is `⊤` and the sink is a real. -/
theorem soft2_eq (s : EV 256) (z : EReal) (v : EV 256) (hz : IsReal z) (hs : ∀ k, s k ≠ ⊤) :
    soft2 (fun k => s k * l2e) (z * l2e) v = soft s z v := by
  unfold soft2 soft
  rw [smax_l2e]
  simp only [exp2_l2e]
  obtain ⟨σ, rfl⟩ := hz
  have hM : ∃ M : ℝ, smax s (σ : EReal) = (M : EReal) := by
    have h1 : smax s (σ : EReal) ≠ ⊥ := fun h => by
      have : (σ : EReal) ≤ ⊥ := h ▸ le_max_right _ _
      exact EReal.coe_ne_bot σ (le_bot_iff.mp this)
    have h2 : smax s (σ : EReal) ≠ ⊤ := by
      refine ne_of_lt (max_lt ?_ (EReal.coe_lt_top σ))
      exact (Finset.sup_lt_iff bot_lt_top).mpr fun k _ => lt_top_iff_ne_top.mpr (hs k)
    exact ⟨_, (EReal.coe_toReal h2 h1).symm⟩
  obtain ⟨M, hM⟩ := hM
  rw [hM]
  choose r hr0 hr using fun k => exp_sub_real (hs k) M
  simp only [hr]
  have hzz : Ideal.exp ((σ : EReal) - (M : EReal)) = ((Real.exp (σ - M) : ℝ) : EReal) := rfl
  have hD : (∑ k, (r k : EReal)) + Ideal.exp ((σ : EReal) - (M : EReal)) = (((∑ k, r k) + Real.exp (σ - M) : ℝ) : EReal) := by
    rw [hzz, coe_sum, ← EReal.coe_add]
  rw [hD]
  have hpos : 0 < (∑ k, r k) + Real.exp (σ - M) := add_pos_of_nonneg_of_pos (Finset.sum_nonneg fun k _ => hr0 k) (Real.exp_pos _)
  generalize (∑ k, r k) + Real.exp (σ - M) = D at hpos
  have hne : (D : EReal) ≠ 0 := by exact_mod_cast hpos.ne'
  simp only [Ideal.div, if_neg hne]
  rw [one_mul, ← EReal.coe_inv, sum_mul_real _ _ (inv_pos.mpr hpos).le]
  exact Finset.sum_congr rfl fun k _ => mul_assoc _ _ _

theorem qs_eq : qs = (((1 / 8 : ℝ)) : EReal) * l2e := by
  unfold qs l2e
  rw [← EReal.coe_mul]
  congr 1
  norm_num

theorem ofBits_eps : Ideal.ofBits .f32 0x358637BD#32 = ((8796093 / 8796093022208 : ℝ) : EReal) := by
  simp [Ideal.ofBits, Ideal.ieee, -EReal.coe_mul]; norm_num

/-- A head after its norm is real where its weight is: an infinite entry makes the inverse root zero. -/
theorem hn_real (h w : EV 64) (hw : ∀ d, IsReal (w d)) (d : Fin 64) : IsReal (hn h w d) := by
  unfold hn
  refine IsReal.mul ?_ (hw d)
  by_cases hf : ∀ j, IsReal (h j)
  · refine (hf d).mul ?_
    choose r hr using hf
    have e : (∑ j, h j * h j) = ((∑ j, r j * r j : ℝ) : EReal) := by
      rw [← coe_sum]
      exact Finset.sum_congr rfl fun j _ => by rw [hr j, ← EReal.coe_mul]
    rw [e, ofBits_64, ofBits_eps, Ideal.div, if_neg (by norm_num), ← EReal.coe_inv, ← EReal.coe_mul, ← EReal.coe_add]
    have hp : 0 < (∑ j, r j * r j) * (64 : ℝ)⁻¹ + 8796093 / 8796093022208 :=
      add_pos_of_nonneg_of_pos (mul_nonneg (Finset.sum_nonneg fun j _ => mul_self_nonneg _) (by norm_num)) (by norm_num)
    generalize (∑ j, r j * r j) * (64 : ℝ)⁻¹ + 8796093 / 8796093022208 = q at hp
    show IsReal (if q < 0 then ⊥ else if q = 0 then ⊤ else (((Real.sqrt q)⁻¹ : ℝ) : EReal))
    rw [if_neg hp.not_gt, if_neg hp.ne']
    exact isReal_coe _
  · push Not at hf
    obtain ⟨j, hj⟩ := hf
    have hjj : h j * h j = ⊤ := by
      have : h j = ⊥ ∨ h j = ⊤ := by
        generalize h j = x at hj
        induction x with
        | bot => exact .inl rfl
        | top => exact .inr rfl
        | coe x => exact absurd (isReal_coe x) hj
      rcases this with q | q <;> rw [q] <;> rfl
    have hnn : ∀ x : EReal, 0 ≤ x * x := by
      intro x
      induction x with
      | bot => exact le_top
      | top => exact le_top
      | coe x => rw [← EReal.coe_mul]; exact_mod_cast mul_self_nonneg x
    have hsum : (∑ j, h j * h j) = ⊤ := by
      refine top_le_iff.mp ?_
      rw [← hjj]
      exact Finset.single_le_sum (f := fun j => h j * h j) (fun k _ => hnn _) (Finset.mem_univ j)
    rw [hsum, ofBits_64, ofBits_eps, Ideal.div, if_neg (by norm_num), ← EReal.coe_inv, EReal.top_mul_coe_of_pos (by norm_num), EReal.top_add_coe]
    show IsReal (h d * 0)
    rw [mul_zero]
    exact isReal_zero

theorem rope_real (p : ℕ) (h : EV 64) (hh : ∀ d, IsReal (h d)) (d : Fin 64) : IsReal (rope p h d) := by
  unfold rope
  split
  · exact ((hh _).mul (isReal_coe _)).sub ((hh _).mul (isReal_coe _))
  · split
    · exact ((hh _).mul (isReal_coe _)).add ((hh _).mul (isReal_coe _))
    · exact hh _

end Cert.KernelIdeal.Row
-- ==== Proof.KScore.lean ====
module

public import proofs.«01_k».proof.Proof.SoftRow

@[expose] public section

set_option maxRecDepth 16384

noncomputable section

/-! The attention's operands read at an index: the keys and values of two blocks, the masked queries, the sinks, and the scores. -/

namespace Cert.KernelIdeal.Row

open Idealize.ShloMosaic Cert.KernelIdeal Cert.KernelIdeal.Gen

theorem slt_word (n : ℕ) (h : n < 2 ^ 30) : IntOp.cmpi CmpIPredicate.slt (BitVec.ofNat 32 n) 64#32 = if n < 64 then 1#1 else 0#1 := by
  refine ofBool_ite _ _ ?_
  rw [BitVec.slt_iff_toInt_lt, BitVec.toInt_ofNat']
  simp only [Int.bmod]
  have : (64#32).toInt = 64 := rfl
  rw [this]
  omega

theorem select_ite {α : Type} (q : Prop) [Decidable q] (x y : α) : Scalar.select (if q then 1#1 else 0#1) x y = if q then x else y := by
  split <;> rfl

/-- The first key head, repeated over the four groups of 64 lanes. -/
theorem first_head (f : EV 128) (l : Fin 256) :
    (if h : l.val < 128 then (if l.val < 64 then f ⟨l.val, h⟩ else f ⟨(l.val + 128 - 64) % 128, by omega⟩)
      else if l.val - 128 < 64 then f ⟨l.val - 128, by omega⟩ else f ⟨(l.val - 128 + 128 - 64) % 128, by omega⟩)
      = f ⟨l.val % 64, by omega⟩ := by
  split_ifs <;> refine congrArg f (Fin.ext ?_) <;> dsimp only <;> omega

/-- The second key head, repeated over the four groups of 64 lanes. -/
theorem second_head (f : EV 128) (l : Fin 256) :
    (if h : l.val < 128 then (if l.val < 64 then f ⟨(l.val + 128 - 64) % 128, by omega⟩ else f ⟨l.val, h⟩)
      else if l.val - 128 < 64 then f ⟨(l.val - 128 + 128 - 64) % 128, by omega⟩ else f ⟨l.val - 128, by omega⟩)
      = f ⟨64 + l.val % 64, by omega⟩ := by
  split_ifs <;> refine congrArg f (Fin.ext ?_) <;> dsimp only <;> omega

theorem pay61_at (v : FVec Ideal S256x128 .f32) (p l : Fin 256) :
    k0_pay61 (F := Ideal) v (ix2 p l) = v (ix2 p ⟨l.val % 64, by omega⟩) := by
  refine Eq.trans ?_ (first_head (fun l => v (ix2 p l)) l)
  pointwise [k0_pay61, k0_pay54, k0_pay59]
  rw [slt_word _ (by omega), slt_word _ (by omega)]
  simp only [select_ite]

theorem pay62_at (v : FVec Ideal S256x128 .f32) (p l : Fin 256) :
    k0_pay62 (F := Ideal) v (ix2 p l) = v (ix2 p ⟨64 + l.val % 64, by omega⟩) := by
  refine Eq.trans ?_ (second_head (fun l => v (ix2 p l)) l)
  pointwise [k0_pay62, k0_pay54, k0_pay59]
  rw [slt_word _ (by omega), slt_word _ (by omega)]
  simp only [select_ite]

theorem pay63_at (v : FVec Ideal S256x128 .f32) (p l : Fin 256) :
    k0_pay63 (F := Ideal) v (ix2 p l) = v (ix2 p ⟨l.val % 64, by omega⟩) := by
  refine Eq.trans ?_ (first_head (fun l => v (ix2 p l)) l)
  pointwise [k0_pay63, k0_pay54, k0_pay60]
  rw [slt_word _ (by omega), slt_word _ (by omega)]
  simp only [select_ite]

theorem pay64_at (v : FVec Ideal S256x128 .f32) (p l : Fin 256) :
    k0_pay64 (F := Ideal) v (ix2 p l) = v (ix2 p ⟨64 + l.val % 64, by omega⟩) := by
  refine Eq.trans ?_ (second_head (fun l => v (ix2 p l)) l)
  pointwise [k0_pay64, k0_pay54, k0_pay60]
  rw [slt_word _ (by omega), slt_word _ (by omega)]
  simp only [select_ite]

/-- Four groups of 128 rows, one head of 64 lanes kept in each. -/
theorem four_heads (q : Fin 128 → EReal) (a0 a1 a2 a3 : EReal) (l : ℕ) (c : Fin 512)
    (h0 : a0 = if (0 : ℕ) = l then (1 : EReal) else 0) (h1 : a1 = if (1 : ℕ) = l then (1 : EReal) else 0)
    (h2 : a2 = if (2 : ℕ) = l then (1 : EReal) else 0) (h3 : a3 = if (3 : ℕ) = l then (1 : EReal) else 0) :
    (if h : c.val < 128 then q ⟨c.val, h⟩ * a0
    else if h : c.val - 128 < 128 then q ⟨c.val - 128, h⟩ * a1
    else if h : c.val - 128 - 128 < 128 then q ⟨c.val - 128 - 128, h⟩ * a2
    else q ⟨c.val - 128 - 128 - 128, by omega⟩ * a3)
    = q ⟨c.val % 128, by omega⟩ * (if l = c.val / 128 then (1 : EReal) else 0) := by
  subst h0 h1 h2 h3
  have hq : ∀ (a b : Fin 128), a.val = b.val → q a = q b := fun a b p => by rw [Fin.ext p]
  split_ifs <;> first | (exfalso; omega) | (refine congrArg₂ (· * ·) (hq _ _ ?_) rfl; dsimp only; omega)

theorem four_sinks (v : EV 8) (o : ℕ) (ho : o ≤ 4) (c : Fin 512) :
    (if _ : c.val < 128 then v ⟨o, by omega⟩ else if _ : c.val - 128 < 128 then v ⟨o + 1, by omega⟩
      else if _ : c.val - 128 - 128 < 128 then v ⟨o + 2, by omega⟩ else v ⟨o + 3, by omega⟩) = v ⟨o + c.val / 128, by omega⟩ := by
  split_ifs <;> refine congrArg v (Fin.ext ?_) <;> dsimp only <;> omega

variable (i : grid0.Coords) (b : Blk Ideal) {n : ℕ} {qw kw : EV 64}

theorem s47_at (c : Fin 512) : s47 i b (ix2 0 c) = b.sk (ix2 0 ⟨0 + c.val / 128, by omega⟩) * l2e := by
  refine Eq.trans ?_ (four_sinks (fun j => b.sk (ix2 0 j) * l2e) 0 (by omega) c)
  unfold s47 s30
  rw [← named_l2e]
  pointwise [k0_pay73, k0_pay53]

theorem s51_at (c : Fin 512) : s51 i b (ix2 0 c) = b.sk (ix2 0 ⟨4 + c.val / 128, by omega⟩) * l2e := by
  refine Eq.trans ?_ (four_sinks (fun j => b.sk (ix2 0 j) * l2e) 4 (by omega) c)
  unfold s51 s48 s49 s50 s30
  rw [← named_l2e]
  pointwise [k0_pay77, k0_pay74, k0_pay75, k0_pay76, k0_pay53]

theorem s52_at (c : Fin 512) : s52 i b (ix2 0 c) = b.sk (ix2 0 ⟨0 + c.val / 128, by omega⟩) * l2e := by
  refine Eq.trans ?_ (four_sinks (fun j => b.sk (ix2 0 j) * l2e) 0 (by omega) c)
  unfold s52 s30
  rw [← named_l2e]
  pointwise [k0_pay78, k0_pay53]

theorem s53_at (c : Fin 512) : s53 i b (ix2 0 c) = b.sk (ix2 0 ⟨4 + c.val / 128, by omega⟩) * l2e := by
  refine Eq.trans ?_ (four_sinks (fun j => b.sk (ix2 0 j) * l2e) 4 (by omega) c)
  unfold s53 s30
  rw [← named_l2e]
  pointwise [k0_pay79, k0_pay53]

theorem s43_at (T : Tabs b n qw kw) (c : Fin 512) (l : Fin 256) : s43 i b (ix2 c l)
    = s9 i b (ix2 ⟨c.val % 128, by omega⟩ ⟨0 + l.val, by omega⟩) * (if l.val / 64 = c.val / 128 then (1 : EReal) else 0) := by
  refine Eq.trans ?_ (four_heads (fun r => s9 i b (ix2 r ⟨0 + l.val, by omega⟩)) (b.on (ix2 0 l)) (b.on (ix2 64 l)) (b.on (ix2 128 l)) (b.on (ix2 192 l)) (l.val / 64) c
    (T.on 0 l) (T.on 64 l) (T.on 128 l) (T.on 192 l))
  unfold s43 s41 s31 s32 s33 s34
  pointwise [k0_pay69, k0_pay67, k0_pay55, k0_pay56, k0_pay57, k0_pay58]

theorem s44_at (T : Tabs b n qw kw) (c : Fin 512) (l : Fin 256) : s44 i b (ix2 c l)
    = s9 i b (ix2 ⟨c.val % 128, by omega⟩ ⟨256 + l.val, by omega⟩) * (if l.val / 64 = c.val / 128 then (1 : EReal) else 0) := by
  refine Eq.trans ?_ (four_heads (fun r => s9 i b (ix2 r ⟨256 + l.val, by omega⟩)) (b.on (ix2 0 l)) (b.on (ix2 64 l)) (b.on (ix2 128 l)) (b.on (ix2 192 l)) (l.val / 64) c
    (T.on 0 l) (T.on 64 l) (T.on 128 l) (T.on 192 l))
  unfold s44 s42 s31 s32 s33 s34
  pointwise [k0_pay70, k0_pay68, k0_pay55, k0_pay56, k0_pay57, k0_pay58]

theorem s45_at (T : Tabs b n qw kw) (c : Fin 512) (l : Fin 256) : s45 i b (ix2 c l)
    = s13 i b (ix2 ⟨c.val % 128, by omega⟩ ⟨0 + l.val, by omega⟩) * (if l.val / 64 = c.val / 128 then (1 : EReal) else 0) := by
  refine Eq.trans ?_ (four_heads (fun r => s13 i b (ix2 r ⟨0 + l.val, by omega⟩)) (b.on (ix2 0 l)) (b.on (ix2 64 l)) (b.on (ix2 128 l)) (b.on (ix2 192 l)) (l.val / 64) c
    (T.on 0 l) (T.on 64 l) (T.on 128 l) (T.on 192 l))
  unfold s45 s31 s32 s33 s34
  pointwise [k0_pay71, k0_pay55, k0_pay56, k0_pay57, k0_pay58]

theorem s46_at (T : Tabs b n qw kw) (c : Fin 512) (l : Fin 256) : s46 i b (ix2 c l)
    = s13 i b (ix2 ⟨c.val % 128, by omega⟩ ⟨256 + l.val, by omega⟩) * (if l.val / 64 = c.val / 128 then (1 : EReal) else 0) := by
  refine Eq.trans ?_ (four_heads (fun r => s13 i b (ix2 r ⟨256 + l.val, by omega⟩)) (b.on (ix2 0 l)) (b.on (ix2 64 l)) (b.on (ix2 128 l)) (b.on (ix2 192 l)) (l.val / 64) c
    (T.on 0 l) (T.on 64 l) (T.on 128 l) (T.on 192 l))
  unfold s46 s31 s32 s33 s34
  pointwise [k0_pay72, k0_pay55, k0_pay56, k0_pay57, k0_pay58]

end Cert.KernelIdeal.Row
-- ==== Proof.KSoft.lean ====
module

public import proofs.«01_k».proof.Proof.SoftRow

@[expose] public section

set_option maxRecDepth 16384

noncomputable section

/-! The kernel's softmax read at an index: the largest score of a column, the exponentials in base two, their sum, and the weighted values. -/

namespace Cert.KernelIdeal.Row

open Idealize.ShloMosaic Cert.KernelIdeal Cert.KernelIdeal.Gen

/-- The fold of the maximum from `-∞` is the supremum. -/
theorem fold_sup (f : EV 256) : Finset.fold max (Ideal.ofBits .f32 0xFF800000#32) f Finset.univ = Finset.univ.sup f := by
  rw [ofBits_neg_inf]
  rfl

theorem pay86_at (z : FVec Ideal S1x512 .f32) (s : FVec Ideal S256x512 .f32) (c : Fin 512) :
    k0_pay86 (F := Ideal) z s (ix2 0 c) = smax (fun p => s (ix2 p c)) (z (ix2 0 c)) := by
  unfold smax
  rw [← fold_sup]
  pointwise [k0_pay86]

theorem pay90_at (z : FVec Ideal S1x512 .f32) (s : FVec Ideal S256x512 .f32) (p : Fin 256) (c : Fin 512) :
    k0_pay90 (F := Ideal) z s (ix2 p c) = Ideal.exp2 (s (ix2 p c) - smax (fun p => s (ix2 p c)) (z (ix2 0 c))) := by
  rw [← pay86_at]
  pointwise [k0_pay90]
  rfl

theorem pay95_at (z : FVec Ideal S1x512 .f32) (s : FVec Ideal S256x512 .f32) (c : Fin 512) :
    k0_pay95 (F := Ideal) z s (ix2 0 c) = (∑ p : Fin 256, Ideal.exp2 (s (ix2 p c) - smax (fun p => s (ix2 p c)) (z (ix2 0 c))))
      + Ideal.exp2 (z (ix2 0 c) - smax (fun p => s (ix2 p c)) (z (ix2 0 c))) := by
  rw [← pay86_at z s c]
  pointwise [k0_pay95, k0_pay90]
  rfl

theorem pay87_at (z : FVec Ideal S1x512 .f32) (s : FVec Ideal S256x512 .f32) (c : Fin 512) :
    k0_pay87 (F := Ideal) z s (ix2 0 c) = smax (fun p => s (ix2 p c)) (z (ix2 0 c)) := by
  unfold smax
  rw [← fold_sup]
  pointwise [k0_pay87]

theorem pay91_at (z : FVec Ideal S1x512 .f32) (s : FVec Ideal S256x512 .f32) (p : Fin 256) (c : Fin 512) :
    k0_pay91 (F := Ideal) z s (ix2 p c) = Ideal.exp2 (s (ix2 p c) - smax (fun p => s (ix2 p c)) (z (ix2 0 c))) := by
  rw [← pay87_at]
  pointwise [k0_pay91]
  rfl

theorem pay96_at (z : FVec Ideal S1x512 .f32) (s : FVec Ideal S256x512 .f32) (c : Fin 512) :
    k0_pay96 (F := Ideal) z s (ix2 0 c) = (∑ p : Fin 256, Ideal.exp2 (s (ix2 p c) - smax (fun p => s (ix2 p c)) (z (ix2 0 c))))
      + Ideal.exp2 (z (ix2 0 c) - smax (fun p => s (ix2 p c)) (z (ix2 0 c))) := by
  rw [← pay87_at z s c]
  pointwise [k0_pay96, k0_pay91]
  rfl

theorem pay88_at (z : FVec Ideal S1x512 .f32) (s : FVec Ideal S256x512 .f32) (c : Fin 512) :
    k0_pay88 (F := Ideal) z s (ix2 0 c) = smax (fun p => s (ix2 p c)) (z (ix2 0 c)) := by
  unfold smax
  rw [← fold_sup]
  pointwise [k0_pay88]

theorem pay92_at (z : FVec Ideal S1x512 .f32) (s : FVec Ideal S256x512 .f32) (p : Fin 256) (c : Fin 512) :
    k0_pay92 (F := Ideal) z s (ix2 p c) = Ideal.exp2 (s (ix2 p c) - smax (fun p => s (ix2 p c)) (z (ix2 0 c))) := by
  rw [← pay88_at]
  pointwise [k0_pay92]
  rfl

theorem pay97_at (z : FVec Ideal S1x512 .f32) (s : FVec Ideal S256x512 .f32) (c : Fin 512) :
    k0_pay97 (F := Ideal) z s (ix2 0 c) = (∑ p : Fin 256, Ideal.exp2 (s (ix2 p c) - smax (fun p => s (ix2 p c)) (z (ix2 0 c))))
      + Ideal.exp2 (z (ix2 0 c) - smax (fun p => s (ix2 p c)) (z (ix2 0 c))) := by
  rw [← pay88_at z s c]
  pointwise [k0_pay97, k0_pay92]
  rfl

theorem pay89_at (z : FVec Ideal S1x512 .f32) (s : FVec Ideal S256x512 .f32) (c : Fin 512) :
    k0_pay89 (F := Ideal) z s (ix2 0 c) = smax (fun p => s (ix2 p c)) (z (ix2 0 c)) := by
  unfold smax
  rw [← fold_sup]
  pointwise [k0_pay89]

theorem pay93_at (z : FVec Ideal S1x512 .f32) (s : FVec Ideal S256x512 .f32) (p : Fin 256) (c : Fin 512) :
    k0_pay93 (F := Ideal) z s (ix2 p c) = Ideal.exp2 (s (ix2 p c) - smax (fun p => s (ix2 p c)) (z (ix2 0 c))) := by
  rw [← pay89_at]
  pointwise [k0_pay93]
  rfl

/-- The weighted values of one column times the reciprocal of its sum. -/
def wv (v : EV 256) (e : EV 256) (d : EReal) : EReal := (∑ p : Fin 256, v p * e p) * Ideal.div 1 d

theorem wv_soft (s : EV 256) (z : EReal) (v : EV 256) :
    wv v (fun p => Ideal.exp2 (s p - smax s z)) ((∑ p : Fin 256, Ideal.exp2 (s p - smax s z)) + Ideal.exp2 (z - smax s z)) = soft2 s z v := rfl

theorem pay98_at (v : FVec Ideal S256x128 .bf16) (e : FVec Ideal S256x512 .f32) (d : FVec Ideal S1x512 .f32) (l : Fin 64) (c : Fin 512) :
    k0_pay98 (F := Ideal) v e d (ix2 l c) = wv (fun p => v (ix2 p ⟨l.val, by omega⟩)) (fun p => e (ix2 p c)) (d (ix2 0 c)) := by
  unfold wv
  pointwise [k0_pay98, dot_S256x128_S256x512_S128x512_0_0_1_1_n_n]

theorem pay99_at (v : FVec Ideal S256x128 .bf16) (z m : FVec Ideal S1x512 .f32) (e : FVec Ideal S256x512 .f32) (l : Fin 64) (c : Fin 512) :
    k0_pay99 (F := Ideal) v z m e (ix2 l c) = wv (fun p => v (ix2 p ⟨64 + l.val, by omega⟩)) (fun p => e (ix2 p c))
      ((∑ p : Fin 256, e (ix2 p c)) + Ideal.exp2 (z (ix2 0 c) - m (ix2 0 c))) := by
  unfold wv
  pointwise [k0_pay99, dot_S256x128_S256x512_S128x512_0_0_1_1_n_n]
  rfl

/-- Eight heads of 64 lanes, four from each of two arrays whose columns are the four groups of 128 rows. -/
theorem eight (f g : Fin 64 → Fin 512 → EReal) (r : Fin 128) (l : Fin 512) :
    (if h : l.val < 64 then f ⟨l.val, h⟩ ⟨r.val, by omega⟩
    else if h : l.val - 64 < 64 then f ⟨l.val - 64, h⟩ ⟨128 + r.val, by omega⟩
    else if h : l.val - 64 - 64 < 64 then f ⟨l.val - 64 - 64, h⟩ ⟨256 + r.val, by omega⟩
    else if h : l.val - 64 - 64 - 64 < 64 then f ⟨l.val - 64 - 64 - 64, h⟩ ⟨384 + r.val, by omega⟩
    else if h : l.val - 64 - 64 - 64 - 64 < 64 then g ⟨l.val - 64 - 64 - 64 - 64, h⟩ ⟨r.val, by omega⟩
    else if h : l.val - 64 - 64 - 64 - 64 - 64 < 64 then g ⟨l.val - 64 - 64 - 64 - 64 - 64, h⟩ ⟨128 + r.val, by omega⟩
    else if h : l.val - 64 - 64 - 64 - 64 - 64 - 64 < 64 then g ⟨l.val - 64 - 64 - 64 - 64 - 64 - 64, h⟩ ⟨256 + r.val, by omega⟩
    else g ⟨l.val - 64 - 64 - 64 - 64 - 64 - 64 - 64, by omega⟩ ⟨384 + r.val, by omega⟩)
    = if l.val < 256 then f ⟨l.val % 64, by omega⟩ ⟨l.val / 64 % 4 * 128 + r.val, by omega⟩
      else g ⟨l.val % 64, by omega⟩ ⟨l.val / 64 % 4 * 128 + r.val, by omega⟩ := by
  have hf : ∀ (a b : Fin 64) (x y : Fin 512), a.val = b.val → x.val = y.val → f a x = f b y := fun a b x y p q => by rw [Fin.ext p, Fin.ext q]
  have hg : ∀ (a b : Fin 64) (x y : Fin 512), a.val = b.val → x.val = y.val → g a x = g b y := fun a b x y p q => by rw [Fin.ext p, Fin.ext q]
  split_ifs <;> first | (exfalso; omega) | (refine hf _ _ _ _ ?_ ?_ <;> dsimp only <;> omega) | (refine hg _ _ _ _ ?_ ?_ <;> dsimp only <;> omega)

theorem pay101_at (v : FVec Ideal S256x128 .bf16) (e0 e1 : FVec Ideal S256x512 .f32) (d0 d1 : FVec Ideal S1x512 .f32) (r : Fin 128) (l : Fin 512) :
    k0_pay101 (F := Ideal) v e0 e1 d0 d1 (ix2 r l)
      = if l.val < 256 then (fun (a : Fin 64) (c : Fin 512) => wv (fun p => v (ix2 p ⟨a.val, by omega⟩)) (fun p => e0 (ix2 p c)) (d0 (ix2 0 c))) ⟨l.val % 64, by omega⟩ ⟨l.val / 64 % 4 * 128 + r.val, by omega⟩
        else (fun (a : Fin 64) (c : Fin 512) => wv (fun p => v (ix2 p ⟨64 + a.val, by omega⟩)) (fun p => e1 (ix2 p c)) (d1 (ix2 0 c))) ⟨l.val % 64, by omega⟩ ⟨l.val / 64 % 4 * 128 + r.val, by omega⟩ := by
  refine Eq.trans ?_ (eight (fun (a : Fin 64) (c : Fin 512) => wv (fun p => v (ix2 p ⟨a.val, by omega⟩)) (fun p => e0 (ix2 p c)) (d0 (ix2 0 c)))
    (fun (a : Fin 64) (c : Fin 512) => wv (fun p => v (ix2 p ⟨64 + a.val, by omega⟩)) (fun p => e1 (ix2 p c)) (d1 (ix2 0 c))) r l)
  unfold wv
  pointwise [k0_pay101, dot_S256x128_S256x512_S128x512_0_0_1_1_n_n]

theorem pay102_at (v : FVec Ideal S256x128 .bf16) (e : FVec Ideal S256x512 .f32) (d : FVec Ideal S1x512 .f32) (a : Fin 64) (r : Fin 128) :
    k0_pay102 (F := Ideal) v e d (ix2 a r) = k0_pay98 (F := Ideal) v e d (ix2 a ⟨r.val, by omega⟩) := by
  unfold k0_pay102
  generalize k0_pay98 (F := Ideal) v e d = f
  pointwise

theorem pay103_at (v : FVec Ideal S256x128 .bf16) (e : FVec Ideal S256x512 .f32) (d : FVec Ideal S1x512 .f32) (a : Fin 64) (r : Fin 128) :
    k0_pay103 (F := Ideal) v e d (ix2 a r) = k0_pay98 (F := Ideal) v e d (ix2 a ⟨128 + r.val, by omega⟩) := by
  unfold k0_pay103
  generalize k0_pay98 (F := Ideal) v e d = f
  pointwise

set_option maxHeartbeats 2000000 in
theorem pay104_at (s w : FVec Ideal S64x512 .f32) (a a' : FVec Ideal S64x128 .f32) (h : ∀ (x : Fin 64) (r : Fin 128), a (ix2 x r) = s (ix2 x ⟨r.val, by omega⟩))
    (h' : ∀ (x : Fin 64) (r : Fin 128), a' (ix2 x r) = s (ix2 x ⟨128 + r.val, by omega⟩)) (r : Fin 128) (l : Fin 512) :
    k0_pay104 (F := Ideal) s w a a' (ix2 r l)
      = if l.val < 256 then (fun (a : Fin 64) (c : Fin 512) => s (ix2 a c)) ⟨l.val % 64, by omega⟩ ⟨l.val / 64 % 4 * 128 + r.val, by omega⟩
        else (fun (a : Fin 64) (c : Fin 512) => w (ix2 a c)) ⟨l.val % 64, by omega⟩ ⟨l.val / 64 % 4 * 128 + r.val, by omega⟩ := by
  refine Eq.trans ?_ (eight (fun (a : Fin 64) (c : Fin 512) => s (ix2 a c)) (fun (a : Fin 64) (c : Fin 512) => w (ix2 a c)) r l)
  unfold k0_pay104
  pointwise
  simp only [h, h']

variable (i : grid0.Coords) (b : Blk Ideal)

/-- The attention rows of the first sequence: a softmax in base two over the scores of each column. -/
theorem s72_at (r : Fin 128) (l : Fin 512) : s72 i b (ix2 r l)
    = if l.val < 256 then soft2 (fun p => s55 i b (ix2 p ⟨l.val / 64 % 4 * 128 + r.val, by omega⟩)) (s47 i b (ix2 0 ⟨l.val / 64 % 4 * 128 + r.val, by omega⟩))
          (fun p => s39 i b (ix2 p ⟨l.val % 64, by omega⟩))
      else soft2 (fun p => s56 i b (ix2 p ⟨l.val / 64 % 4 * 128 + r.val, by omega⟩)) (s51 i b (ix2 0 ⟨l.val / 64 % 4 * 128 + r.val, by omega⟩))
          (fun p => s39 i b (ix2 p ⟨64 + l.val % 64, by omega⟩)) := by
  unfold s72 s61 s62 s66 s67
  rw [pay101_at]
  simp only [pay90_at, pay91_at, pay95_at, pay96_at]
  rfl

/-- The same of the second sequence. -/
theorem s75_at (r : Fin 128) (l : Fin 512) : s75 i b (ix2 r l)
    = if l.val < 256 then soft2 (fun p => s57 i b (ix2 p ⟨l.val / 64 % 4 * 128 + r.val, by omega⟩)) (s52 i b (ix2 0 ⟨l.val / 64 % 4 * 128 + r.val, by omega⟩))
          (fun p => s40 i b (ix2 p ⟨l.val % 64, by omega⟩))
      else soft2 (fun p => s58 i b (ix2 p ⟨l.val / 64 % 4 * 128 + r.val, by omega⟩)) (s53 i b (ix2 0 ⟨l.val / 64 % 4 * 128 + r.val, by omega⟩))
          (fun p => s40 i b (ix2 p ⟨64 + l.val % 64, by omega⟩)) := by
  unfold s75 s69 s70 s73 s74 s60 s63 s64 s68
  rw [pay104_at _ _ _ _ (pay102_at _ _ _) (pay103_at _ _ _)]
  simp only [pay98_at, pay99_at, pay92_at, pay93_at, pay97_at, pay89_at]
  rfl

end Cert.KernelIdeal.Row
-- ==== Proof.KAttn.lean ====
module

public import proofs.«01_k».proof.Proof.KScore
public import proofs.«01_k».proof.Proof.KSoft

@[expose] public section

set_option maxRecDepth 16384

noncomputable section

/-! One step's attention rows: the softmax in base two of the scores against the two blocks of keys. -/

namespace Cert.KernelIdeal.Row

open Idealize.ShloMosaic Cert.KernelIdeal Cert.KernelIdeal.Gen

/-- The keys of the previous block followed by those of this one. -/
def kcat (b : Blk Ideal) (n : ℕ) (kw : EV 64) (e : Fin 2) (p : Fin 256) (l : Fin 128) : EReal :=
  if h : p.val < 128 then b.kp (ix3 e ⟨p.val, h⟩ l) else keyAt b n kw e ⟨p.val - 128, by omega⟩ l

/-- The values of the previous block followed by those of this one. -/
def vcat (b : Blk Ideal) (e : Fin 2) (p : Fin 256) (l : Fin 128) : EReal :=
  if h : p.val < 128 then b.vp (ix3 e ⟨p.val, h⟩ l) else b.kv (ix3 e ⟨p.val - 128, by omega⟩ ⟨128 + l.val, by omega⟩)

/-- One query head after its norm and rotation. -/
def qhead (b : Blk Ideal) (n : ℕ) (qw : EV 64) (e : Fin 2) (r : Fin 128) (h : Fin 8) : EV 64 :=
  rope (n * 128 + r.val) (hn (qin b e r h) qw)

/-- The score of key `p` in column `c` of the block of one key head, before the bias. -/
def dotS (b : Blk Ideal) (n : ℕ) (qw kw : EV 64) (e kh : Fin 2) (p : Fin 256) (c : Fin 512) : EReal :=
  ∑ d : Fin 64, kcat b n kw e p ⟨64 * kh.val + d.val, by omega⟩ * (qhead b n qw e ⟨c.val % 128, by omega⟩ ⟨4 * kh.val + c.val / 128, by omega⟩ d * qs)

variable (i : grid0.Coords) (b : Blk Ideal) {n : ℕ} {qw kw : EV 64}

theorem s23_at (T : Tabs b n qw kw) (p : Fin 256) (l : Fin 128) : s23 i b (ix2 p l) = kcat b n kw 0 p l := by
  have h := s19_at i b T
  unfold s19 at h
  unfold s23 kcat keyAt
  pointwise [k0_pay42]
  simp only [h]

theorem s24_at (T : Tabs b n qw kw) (p : Fin 256) (l : Fin 128) : s24 i b (ix2 p l) = kcat b n kw 1 p l := by
  have h := s20_at i b T
  unfold s20 at h
  unfold s24 kcat keyAt
  pointwise [k0_pay43]
  simp only [h]

theorem s39_at (p : Fin 256) (l : Fin 128) : s39 i b (ix2 p l) = vcat b 0 p l := by
  unfold s39 s25 vcat
  pointwise [k0_pay65, k0_pay44]
  simp only [s21_at i b]

theorem s40_at (p : Fin 256) (l : Fin 128) : s40 i b (ix2 p l) = vcat b 1 p l := by
  unfold s40 s26 vcat
  pointwise [k0_pay66, k0_pay45]
  simp only [s22_at i b]

theorem pay81_at (w : FVec Ideal S256x512 .f32) (k : FVec Ideal S256x256 .bf16) (q : FVec Ideal S512x256 .bf16) (p : Fin 256) (c : Fin 512) :
    k0_pay81 (F := Ideal) w k q (ix2 p c) = (∑ l : Fin 256, k (ix2 p l) * q (ix2 c l)) + w (ix2 p c) := by
  pointwise [k0_pay81, dot_S256x256_S512x256_S256x512_1_1_0_0_n_n]

theorem pay82_at (w : FVec Ideal S256x512 .f32) (k : FVec Ideal S256x256 .bf16) (q : FVec Ideal S512x256 .bf16) (p : Fin 256) (c : Fin 512) :
    k0_pay82 (F := Ideal) w k q (ix2 p c) = (∑ l : Fin 256, k (ix2 p l) * q (ix2 c l)) + w (ix2 p c) := by
  pointwise [k0_pay82, dot_S256x256_S512x256_S256x512_1_1_0_0_n_n]

theorem pay83_at (w : FVec Ideal S256x512 .f32) (k : FVec Ideal S256x256 .bf16) (q : FVec Ideal S512x256 .bf16) (p : Fin 256) (c : Fin 512) :
    k0_pay83 (F := Ideal) w k q (ix2 p c) = (∑ l : Fin 256, k (ix2 p l) * q (ix2 c l)) + w (ix2 p c) := by
  pointwise [k0_pay83, dot_S256x256_S512x256_S256x512_1_1_0_0_n_n]

theorem pay84_at (w : FVec Ideal S256x512 .f32) (k : FVec Ideal S256x256 .bf16) (q : FVec Ideal S512x256 .bf16) (p : Fin 256) (c : Fin 512) :
    k0_pay84 (F := Ideal) w k q (ix2 p c) = (∑ l : Fin 256, k (ix2 p l) * q (ix2 c l)) + w (ix2 p c) := by
  pointwise [k0_pay84, dot_S256x256_S512x256_S256x512_1_1_0_0_n_n]

theorem s55_at (T : Tabs b n qw kw) (p : Fin 256) (c : Fin 512) : s55 i b (ix2 p c) = dotS b n qw kw 0 0 p c + s29 i b (ix2 p c) := by
  unfold s55
  rw [pay81_at]
  congr 1
  refine (seg_sum (c.val / 128) (by omega) (fun l => s35 i b (ix2 p l) * s9 i b (ix2 ⟨c.val % 128, by omega⟩ ⟨0 + l.val, by omega⟩)) _ (fun l => ?_)).trans ?_
  · rw [s43_at i b T]
    exact (mul_assoc _ _ _).symm
  · unfold dotS qhead
    refine Finset.sum_congr rfl fun d _ => ?_
    have hd := d.isLt
    unfold s35
    rw [pay61_at, s23_at i b T, s9_at i b T]
    refine congrArg₂ (· * ·) (congrArg (kcat b n kw 0 p) (Fin.ext ?_)) (congrArg (· * qs) ?_)
    · show (64 * (c.val / 128) + d.val) % 64 = 64 * 0 + d.val
      omega
    · have h1 : (⟨(0 + (64 * (c.val / 128) + d.val)) / 64, by omega⟩ : Fin 8) = ⟨4 * 0 + c.val / 128, by omega⟩ := Fin.ext (by dsimp only; omega)
      have h2 : (⟨(0 + (64 * (c.val / 128) + d.val)) % 64, Nat.mod_lt _ (by decide)⟩ : Fin 64) = d := Fin.ext (by dsimp only; omega)
      exact congrArg₂ (fun h x => rope (n * 128 + c.val % 128) (hn (qin b 0 ⟨c.val % 128, by omega⟩ h) qw) x) h1 h2

theorem s56_at (T : Tabs b n qw kw) (p : Fin 256) (c : Fin 512) : s56 i b (ix2 p c) = dotS b n qw kw 0 1 p c + s29 i b (ix2 p c) := by
  unfold s56
  rw [pay82_at]
  congr 1
  refine (seg_sum (c.val / 128) (by omega) (fun l => s36 i b (ix2 p l) * s9 i b (ix2 ⟨c.val % 128, by omega⟩ ⟨256 + l.val, by omega⟩)) _ (fun l => ?_)).trans ?_
  · rw [s44_at i b T]
    exact (mul_assoc _ _ _).symm
  · unfold dotS qhead
    refine Finset.sum_congr rfl fun d _ => ?_
    have hd := d.isLt
    unfold s36
    rw [pay62_at, s23_at i b T, s9_at i b T]
    refine congrArg₂ (· * ·) (congrArg (kcat b n kw 0 p) (Fin.ext ?_)) (congrArg (· * qs) ?_)
    · show 64 + (64 * (c.val / 128) + d.val) % 64 = 64 * 1 + d.val
      omega
    · have h1 : (⟨(256 + (64 * (c.val / 128) + d.val)) / 64, by omega⟩ : Fin 8) = ⟨4 * 1 + c.val / 128, by omega⟩ := Fin.ext (by dsimp only; omega)
      have h2 : (⟨(256 + (64 * (c.val / 128) + d.val)) % 64, Nat.mod_lt _ (by decide)⟩ : Fin 64) = d := Fin.ext (by dsimp only; omega)
      exact congrArg₂ (fun h x => rope (n * 128 + c.val % 128) (hn (qin b 0 ⟨c.val % 128, by omega⟩ h) qw) x) h1 h2

theorem s57_at (T : Tabs b n qw kw) (p : Fin 256) (c : Fin 512) : s57 i b (ix2 p c) = dotS b n qw kw 1 0 p c + s29 i b (ix2 p c) := by
  unfold s57
  rw [pay83_at]
  congr 1
  refine (seg_sum (c.val / 128) (by omega) (fun l => s37 i b (ix2 p l) * s13 i b (ix2 ⟨c.val % 128, by omega⟩ ⟨0 + l.val, by omega⟩)) _ (fun l => ?_)).trans ?_
  · rw [s45_at i b T]
    exact (mul_assoc _ _ _).symm
  · unfold dotS qhead
    refine Finset.sum_congr rfl fun d _ => ?_
    have hd := d.isLt
    unfold s37
    rw [pay63_at, s24_at i b T, s13_at i b T]
    refine congrArg₂ (· * ·) (congrArg (kcat b n kw 1 p) (Fin.ext ?_)) (congrArg (· * qs) ?_)
    · show (64 * (c.val / 128) + d.val) % 64 = 64 * 0 + d.val
      omega
    · have h1 : (⟨(0 + (64 * (c.val / 128) + d.val)) / 64, by omega⟩ : Fin 8) = ⟨4 * 0 + c.val / 128, by omega⟩ := Fin.ext (by dsimp only; omega)
      have h2 : (⟨(0 + (64 * (c.val / 128) + d.val)) % 64, Nat.mod_lt _ (by decide)⟩ : Fin 64) = d := Fin.ext (by dsimp only; omega)
      exact congrArg₂ (fun h x => rope (n * 128 + c.val % 128) (hn (qin b 1 ⟨c.val % 128, by omega⟩ h) qw) x) h1 h2

theorem s58_at (T : Tabs b n qw kw) (p : Fin 256) (c : Fin 512) : s58 i b (ix2 p c) = dotS b n qw kw 1 1 p c + s29 i b (ix2 p c) := by
  unfold s58
  rw [pay84_at]
  congr 1
  refine (seg_sum (c.val / 128) (by omega) (fun l => s38 i b (ix2 p l) * s13 i b (ix2 ⟨c.val % 128, by omega⟩ ⟨256 + l.val, by omega⟩)) _ (fun l => ?_)).trans ?_
  · rw [s46_at i b T]
    exact (mul_assoc _ _ _).symm
  · unfold dotS qhead
    refine Finset.sum_congr rfl fun d _ => ?_
    have hd := d.isLt
    unfold s38
    rw [pay64_at, s24_at i b T, s13_at i b T]
    refine congrArg₂ (· * ·) (congrArg (kcat b n kw 1 p) (Fin.ext ?_)) (congrArg (· * qs) ?_)
    · show 64 + (64 * (c.val / 128) + d.val) % 64 = 64 * 1 + d.val
      omega
    · have h1 : (⟨(256 + (64 * (c.val / 128) + d.val)) / 64, by omega⟩ : Fin 8) = ⟨4 * 1 + c.val / 128, by omega⟩ := Fin.ext (by dsimp only; omega)
      have h2 : (⟨(256 + (64 * (c.val / 128) + d.val)) % 64, Nat.mod_lt _ (by decide)⟩ : Fin 64) = d := Fin.ext (by dsimp only; omega)
      exact congrArg₂ (fun h x => rope (n * 128 + c.val % 128) (hn (qin b 1 ⟨c.val % 128, by omega⟩ h) qw) x) h1 h2

theorem off1_at : ∀ t : Fin cfg0.N, k0_off1 (grid0.coords t) = ![min t.val 1, 0, 0] := by decide +kernel

theorem s29_at (w : Fin 2) (hw : k0_off1 i = ![w.val, 0, 0]) (p : Fin 256) (c : Fin 512) : s29 i b (ix2 p c) = b.bi (ix3 w p c) := by
  have key : ∀ (off : Fin 3 → ℕ) (h : ∀ a, off a + S1x256x512.size a ≤ S2x256x512.size a), off = ![w.val, 0, 0] →
      (View.ld b.bi (Rect.unit (s := S2x256x512) off S1x256x512.size h)) (ix3 0 p c) = b.bi (ix3 w p c) := by
    intro off h ho
    subst ho
    refine congrArg b.bi (funext fun a => Fin.ext ?_)
    match a with
    | ⟨0, _⟩ => show w.val + 1 * 0 = w.val; omega
    | ⟨1, _⟩ => show 0 + 1 * p.val = p.val; omega
    | ⟨2, _⟩ => show 0 + 1 * c.val = c.val; omega
  refine Eq.trans ?_ (key _ (k0_off1_inb i) hw)
  unfold s29
  pointwise [k0_pay52]

/-- The attention rows of one step. -/
theorem stepY_soft (T : Tabs b n qw kw) (w : Fin 2) (hw : k0_off1 i = ![w.val, 0, 0]) (e : Fin 2) (r : Fin 128) (l : Fin 512) : stepY i b (ix3 e r l)
    = soft2 (fun p => (∑ d : Fin 64, kcat b n kw e p ⟨64 * (l.val / 256) + d.val, by omega⟩ * (qhead b n qw e r ⟨l.val / 64, by omega⟩ d * qs))
          + b.bi (ix3 w p ⟨l.val / 64 % 4 * 128 + r.val, by omega⟩))
        (b.sk (ix2 0 ⟨l.val / 64, by omega⟩) * l2e) (fun p => vcat b e p ⟨64 * (l.val / 256) + l.val % 64, by omega⟩) := by
  have hr := r.isLt
  have hl := l.isLt
  rw [stepY_at]
  have key : ∀ (kh : Fin 2) (hk : l.val / 256 = kh.val),
      soft2 (fun p => dotS b n qw kw e kh p ⟨l.val / 64 % 4 * 128 + r.val, by omega⟩ + b.bi (ix3 w p ⟨l.val / 64 % 4 * 128 + r.val, by omega⟩))
        (b.sk (ix2 0 ⟨4 * kh.val + (l.val / 64 % 4 * 128 + r.val) / 128, by omega⟩) * l2e) (fun p => vcat b e p ⟨64 * kh.val + l.val % 64, by omega⟩)
      = soft2 (fun p => (∑ d : Fin 64, kcat b n kw e p ⟨64 * (l.val / 256) + d.val, by omega⟩ * (qhead b n qw e r ⟨l.val / 64, by omega⟩ d * qs))
          + b.bi (ix3 w p ⟨l.val / 64 % 4 * 128 + r.val, by omega⟩))
        (b.sk (ix2 0 ⟨l.val / 64, by omega⟩) * l2e) (fun p => vcat b e p ⟨64 * (l.val / 256) + l.val % 64, by omega⟩) := by
    intro kh hk
    have h1 : (⟨(l.val / 64 % 4 * 128 + r.val) % 128, by omega⟩ : Fin 128) = r := Fin.ext (by dsimp only; omega)
    have h2 : (⟨4 * kh.val + (l.val / 64 % 4 * 128 + r.val) / 128, by omega⟩ : Fin 8) = ⟨l.val / 64, by omega⟩ := Fin.ext (by dsimp only; omega)
    unfold dotS
    simp only [h1, h2, hk]
  by_cases h256 : l.val < 256
  · have hk : l.val / 256 = (0 : Fin 2).val := by show _ = 0; omega
    have hv : ∀ p, vcat b e p ⟨l.val % 64, by omega⟩ = vcat b e p ⟨64 * (0 : Fin 2).val + l.val % 64, by show 64 * 0 + _ < _; omega⟩ :=
      fun p => congrArg (vcat b e p) (Fin.ext (by show l.val % 64 = 64 * 0 + l.val % 64; omega))
    refine Eq.trans ?_ (key 0 hk)
    split
    · rename_i he; subst he
      rw [s72_at, if_pos h256]
      simp only [s55_at i b T, s29_at i b w hw, s47_at i b, s39_at i b, hv]
      rfl
    · rename_i he; obtain rfl : e = 1 := by omega
      rw [s75_at, if_pos h256]
      simp only [s57_at i b T, s29_at i b w hw, s52_at i b, s40_at i b, hv]
      rfl
  · have hk : l.val / 256 = (1 : Fin 2).val := by show _ = 1; omega
    have hv : ∀ p, vcat b e p ⟨64 + l.val % 64, by omega⟩ = vcat b e p ⟨64 * (1 : Fin 2).val + l.val % 64, by show 64 * 1 + _ < _; omega⟩ :=
      fun p => congrArg (vcat b e p) (Fin.ext (by show 64 + l.val % 64 = 64 * 1 + l.val % 64; omega))
    refine Eq.trans ?_ (key 1 hk)
    split
    · rename_i he; subst he
      rw [s72_at, if_neg h256]
      simp only [s56_at i b T, s29_at i b w hw, s51_at i b, s39_at i b, hv]
      rfl
    · rename_i he; obtain rfl : e = 1 := by omega
      rw [s75_at, if_neg h256]
      simp only [s58_at i b T, s29_at i b w hw, s53_at i b, s40_at i b, hv]
      rfl

end Cert.KernelIdeal.Row
-- ==== Proof.Windows.lean ====
module

public import proofs.«01_k».proof.Proof.IdealDats
public import Idealize.ShloMosaic.Lib.Pipeline.ValueKit

@[expose] public section

set_option maxRecDepth 16384

noncomputable section

/-! The blocks of the windows, read at an index of the arrays they window. -/

namespace Cert.KernelIdeal.Row

open Idealize.ShloMosaic Idealize.ShloMosaic.TcCoe Cert.KernelIdeal Cert.KernelIdeal.Gen

variable (m : (ℓ : Loc nD τ sig) → Buf (Elt Ideal) ℓ) (c : Dev nD) (t : Fin cfg0.N)

theorem win0_index : ∀ t : Fin cfg0.N, (cfg0.win 0).index t 0 = 0 ∧ (cfg0.win 0).index t 1 = min t.val 63 ∧ (cfg0.win 0).index t 2 = 0 := by decide +kernel

theorem win1_index : ∀ t : Fin cfg0.N, (cfg0.win 1).index t 0 = 0 ∧ (cfg0.win 1).index t 1 = min t.val 63 ∧ (cfg0.win 1).index t 2 = 0 := by decide +kernel

theorem win2_index : ∀ t : Fin cfg0.N, (cfg0.win 2).index t 0 = min t.val 63 ∧ (cfg0.win 2).index t 1 = 0 ∧ (cfg0.win 2).index t 2 = 0 := by decide +kernel

theorem win3_index : ∀ t : Fin cfg0.N, (cfg0.win 3).index t 0 = 0 ∧ (cfg0.win 3).index t 1 = 0 := by decide +kernel

theorem win4_index : ∀ t : Fin cfg0.N, (cfg0.win 4).index t 0 = 0 ∧ (cfg0.win 4).index t 1 = 0 := by decide +kernel

theorem win5_index : ∀ t : Fin cfg0.N, (cfg0.win 5).index t 0 = 0 ∧ (cfg0.win 5).index t 1 = 0 := by decide +kernel

theorem win6_index : ∀ t : Fin cfg0.N, (cfg0.win 6).index t 0 = 0 ∧ (cfg0.win 6).index t 1 = 0 := by decide +kernel

theorem win7_index : ∀ t : Fin cfg0.N, (cfg0.win 7).index t 0 = 0 ∧ (cfg0.win 7).index t 1 = 0 := by decide +kernel

theorem win8_index : ∀ t : Fin cfg0.N, (cfg0.win 8).index t 0 = 0 ∧ (cfg0.win 8).index t 1 = 0 ∧ (cfg0.win 8).index t 2 = 0 := by decide +kernel

theorem win9_index : ∀ t : Fin cfg0.N, (cfg0.win 9).index t 0 = 0 ∧ (cfg0.win 9).index t 1 = t.val - 1 ∧ (cfg0.win 9).index t 2 = 0 := by decide +kernel

theorem win10_index : ∀ t : Fin cfg0.N, (cfg0.win 10).index t 0 = 0 ∧ (cfg0.win 10).index t 1 = t.val - 1 ∧ (cfg0.win 10).index t 2 = 0 := by decide +kernel

theorem win11_index : ∀ t : Fin cfg0.N, (cfg0.win 11).index t 0 = 0 ∧ (cfg0.win 11).index t 1 = 0 := by decide +kernel

theorem win12_index : ∀ t : Fin cfg0.N, (cfg0.win 12).index t 0 = 0 ∧ (cfg0.win 12).index t 1 = 0 := by decide +kernel

theorem win13_index : ∀ t : Fin cfg0.N, (cfg0.win 13).index t 0 = 0 ∧ (cfg0.win 13).index t 1 = 0 := by decide +kernel

theorem win14_index : ∀ t : Fin cfg0.N, (cfg0.win 14).index t 0 = 0 ∧ (cfg0.win 14).index t 1 = 0 := by decide +kernel

theorem win15_index : ∀ t : Fin cfg0.N, (cfg0.win 15).index t 0 = 0 ∧ (cfg0.win 15).index t 1 = 0 := by decide +kernel

theorem win16_index : ∀ t : Fin cfg0.N, (cfg0.win 16).index t 0 = 0 ∧ (cfg0.win 16).index t 1 = 0 := by decide +kernel

theorem win17_index : ∀ t : Fin cfg0.N, (cfg0.win 17).index t 0 = 0 ∧ (cfg0.win 17).index t 1 = 0 := by decide +kernel

theorem win18_index : ∀ t : Fin cfg0.N, (cfg0.win 18).index t 0 = 0 ∧ (cfg0.win 18).index t 1 = t.val - 1 ∧ (cfg0.win 18).index t 2 = 0 := by decide +kernel

theorem blk0_at (e : Fin 2) (r : Fin 128) (l : Fin 512) (hb : min t.val 63 * 128 + r.val < 8192) : iblk m c 0 t (ix3 e r l) = V m c main_arg0 (ix3 e ⟨min t.val 63 * 128 + r.val, hb⟩ l) := by
  blk_ext [iblk, win0_index t]

theorem blk1_at (e : Fin 2) (r : Fin 128) (l : Fin 256) (hb : min t.val 63 * 128 + r.val < 8192) : iblk m c 1 t (ix3 e r l) = V m c main_arg1 (ix3 e ⟨min t.val 63 * 128 + r.val, hb⟩ l) := by
  blk_ext [iblk, win1_index t]

theorem blk2_at (l : Fin 256) (hb : min t.val 63 < 129) : iblk m c 2 t (ix3 0 0 l) = V m c main_v46 (ix3 ⟨min t.val 63, hb⟩ 0 l) := by
  blk_ext [iblk, win2_index t]

theorem blk3_at (r : Fin 128) (l : Fin 256) : iblk m c 3 t (ix2 r l) = V m c main_v45 (ix2 r l) := by
  blk_ext [iblk, win3_index t]

theorem blk4_at (n : Fin 512) : iblk m c 4 t (ix2 0 n) = V m c main_v14 (ix2 0 n) := by
  blk_ext [iblk, win4_index t]

theorem blk5_at (n : Fin 128) : iblk m c 5 t (ix2 0 n) = V m c main_v19 (ix2 0 n) := by
  blk_ext [iblk, win5_index t]

theorem blk6_at (n : Fin 8) : iblk m c 6 t (ix2 0 n) = V m c main_v55 (ix2 0 n) := by
  blk_ext [iblk, win6_index t]

theorem blk7_at (j k : Fin 256) : iblk m c 7 t (ix2 j k) = V m c main_v9 (ix2 j k) := by
  blk_ext [iblk, win7_index t]

theorem blk8_at (e : Fin 2) (r : Fin 256) (k : Fin 512) : iblk m c 8 t (ix3 e r k) = V m c main_v76 (ix3 e r k) := by
  blk_ext [iblk, win8_index t]

theorem blk9_at (e : Fin 2) (r : Fin 128) (l : Fin 1024) (hb : (t.val - 1) * 128 + r.val < 8192) : iblk m c 9 t (ix3 e r l) = V m c main_arg5 (ix3 e ⟨(t.val - 1) * 128 + r.val, hb⟩ l) := by
  blk_ext [iblk, win9_index t]

theorem blk10_at (e : Fin 2) (r : Fin 128) (l : Fin 512) (hb : (t.val - 1) * 128 + r.val < 8192) : iblk m c 10 t (ix3 e r l) = V m c main_arg6 (ix3 e ⟨(t.val - 1) * 128 + r.val, hb⟩ l) := by
  blk_ext [iblk, win10_index t]

theorem blk11_at (r : Fin 128) (n : Fin 1024) : iblk m c 11 t (ix2 r n) = V m c main_v47 (ix2 r n) := by
  blk_ext [iblk, win11_index t]

theorem blk12_at (r : Fin 128) (n : Fin 512) : iblk m c 12 t (ix2 r n) = V m c main_arg8 (ix2 r n) := by
  blk_ext [iblk, win12_index t]

theorem blk13_at (r : Fin 128) (n : Fin 512) : iblk m c 13 t (ix2 r n) = V m c main_arg9 (ix2 r n) := by
  blk_ext [iblk, win13_index t]

theorem blk14_at (k n : Fin 1024) : iblk m c 14 t (ix2 k n) = V m c main_v49 (ix2 k n) := by
  blk_ext [iblk, win14_index t]

theorem blk15_at (n : Fin 1024) : iblk m c 15 t (ix2 0 n) = V m c main_v21 (ix2 0 n) := by
  blk_ext [iblk, win15_index t]

theorem blk16_at (k : Fin 1024) (n : Fin 4096) : iblk m c 16 t (ix2 k n) = V m c main_v51 (ix2 k n) := by
  blk_ext [iblk, win16_index t]

theorem blk17_at (k : Fin 4096) (n : Fin 1024) : iblk m c 17 t (ix2 k n) = V m c main_v53 (ix2 k n) := by
  blk_ext [iblk, win17_index t]

end Cert.KernelIdeal.Row
-- ==== Proof.Blocks.lean ====
module

public import proofs.«01_k».proof.Proof.HostVals
public import proofs.«01_k».proof.Proof.Windows

@[expose] public section

set_option maxRecDepth 16384

noncomputable section

/-! The blocks that one step of the grid finds, read at an index of the launched arrays. -/

namespace Cert.KernelIdeal.Row

open Idealize.ShloMosaic Idealize.ShloMosaic.TcCoe Cert.KernelIdeal Cert.KernelIdeal.Gen

variable (m : (ℓ : Loc nD τ sig) → Buf (Elt Ideal) ℓ) (c : Dev nD)

theorem pt_lt (t : Fin cfg0.N) : t.val < 65 := lt_of_lt_of_eq t.isLt N_0

theorem coord_val : ∀ t : Fin cfg0.N, (grid0.coords t 0).val = t.val := by decide +kernel

/-- The block of the rows that the attention half works on at point `t`. -/
def ablk (t : Fin cfg0.N) : Fin 64 := ⟨min t.val 63, by omega⟩

/-- The block of the rows that the feed-forward half works on at point `t`. -/
def fblk (t : Fin cfg0.N) : Fin 64 := ⟨t.val - 1, by have := pt_lt t; omega⟩

/-- Row `r` of block `b` in the sequence. -/
def row (b : Fin 64) (r : Fin 128) : Fin 8192 := ⟨b.val * 128 + r.val, by omega⟩

variable (s : Vec Ideal S2x128x128 .f32 × Vec Ideal S2x128x128 .f32 × Vec Ideal S2x128x512 .f32) (t : Fin cfg0.N)

theorem q_at (e : Fin 2) (r : Fin 128) (l : Fin 512) : (blkAt m c t s).q (ix3 e r l) = inp m c main_arg0 (ix3 e (row (ablk t) r) l) :=
  (blk0_at m c t e r l (row (ablk t) r).isLt).trans (congrFun (V_main_arg0 m c) _)

theorem kv_at (e : Fin 2) (r : Fin 128) (l : Fin 256) : (blkAt m c t s).kv (ix3 e r l) = inp m c main_arg1 (ix3 e (row (ablk t) r) l) :=
  (blk1_at m c t e r l (row (ablk t) r).isLt).trans (congrFun (V_main_arg1 m c) _)

theorem ta_at (l : Fin 256) : (blkAt m c t s).ta (ix3 0 0 l) = if l.val < 128 then ((Real.cos (((ablk t).val : ℝ) * 128 * fr (l.val % 8)) : ℝ) : EReal)
      else ((Real.sin (((ablk t).val : ℝ) * 128 * fr (l.val % 8)) : ℝ) : EReal) :=
  (blk2_at m c t l (by omega)).trans (v46_at m c _ l)

theorem tb_at (r : Fin 128) (l : Fin 256) : (blkAt m c t s).tb (ix2 r l) = if l.val < 128 then ((Real.cos ((r.val : ℝ) * fr (l.val % 8)) : ℝ) : EReal)
      else ((Real.sin ((r.val : ℝ) * fr (l.val % 8)) : ℝ) : EReal) :=
  (blk3_at m c t r l).trans (v45_at m c r l)

theorem qw_at (n : Fin 512) : (blkAt m c t s).qw (ix2 0 n) = inp m c main_arg2 (ix2 0 ⟨n.val % 64, Nat.mod_lt _ (by decide)⟩) :=
  (blk4_at m c t n).trans (v14_at m c n)

theorem kw_at (n : Fin 128) : (blkAt m c t s).kw (ix2 0 n) = inp m c main_arg3 (ix2 0 ⟨n.val % 64, Nat.mod_lt _ (by decide)⟩) :=
  (blk5_at m c t n).trans (v19_at m c n)

theorem sk_at (n : Fin 8) : (blkAt m c t s).sk (ix2 0 n) = inp m c main_arg4 (ix2 0 n) :=
  (blk6_at m c t n).trans (v55_at m c n)

theorem on_at (j k : Fin 256) : (blkAt m c t s).on (ix2 j k) = if j.val / 64 = k.val / 64 then (1 : EReal) else 0 :=
  (blk7_at m c t j k).trans (v9_at m c j k)

theorem bi_at (e : Fin 2) (r : Fin 256) (k : Fin 512) : (blkAt m c t s).bi (ix3 e r k) = if sees e.val r.val k.val then (0 : EReal) else ⊥ :=
  (blk8_at m c t e r k).trans (v76_at m c e r k)

theorem x_at (e : Fin 2) (r : Fin 128) (l : Fin 1024) : (blkAt m c t s).x (ix3 e r l) = inp m c main_arg5 (ix3 e (row (fblk t) r) l) :=
  (blk9_at m c t e r l (row (fblk t) r).isLt).trans (congrFun (V_main_arg5 m c) _)

theorem yr_at (e : Fin 2) (r : Fin 128) (l : Fin 512) : (blkAt m c t s).yr (ix3 e r l) = inp m c main_arg6 (ix3 e (row (fblk t) r) l) :=
  (blk10_at m c t e r l (row (fblk t) r).isLt).trans (congrFun (V_main_arg6 m c) _)

theorem xd_at (r : Fin 128) (n : Fin 1024) : (blkAt m c t s).xd (ix2 r n) = inp m c main_arg7 (ix3 r 0 n) :=
  (blk11_at m c t r n).trans (v47_at m c r n)

theorem yrd_at (r : Fin 128) (n : Fin 512) : (blkAt m c t s).yrd (ix2 r n) = inp m c main_arg8 (ix2 r n) :=
  (blk12_at m c t r n).trans (congrFun (V_main_arg8 m c) _)

theorem yad_at (r : Fin 128) (n : Fin 512) : (blkAt m c t s).yad (ix2 r n) = inp m c main_arg9 (ix2 r n) :=
  (blk13_at m c t r n).trans (congrFun (V_main_arg9 m c) _)

theorem wo_at (k n : Fin 1024) : (blkAt m c t s).wo (ix2 k n) = inp m c main_arg10 (ix3 0 k n) :=
  (blk14_at m c t k n).trans (v49_at m c k n)

theorem nw_at (n : Fin 1024) : (blkAt m c t s).nw (ix2 0 n) = inp m c main_arg11 (ix2 0 n) :=
  (blk15_at m c t n).trans (v21_at m c n)

theorem wu_at (k : Fin 1024) (n : Fin 4096) : (blkAt m c t s).wu (ix2 k n) = inp m c main_arg12 (ix3 0 k n) :=
  (blk16_at m c t k n).trans (v51_at m c k n)

theorem wd_at (k : Fin 4096) (n : Fin 1024) : (blkAt m c t s).wd (ix2 k n) = inp m c main_arg13 (ix3 0 k n) :=
  (blk17_at m c t k n).trans (v53_at m c k n)

end Cert.KernelIdeal.Row
-- ==== Proof.MixRow.lean ====
module

public import proofs.«01_k».proof.Proof.Blocks
public import proofs.«01_k».proof.Proof.FfnRow

@[expose] public section

set_option maxRecDepth 16384

noncomputable section

/-! The residual rows of one step: the rows of two sequences, or at the first step the decode rows twice. -/

namespace Cert.KernelIdeal.Row

open Idealize.ShloMosaic Cert.KernelIdeal Cert.KernelIdeal.Gen

variable (i : grid0.Coords) (b : Blk Ideal)

theorem first_word (h : (i 0).val = 0) : Scalar.cmpi .eq (BitVec.ofNat 32 (i 0).val) 0#32 = 1#1 := by rw [h]; rfl

theorem later_word (h : (i 0).val ≠ 0) (hl : (i 0).val < 65) : Scalar.cmpi .eq (BitVec.ofNat 32 (i 0).val) 0#32 = 0#1 := by
  have : ∀ n : Fin 65, n.val ≠ 0 → Scalar.cmpi .eq (BitVec.ofNat 32 n.val) 0#32 = 0#1 := by decide +kernel
  exact this ⟨_, hl⟩ h

/-- A lane of the mixed row: the first half from one array, the second from another. -/
def mix (y a : EV 512) : EV 1024 := fun k => if h : k.val < 512 then y ⟨k.val, h⟩ else a ⟨k.val - 512, by omega⟩

theorem s2_first (h : (i 0).val = 0) (r : Fin 128) (n : Fin 1024) : s2 i b (ix2 ⟨r.val, by omega⟩ n)
    = res (fun k => b.xd (ix2 r k)) (mix (fun k => b.yrd (ix2 r k)) (fun k => b.yad (ix2 r k))) (fun k n => b.wo (ix2 k n)) n := by
  unfold s2 s0 s1 res mix
  rw [pay12_at]
  have hr : r.val < 128 := r.isLt
  unfold k0_pay10 k0_pay11
  pointwise
  simp only [first_word i h]
  rfl

theorem s2_later (h : (i 0).val ≠ 0) (hl : (i 0).val < 65) (e : Fin 2) (r : Fin 128) (n : Fin 1024) : s2 i b (ix2 ⟨e.val * 128 + r.val, by omega⟩ n)
    = res (fun k => b.x (ix3 e r k)) (mix (fun k => b.yr (ix3 e r k)) (fun k => b.ya (ix3 e r k))) (fun k n => b.wo (ix2 k n)) n := by
  unfold s2 s0 s1 res mix
  rw [pay12_at]
  have hr : r.val < 128 := r.isLt
  unfold k0_pay10 k0_pay11
  obtain rfl | rfl : e = 0 ∨ e = 1 := by omega
  · pointwise
    simp only [later_word i h hl]
    rfl
  · pointwise
    simp only [later_word i h hl]
    rfl

end Cert.KernelIdeal.Row
-- ==== Proof.RefHeads.lean ====
module

public import proofs.«01_k».proof.Proof.Gen.ReferenceIdeal.Read
public import proofs.«01_k».proof.Proof.RopeRow

@[expose] public section

set_option maxRecDepth 16384

noncomputable section

/-! The reference's heads: the norm and the rotary embedding of the queries and the keys, read at an index. -/

namespace Cert.KernelIdeal.Row

open Idealize.ShloMosaic Cert.ReferenceIdeal Cert.ReferenceIdeal.Gen Cert.ReferenceIdeal.Read

theorem ref_v (x1 : Vec Ideal S2x8192x256 .f32) (e : Fin 2) (p : Fin 8192) (h : Fin 2) (d : Fin 64) :
    val_main_v4 (F := Ideal) x1 (ix4 e p h d) = x1 (ix3 e p ⟨128 + (h.val * 64 + d.val), by omega⟩) := by
  pointwise [val_main_v4, val_main_v3]

theorem ref_vwin (x1 : Vec Ideal S2x8192x256 .f32) (e : Fin 2) (l r : Fin 128) :
    val_main_v218 (F := Ideal) x1 (ix3 e l r) = x1 (ix3 e ⟨8064 + r.val, by omega⟩ ⟨128 + l.val, by omega⟩) := by
  pointwise [val_main_v218, val_main_v217, val_main_v162, val_main_v4, val_main_v3]

theorem ref_knorm (x1 : Vec Ideal S2x8192x256 .f32) (x3 : Vec Ideal S1x64 .f32) (e : Fin 2) (p : Fin 8192) (h : Fin 2) (d : Fin 64) :
    val_main_v64 (F := Ideal) x1 x3 (ix4 e p h d)
      = hn (fun j => x1 (ix3 e p ⟨h.val * 64 + j.val, by omega⟩)) (fun j => x3 (ix2 0 j)) d := by
  unfold hn
  pointwise [val_main_v64, val_main_v63, val_main_v62, val_main_v61, val_main_v60, val_main_v59, val_main_v58, val_main_v57, val_main_cst_7,
    val_main_v56, val_main_v55, val_main_cst_6, val_main_v54, val_main_v53, val_main_cst_5, val_main_v52, val_main_v51, val_main_v2, val_main_v1]

theorem ref_qnorm (x0 : Vec Ideal S2x8192x512 .f32) (x2 : Vec Ideal S1x64 .f32) (e : Fin 2) (p : Fin 8192) (h : Fin 8) (d : Fin 64) :
    val_main_v21 (F := Ideal) x0 x2 (ix4 e p h d)
      = hn (fun j => x0 (ix3 e p ⟨h.val * 64 + j.val, by omega⟩)) (fun j => x2 (ix2 0 j)) d := by
  unfold hn
  pointwise [val_main_v21, val_main_v20, val_main_v19, val_main_v18, val_main_v17, val_main_v16, val_main_v15, val_main_v14, val_main_cst_2,
    val_main_v13, val_main_v12, val_main_cst_1, val_main_v11, val_main_v10, val_main_cst_0, val_main_v9, val_main_v8, val_main_v0]

theorem ref_angle (p : Fin 8192) (l : Fin 8) :
    val_main_v75 (F := Ideal) (ix2 p l) = (((p.val : ℝ) * fr l.val : ℝ) : EReal) := by
  pointwise [val_main_v75, val_main_v74, val_main_v73, val_main_v72, val_main_v71, val_main_v70, val_main_v69, val_main_cst_9, val_main_v68, val_main_v67,
    val_main_cst_8, val_main_v66, val_main_v65, val_main_v7, val_main_v6, val_main_v5, val_main_cst]
  rw [sitofp_nat _ (by omega), sitofp_nat _ (by omega)]
  exact (congrArg _ (pow_fr l.val)).trans (EReal.coe_mul _ _).symm

theorem ref_angle_q (p : Fin 8192) (l : Fin 8) :
    val_main_v32 (F := Ideal) (ix2 p l) = (((p.val : ℝ) * fr l.val : ℝ) : EReal) := by
  pointwise [val_main_v32, val_main_v31, val_main_v30, val_main_v29, val_main_v28, val_main_v27, val_main_v26, val_main_cst_4, val_main_v25, val_main_v24,
    val_main_cst_3, val_main_v23, val_main_v22, val_main_v7, val_main_v6, val_main_v5, val_main_cst]
  rw [sitofp_nat _ (by omega), sitofp_nat _ (by omega)]
  exact (congrArg _ (pow_fr l.val)).trans (EReal.coe_mul _ _).symm

theorem rope_lanes (h : EV 64) (pos : ℕ) (a : Fin 8 → EReal) (ha : ∀ l : Fin 8, a l = (((pos : ℝ) * fr l.val : ℝ) : EReal)) (d : Fin 64) :
    (if h1 : d.val < 8 then h d * Ideal.cos (a ⟨d.val, h1⟩) - h ⟨8 + d.val, by omega⟩ * Ideal.sin (a ⟨d.val, h1⟩)
      else if h2 : d.val - 8 < 8 then
        h ⟨8 + (d.val - 8), by omega⟩ * Ideal.cos (a ⟨d.val - 8, h2⟩) + h ⟨d.val - 8, by omega⟩ * Ideal.sin (a ⟨d.val - 8, h2⟩)
      else h ⟨16 + (d.val - 8 - 8), by omega⟩) = rope pos h d := by
  have g : ∀ a b : Fin 64, a.val = b.val → h a = h b := fun a b q => congrArg h (Fin.ext q)
  unfold rope
  by_cases h1 : d.val < 8
  · simp only [dif_pos h1, ha]
    exact congrArg₂ (· - ·) rfl (congrArg (· * _) (g _ _ (Nat.add_comm _ _)))
  · by_cases h2 : d.val < 16
    · have h3 : d.val - 8 < 8 := by omega
      simp only [dif_neg h1, dif_pos h2, dif_pos h3, ha]
      exact congrArg₂ (· + ·) (congrArg (· * _) (g _ _ (by show 8 + (d.val - 8) = d.val; omega))) rfl
    · have h3 : ¬ d.val - 8 < 8 := by omega
      simp only [dif_neg h1, dif_neg h2, dif_neg h3]
      exact g _ _ (by show 16 + (d.val - 8 - 8) = d.val; omega)

theorem ref_key (x1 : Vec Ideal S2x8192x256 .f32) (x3 : Vec Ideal S1x64 .f32) (e : Fin 2) (p : Fin 8192) (h : Fin 2) (d : Fin 64) :
    val_main_v93 (F := Ideal) x1 x3 (ix4 e p h d)
      = rope p.val (hn (fun j => x1 (ix3 e p ⟨h.val * 64 + j.val, by omega⟩)) (fun j => x3 (ix2 0 j))) d := by
  rw [← rope_lanes _ _ _ (ref_angle p)]
  simp only [← ref_knorm]
  pointwise [val_main_v93, val_main_v92, val_main_v91, val_main_v90, val_main_v89, val_main_v88, val_main_v87, val_main_v86, val_main_v85, val_main_v84, val_main_v83,
    val_main_v82, val_main_v81, val_main_v80, val_main_v79, val_main_v78, val_main_v77, val_main_v76]

theorem ref_query (x0 : Vec Ideal S2x8192x512 .f32) (x2 : Vec Ideal S1x64 .f32) (e : Fin 2) (p : Fin 8192) (h : Fin 8) (d : Fin 64) :
    val_main_v50 (F := Ideal) x0 x2 (ix4 e p h d)
      = rope p.val (hn (fun j => x0 (ix3 e p ⟨h.val * 64 + j.val, by omega⟩)) (fun j => x2 (ix2 0 j))) d := by
  rw [← rope_lanes _ _ _ (ref_angle_q p)]
  simp only [← ref_qnorm]
  pointwise [val_main_v50, val_main_v49, val_main_v48, val_main_v47, val_main_v46, val_main_v45, val_main_v44, val_main_v43, val_main_v42, val_main_v41, val_main_v40,
    val_main_v39, val_main_v38, val_main_v37, val_main_v36, val_main_v35, val_main_v34, val_main_v33]

theorem ref_kwin (x1 : Vec Ideal S2x8192x256 .f32) (x3 : Vec Ideal S1x64 .f32) (e : Fin 2) (l r : Fin 128) :
    val_main_v216 (F := Ideal) x1 x3 (ix3 e l r)
      = val_main_v93 (F := Ideal) x1 x3 (ix4 e ⟨8064 + r.val, by omega⟩ ⟨l.val / 64, by omega⟩ ⟨l.val % 64, by omega⟩) := by
  pointwise [val_main_v216, val_main_v215, val_main_v161]

end Cert.KernelIdeal.Row
-- ==== Proof.RefAttn.lean ====
module

public import proofs.«01_k».proof.Proof.Gen.ReferenceIdeal.Read
public import proofs.«01_k».proof.Proof.RefHeads
public import proofs.«01_k».proof.Proof.SoftRow

@[expose] public section

set_option maxRecDepth 16384

noncomputable section

/-! The reference's attention over the band of the block and the one before it, read at an index. -/

namespace Cert.KernelIdeal.Row

open Idealize.ShloMosaic Cert.ReferenceIdeal Cert.ReferenceIdeal.Gen Cert.ReferenceIdeal.Read

theorem ref_kcat (x1 : Vec Ideal S2x8192x256 .f32) (x3 : Vec Ideal S1x64 .f32) (e : Fin 2) (b : Fin 64) (p : Fin 256) (h : Fin 2) (d : Fin 64) :
    val_main_v102 (F := Ideal) x1 x3 (ix5 e b p h d)
      = if h1 : p.val < 128 then (if h2 : b.val < 1 then 0 else
          val_main_v93 (F := Ideal) x1 x3 (ix4 e ⟨(b.val - 1) * 128 + p.val, by omega⟩ h d))
        else val_main_v93 (F := Ideal) x1 x3 (ix4 e ⟨b.val * 128 + (p.val - 128), by omega⟩ h d) := by
  pointwise [val_main_v102, val_main_v101, val_main_v100, val_main_v99, val_main_cst_10, val_main_v96]

theorem ref_vcat (x1 : Vec Ideal S2x8192x256 .f32) (e : Fin 2) (b : Fin 64) (p : Fin 256) (h : Fin 2) (d : Fin 64) :
    val_main_v107 (F := Ideal) x1 (ix5 e b p h d)
      = if h1 : p.val < 128 then (if h2 : b.val < 1 then 0 else
          val_main_v4 (F := Ideal) x1 (ix4 e ⟨(b.val - 1) * 128 + p.val, by omega⟩ h d))
        else val_main_v4 (F := Ideal) x1 (ix4 e ⟨b.val * 128 + (p.val - 128), by omega⟩ h d) := by
  pointwise [val_main_v107, val_main_v106, val_main_v105, val_main_v104, val_main_cst_11, val_main_v97]

variable (x0 : Vec Ideal S2x8192x512 .f32) (x1 : Vec Ideal S2x8192x256 .f32) (x2 x3 : Vec Ideal S1x64 .f32) (x4 : Vec Ideal S1x8 .f32)

theorem ref_score (e : Fin 2) (b : Fin 64) (g : Fin 2) (j : Fin 4) (r : Fin 128) (k : Fin 256) :
    val_main_v139 (F := Ideal) x0 x1 x2 x3 (ix6 e b g j r k)
      = (∑ d : Fin 64, val_main_v102 (F := Ideal) x1 x3 (ix5 e b k g d) * val_main_v95 (F := Ideal) x0 x2 (ix6 e b r g j d)) * Ideal.ofBits .f32 0x3E000000#32 := by
  pointwise [val_main_v139, val_main_v138, val_main_cst_16, val_main_v137, val_main_v136, dot_S2x64x256x2x64_S2x64x128x2x4x64_S2x64x2x256x128x4_4_5_2_24_013_013]

theorem ref_q6 (e : Fin 2) (b : Fin 64) (r : Fin 128) (g : Fin 2) (j : Fin 4) (d : Fin 64) :
    val_main_v95 (F := Ideal) x0 x2 (ix6 e b r g j d)
      = val_main_v50 (F := Ideal) x0 x2 (ix4 e ⟨b.val * 128 + r.val, by omega⟩ ⟨g.val * 4 + j.val, by omega⟩ d) := by
  pointwise [val_main_v95]

theorem ref_sink (e : Fin 2) (b : Fin 64) (g : Fin 2) (j : Fin 4) (r : Fin 128) :
    val_main_v145 (F := Ideal) x0 x1 x2 x3 x4 (ix6 e b g j r ⟨256, by omega⟩) = x4 (ix2 0 ⟨g.val * 4 + j.val, by omega⟩) := by
  pointwise [val_main_v145, val_main_v144, val_main_v143, val_main_v142, val_main_v94]

theorem ref_attn (e : Fin 2) (p : Fin 8192) (c : Fin 512) :
    val_main_v160 (F := Ideal) x0 x1 x2 x3 x4 (ix3 e p c)
      = ∑ k : Fin 256, val_main_v107 (F := Ideal) x1 (ix5 e ⟨p.val / 128, by omega⟩ k ⟨c.val / 256, by omega⟩ ⟨c.val % 64, by omega⟩)
          * Ideal.div (val_main_v152 (F := Ideal) x0 x1 x2 x3 x4 (ix6 e ⟨p.val / 128, by omega⟩ ⟨c.val / 256, by omega⟩ ⟨c.val / 64 % 4, by omega⟩ ⟨p.val % 128, by omega⟩ ⟨k.val, by omega⟩))
              (val_main_v153 (F := Ideal) x0 x1 x2 x3 x4 (ix5 e ⟨p.val / 128, by omega⟩ ⟨c.val / 256, by omega⟩ ⟨c.val / 64 % 4, by omega⟩ ⟨p.val % 128, by omega⟩)) := by
  pointwise [val_main_v160, val_main_v159, val_main_v158, val_main_v157, val_main_v156, val_main_v155, val_main_v154]

end Cert.KernelIdeal.Row
-- ==== Proof.RefMask.lean ====
module

public import proofs.«01_k».proof.Proof.Gen.ReferenceIdeal.Read
public import proofs.«01_k».proof.Proof.RefHeads
public import proofs.«01_k».proof.Proof.SoftRow

@[expose] public section

set_option maxRecDepth 16384

noncomputable section

/-! The reference's mask read at an index, and the masked scores. -/

namespace Cert.KernelIdeal.Row

open Idealize.ShloMosaic Cert.ReferenceIdeal Cert.ReferenceIdeal.Gen Cert.ReferenceIdeal.Read

/-- The reference's mask at block `b`, row `r` and key `k` of the two blocks. -/
theorem ref_mask (b : Fin 64) (r : Fin 128) (k : Fin 256) :
    val_main_v135 (F := Ideal) (ix3 b r k) = if sees (min b.val 1) k.val r.val then 1#1 else 0#1 := by
  pointwise [val_main_v135, val_main_v134, val_main_v133, val_main_v132, val_main_c_15, val_main_v131, val_main_v130, val_main_v129,
    val_main_v128, val_main_c_14, val_main_v127, val_main_v126, val_main_c_13, val_main_v125, val_main_v124, val_main_v123, val_main_v122, val_main_v121,
    val_main_v120, val_main_v119, val_main_v118, val_main_v117, val_main_v116, val_main_v115, val_main_v114, val_main_v113, val_main_c_12, val_main_v112,
    val_main_v111, val_main_c, val_main_v110, val_main_v109, val_main_v108]
  have kw : (IntOp.addi (IntOp.subi (IntOp.muli (BitVec.ofNat 32 b.val) 128#32) 128#32) (BitVec.ofNat 32 k.val)).toInt = (b.val : ℤ) * 128 - 128 + k.val := by
    have h1 : (BitVec.ofNat 32 b.val).toInt = (b.val : ℤ) := by rw [BitVec.toInt_ofNat']; simp only [Int.bmod]; omega
    have h2 : (BitVec.ofNat 32 k.val).toInt = (k.val : ℤ) := by rw [BitVec.toInt_ofNat']; simp only [Int.bmod]; omega
    have h3 : (128#32).toInt = 128 := rfl
    rw [IntOp.addi, IntOp.subi, IntOp.muli, BitVec.toInt_add, BitVec.toInt_sub, BitVec.toInt_mul, h1, h2, h3]
    simp only [Int.bmod]; omega
  generalize IntOp.addi (IntOp.subi (IntOp.muli (BitVec.ofNat 32 b.val) 128#32) 128#32) (BitVec.ofNat 32 k.val) = w at kw
  have dw : (IntOp.subi (BitVec.ofNat 32 (b.val * 128 + r.val)) w).toInt = (r.val : ℤ) + 128 - k.val := by
    have h1 : (BitVec.ofNat 32 (b.val * 128 + r.val)).toInt = (b.val : ℤ) * 128 + r.val := by rw [BitVec.toInt_ofNat']; simp only [Int.bmod]; omega
    rw [IntOp.subi, BitVec.toInt_sub, h1, kw]
    simp only [Int.bmod]; omega
  generalize IntOp.subi (BitVec.ofNat 32 (b.val * 128 + r.val)) w = d at dw
  have e1 : IntOp.cmpi CmpIPredicate.sge d 0#32 = if k.val ≤ r.val + 128 then 1#1 else 0#1 := by
    refine ofBool_ite _ _ ?_
    rw [BitVec.sle_iff_toInt_le, dw]
    simp; omega
  have e2 : IntOp.cmpi CmpIPredicate.slt d 128#32 = if r.val < k.val then 1#1 else 0#1 := by
    refine ofBool_ite _ _ ?_
    rw [BitVec.slt_iff_toInt_lt, dw]
    simp; omega
  have e3 : IntOp.cmpi CmpIPredicate.sge w 0#32 = if 1 ≤ b.val ∨ 128 ≤ k.val then 1#1 else 0#1 := by
    refine ofBool_ite _ _ ?_
    rw [BitVec.sle_iff_toInt_le, kw]
    simp; omega
  simp only [e1, e2, e3, and_ite]
  unfold sees
  refine if_congr ?_ rfl rfl
  have := r.isLt
  omega

variable (x0 : Vec Ideal S2x8192x512 .f32) (x1 : Vec Ideal S2x8192x256 .f32) (x2 x3 : Vec Ideal S1x64 .f32) (x4 : Vec Ideal S1x8 .f32)

theorem ref_masked (e : Fin 2) (b : Fin 64) (g : Fin 2) (j : Fin 4) (r : Fin 128) (k : Fin 256) :
    val_main_v145 (F := Ideal) x0 x1 x2 x3 x4 (ix6 e b g j r ⟨k.val, by omega⟩)
      = if sees (min b.val 1) k.val r.val then val_main_v139 (F := Ideal) x0 x1 x2 x3 (ix6 e b g j r k) else ⊥ := by
  pointwise [val_main_v145, val_main_v141, val_main_call0_v2, val_main_call0_v1, val_main_call0_v0, val_main_v140, val_main_cst_17]
  simp only [ref_mask, id, ofBits_neg_inf]
  split
  · rfl
  · exact ofBits_neg_inf

end Cert.KernelIdeal.Row
-- ==== Proof.RefSoft.lean ====
module

public import proofs.«01_k».proof.Proof.Gen.ReferenceIdeal.Read
public import proofs.«01_k».proof.Proof.RefHeads
public import proofs.«01_k».proof.Proof.SoftRow

@[expose] public section

set_option maxRecDepth 16384

noncomputable section

/-! The reference's softmax read at an index: the largest score, the exponentials and their sum. -/

namespace Cert.KernelIdeal.Row

open Idealize.ShloMosaic Cert.ReferenceIdeal Cert.ReferenceIdeal.Gen Cert.ReferenceIdeal.Read

variable (x0 : Vec Ideal S2x8192x512 .f32) (x1 : Vec Ideal S2x8192x256 .f32) (x2 x3 : Vec Ideal S1x64 .f32) (x4 : Vec Ideal S1x8 .f32)

theorem lift257 (h : S2x64x2x4x128x257.Reduces [5] S2x64x2x4x128) (e : Fin 2) (b : Fin 64) (g : Fin 2) (j : Fin 4) (r : Fin 128)
    (k : Fin (S2x64x2x4x128x257.size 5)) : h.lift (ix5 e b g j r) k = ix6 e b g j r (⟨k.val, k.isLt⟩ : Fin 257) := by
  funext c
  apply Fin.ext
  match c with
  | ⟨0, _⟩ => rfl
  | ⟨1, _⟩ => rfl
  | ⟨2, _⟩ => rfl
  | ⟨3, _⟩ => rfl
  | ⟨4, _⟩ => rfl
  | ⟨5, _⟩ => rfl

theorem host_max257 (y : FVec Ideal S2x64x2x4x128x257 .f32) (h' : S2x64x2x4x128x257.ReducesTo [5] S2x64x2x4x128) (h : S2x64x2x4x128x257.Reduces [5] S2x64x2x4x128)
    (hu : 0 < S_.numel) (e : Fin 2) (b : Fin 64) (g : Fin 2) (j : Fin 4) (r : Fin 128) :
    Host.reduce FloatOps.maximumf y (constant S_ .f32 0xFF800000#32) h' hu (ix5 e b g j r)
      = Finset.univ.sup fun k : Fin 257 => y (ix6 e b g j r k) := by
  rw [Host.reduce_eq_fold_single FloatOps.maximumf y _ h' h hu]
  have hf : (y ∘ h.lift (ix5 e b g j r)) = fun k : Fin 257 => y (ix6 e b g j r k) := funext fun k => congrArg y (lift257 h e b g j r k)
  refine (congrArg (fun f => Finset.fold max (Ideal.ofBits .f32 0xFF800000#32) f (Finset.univ : Finset (Fin 257))) hf).trans ?_
  rw [ofBits_neg_inf]
  rfl

theorem ref_max (e : Fin 2) (b : Fin 64) (g : Fin 2) (j : Fin 4) (r : Fin 128) :
    val_main_v146 (F := Ideal) x0 x1 x2 x3 x4 (ix5 e b g j r) = Finset.univ.sup fun k : Fin 257 => val_main_v145 (F := Ideal) x0 x1 x2 x3 x4 (ix6 e b g j r k) := by
  unfold val_main_v146 val_main_cst_18
  generalize val_main_v145 (F := Ideal) x0 x1 x2 x3 x4 = y
  exact host_max257 y _ (by decide) _ e b g j r

theorem idx_max (e : Fin 2) (b : Fin 64) (g : Fin 2) (j : Fin 4) (r : Fin 128) (k : Fin 257) :
    idx_main_v149 (idx_main_v150 (ix6 e b g j r k)) = ix5 e b g j r := by
  funext c
  apply Fin.ext
  match c with
  | ⟨0, _⟩ => rfl
  | ⟨1, _⟩ => rfl
  | ⟨2, _⟩ => rfl
  | ⟨3, _⟩ => rfl
  | ⟨4, _⟩ => rfl

theorem ref_exp (e : Fin 2) (b : Fin 64) (g : Fin 2) (j : Fin 4) (r : Fin 128) (k : Fin 257) :
    val_main_v152 (F := Ideal) x0 x1 x2 x3 x4 (ix6 e b g j r k)
      = Ideal.exp (val_main_v145 (F := Ideal) x0 x1 x2 x3 x4 (ix6 e b g j r k) - max ⊥ (val_main_v146 (F := Ideal) x0 x1 x2 x3 x4 (ix5 e b g j r))) := by
  rw [val_main_v152_apply, val_main_v151_apply, val_main_v150_apply, val_main_v149_apply, idx_max, val_main_v148_apply, val_main_v147_apply, ← ofBits_neg_inf]
  generalize val_main_v146 (F := Ideal) x0 x1 x2 x3 x4 = M
  generalize val_main_v145 (F := Ideal) x0 x1 x2 x3 x4 = y
  rfl

theorem idx_sum (e : Fin 2) (b : Fin 64) (g : Fin 2) (j : Fin 4) (r : Fin 128) (k : Fin 257) :
    idx_main_v153 (ix5 e b g j r) k = ix6 e b g j r k := by
  funext c
  apply Fin.ext
  match c with
  | ⟨0, _⟩ => rfl
  | ⟨1, _⟩ => rfl
  | ⟨2, _⟩ => rfl
  | ⟨3, _⟩ => rfl
  | ⟨4, _⟩ => rfl
  | ⟨5, _⟩ => rfl

theorem ref_den (e : Fin 2) (b : Fin 64) (g : Fin 2) (j : Fin 4) (r : Fin 128) :
    val_main_v153 (F := Ideal) x0 x1 x2 x3 x4 (ix5 e b g j r) = ∑ k : Fin 257, val_main_v152 (F := Ideal) x0 x1 x2 x3 x4 (ix6 e b g j r k) := by
  refine (val_main_v153_apply x0 x1 x2 x3 x4 _).trans ?_
  generalize val_main_v152 (F := Ideal) x0 x1 x2 x3 x4 = y
  unfold val_main_cst_20
  pointwise []
  exact Finset.sum_congr rfl fun k _ => congrArg y (idx_sum e b g j r k)

end Cert.KernelIdeal.Row
-- ==== Proof.RefOut.lean ====
module

public import proofs.«01_k».proof.Proof.RefAttn
public import proofs.«01_k».proof.Proof.RefMask
public import proofs.«01_k».proof.Proof.RefSoft

@[expose] public section

set_option maxRecDepth 16384

noncomputable section

/-! The reference's attention row as a softmax over the band of two blocks of keys. -/

namespace Cert.KernelIdeal.Row

open Idealize.ShloMosaic Cert.ReferenceIdeal Cert.ReferenceIdeal.Gen Cert.ReferenceIdeal.Read

variable (x0 : Vec Ideal S2x8192x512 .f32) (x1 : Vec Ideal S2x8192x256 .f32) (x2 x3 : Vec Ideal S1x64 .f32) (x4 : Vec Ideal S1x8 .f32)

/-- The key head `h` at position `p`. -/
def kAll (e : Fin 2) (p : Fin 8192) (h : Fin 2) : EV 64 :=
  rope p.val (hn (fun j => x1 (ix3 e p ⟨h.val * 64 + j.val, by omega⟩)) (fun j => x3 (ix2 0 j)))

/-- The query head `h` at position `p`. -/
def qAll (e : Fin 2) (p : Fin 8192) (h : Fin 8) : EV 64 :=
  rope p.val (hn (fun j => x0 (ix3 e p ⟨h.val * 64 + j.val, by omega⟩)) (fun j => x2 (ix2 0 j)))

/-- The keys that block `b` sees: those of the block before (zeros before the first) and its own. -/
def kBand (e : Fin 2) (b : Fin 64) (k : Fin 256) (h : Fin 2) : EV 64 := fun d =>
  if h1 : k.val < 128 then (if h2 : b.val < 1 then 0 else kAll x1 x3 e ⟨(b.val - 1) * 128 + k.val, by omega⟩ h d)
  else kAll x1 x3 e ⟨b.val * 128 + (k.val - 128), by omega⟩ h d

/-- The values that block `b` sees. -/
def vBand (e : Fin 2) (b : Fin 64) (k : Fin 256) (h : Fin 2) : EV 64 := fun d =>
  if h1 : k.val < 128 then (if h2 : b.val < 1 then 0 else x1 (ix3 e ⟨(b.val - 1) * 128 + k.val, by omega⟩ ⟨128 + (h.val * 64 + d.val), by omega⟩))
  else x1 (ix3 e ⟨b.val * 128 + (k.val - 128), by omega⟩ ⟨128 + (h.val * 64 + d.val), by omega⟩)

/-- The score of key `k` for lane group `l / 64` of row `r` of block `b`. -/
def scoreOf (e : Fin 2) (b : Fin 64) (r : Fin 128) (l : Fin 512) (k : Fin 256) : EReal :=
  if sees (min b.val 1) k.val r.val then
    (∑ d : Fin 64, kBand x1 x3 e b k ⟨l.val / 256, by omega⟩ d * qAll x0 x2 e ⟨b.val * 128 + r.val, by omega⟩ ⟨l.val / 64, by omega⟩ d) * ((1 / 8 : ℝ) : EReal)
  else ⊥

/-- Lane `l` of the attention's row `r` of block `b`. -/
def attnOf (e : Fin 2) (b : Fin 64) (r : Fin 128) (l : Fin 512) : EReal :=
  soft (scoreOf x0 x1 x2 x3 e b r l) (x4 (ix2 0 ⟨l.val / 64, by omega⟩)) (fun k => vBand x1 e b k ⟨l.val / 256, by omega⟩ ⟨l.val % 64, by omega⟩)

theorem ref_kBand (e : Fin 2) (b : Fin 64) (k : Fin 256) (h : Fin 2) (d : Fin 64) :
    val_main_v102 (F := Ideal) x1 x3 (ix5 e b k h d) = kBand x1 x3 e b k h d := by
  rw [ref_kcat]
  unfold kBand kAll
  simp only [ref_key]

theorem ref_vBand (e : Fin 2) (b : Fin 64) (k : Fin 256) (h : Fin 2) (d : Fin 64) :
    val_main_v107 (F := Ideal) x1 (ix5 e b k h d) = vBand x1 e b k h d := by
  rw [ref_vcat]
  unfold vBand
  simp only [ref_v]

theorem sup_last (f : Fin 257 → EReal) : Finset.univ.sup f = max (Finset.univ.sup fun k : Fin 256 => f ⟨k.val, by omega⟩) (f ⟨256, by omega⟩) := by
  refine le_antisymm (Finset.sup_le fun k _ => ?_) (max_le (Finset.sup_le fun k _ => Finset.le_sup (f := f) (Finset.mem_univ _)) (Finset.le_sup (f := f) (Finset.mem_univ _)))
  by_cases hk : k.val < 256
  · exact le_max_of_le_left (Finset.le_sup (f := fun k : Fin 256 => f ⟨k.val, by omega⟩) (Finset.mem_univ (⟨k.val, hk⟩ : Fin 256)))
  · have : k = ⟨256, by omega⟩ := Fin.ext (by have := k.isLt; show k.val = 256; omega)
    rw [this]
    exact le_max_right _ _

theorem sum_last (f : Fin 257 → EReal) : ∑ k, f k = (∑ k : Fin 256, f ⟨k.val, by omega⟩) + f ⟨256, by omega⟩ :=
  Fin.sum_univ_castSucc (n := 256) f

theorem ref_attn_soft (e : Fin 2) (b : Fin 64) (r : Fin 128) (l : Fin 512) :
    val_main_v160 (F := Ideal) x0 x1 x2 x3 x4 (ix3 e ⟨b.val * 128 + r.val, by omega⟩ l) = attnOf x0 x1 x2 x3 x4 e b r l := by
  have hl := l.isLt
  have hr := r.isLt
  have hb : (⟨(b.val * 128 + r.val) / 128, by omega⟩ : Fin 64) = b := Fin.ext (by dsimp only; omega)
  have hr' : (⟨(b.val * 128 + r.val) % 128, by omega⟩ : Fin 128) = r := Fin.ext (by dsimp only; omega)
  rw [ref_attn]
  simp only [hb, hr']
  have hscore : ∀ k : Fin 256, val_main_v145 (F := Ideal) x0 x1 x2 x3 x4 (ix6 e b ⟨l.val / 256, by omega⟩ ⟨l.val / 64 % 4, by omega⟩ r ⟨k.val, by omega⟩)
      = scoreOf x0 x1 x2 x3 e b r l k := by
    intro k
    rw [ref_masked, ref_score, ofBits_eighth]
    have hq : (⟨l.val / 256 * 4 + l.val / 64 % 4, by omega⟩ : Fin 8) = ⟨l.val / 64, by omega⟩ := Fin.ext (by dsimp only; omega)
    unfold scoreOf qAll
    simp only [ref_kBand, ref_q6, ref_query, hq]
  have hsink : val_main_v145 (F := Ideal) x0 x1 x2 x3 x4 (ix6 e b ⟨l.val / 256, by omega⟩ ⟨l.val / 64 % 4, by omega⟩ r ⟨256, by omega⟩)
      = x4 (ix2 0 ⟨l.val / 64, by omega⟩) := by
    rw [ref_sink]
    refine congrArg (fun j => x4 (ix2 0 j)) (Fin.ext ?_)
    dsimp only
    omega
  have hmax : max ⊥ (val_main_v146 (F := Ideal) x0 x1 x2 x3 x4 (ix5 e b ⟨l.val / 256, by omega⟩ ⟨l.val / 64 % 4, by omega⟩ r))
      = smax (scoreOf x0 x1 x2 x3 e b r l) (x4 (ix2 0 ⟨l.val / 64, by omega⟩)) := by
    rw [ref_max, max_eq_right bot_le, sup_last]
    simp only [hscore, hsink]
    rfl
  unfold attnOf soft
  simp only [ref_den, sum_last, ref_exp, hmax, hscore, hsink, ref_vBand]

end Cert.KernelIdeal.Row
-- ==== Proof.RefTail.lean ====
module

public import proofs.«01_k».proof.Proof.Gen.ReferenceIdeal.Read
public import proofs.«01_k».proof.Proof.RefHeads

@[expose] public section

set_option maxRecDepth 16384

noncomputable section

/-! The reference's second half read at an index: the projection with the residual and the feed-forward. -/

namespace Cert.KernelIdeal.Row

open Idealize.ShloMosaic Cert.ReferenceIdeal Cert.ReferenceIdeal.Gen Cert.ReferenceIdeal.Read

theorem ref_res_dec (x7 : Vec Ideal S128x1x1024 .f32) (x8 x9 : Vec Ideal S128x512 .f32) (x10 : Vec Ideal S1x1024x1024 .f32) (r : Fin 128) (n : Fin 1024) :
    val_main_v196 (F := Ideal) x7 x8 x9 x10 (ix3 r 0 n)
      = res (fun k => x7 (ix3 r 0 k)) (fun k => if h : k.val < 512 then x8 (ix2 r ⟨k.val, h⟩) else x9 (ix2 r ⟨k.val - 512, by omega⟩))
          (fun k n => x10 (ix3 0 k n)) n := by
  unfold res
  pointwise [val_main_v196, val_main_v195, val_main_v194, val_main_v190, val_main_v191, val_main_v192, val_main_v193, val_main_v189, val_main_v188]

theorem ref_tail_dec (x7 : Vec Ideal S128x1x1024 .f32) (x8 x9 : Vec Ideal S128x512 .f32) (x10 : Vec Ideal S1x1024x1024 .f32) (x11 : Vec Ideal S1x1024 .f32)
    (x12 : Vec Ideal S1x1024x4096 .f32) (x13 : Vec Ideal S1x4096x1024 .f32) (r : Fin 128) (n : Fin 1024) :
    val_main_v214 (F := Ideal) x7 x8 x9 x10 x11 x12 x13 (ix3 r 0 n)
      = tail (fun k => val_main_v196 (F := Ideal) x7 x8 x9 x10 (ix3 r 0 k)) (fun k => x11 (ix2 0 k)) (fun k f => x12 (ix3 0 k f)) (fun f n => x13 (ix3 0 f n)) n := by
  unfold tail hid sqrelu nrm
  unfold val_main_v214 val_main_v213 val_main_v212 val_main_v211 val_main_v210 val_main_v209 val_main_v206 val_main_v205 val_main_v204 val_main_v203 val_main_v201 val_main_v199 val_main_v198 val_main_v197
  generalize val_main_v196 (F := Ideal) x7 x8 x9 x10 = f
  pointwise [val_main_v208, val_main_v207, val_main_v202, val_main_v200, val_main_v191, val_main_v192, val_main_v193, val_main_cst_24, val_main_cst_25, val_main_cst_26, val_main_call2_v0, val_main_call2_cst]

end Cert.KernelIdeal.Row
-- ==== Proof.RefTailP.lean ====
module

public import proofs.«01_k».proof.Proof.RefTail

@[expose] public section

set_option maxRecDepth 16384

noncomputable section

/-! The reference's second half of a prompt row, from the attention's row. -/

namespace Cert.KernelIdeal.Row

open Idealize.ShloMosaic Cert.ReferenceIdeal Cert.ReferenceIdeal.Gen Cert.ReferenceIdeal.Read

variable (x0 : Vec Ideal S2x8192x512 .f32) (x1 : Vec Ideal S2x8192x256 .f32) (x2 x3 : Vec Ideal S1x64 .f32) (x4 : Vec Ideal S1x8 .f32)
  (x5 : Vec Ideal S2x8192x1024 .f32) (x6 : Vec Ideal S2x8192x512 .f32) (x10 : Vec Ideal S1x1024x1024 .f32) (x11 : Vec Ideal S1x1024 .f32)
  (x12 : Vec Ideal S1x1024x4096 .f32) (x13 : Vec Ideal S1x4096x1024 .f32)

theorem ref_res (e : Fin 2) (p : Fin 8192) (n : Fin 1024) :
    val_main_v169 (F := Ideal) x0 x1 x2 x3 x4 x5 x6 x10 (ix3 e p n)
      = res (fun k => x5 (ix3 e p k)) (fun k => if h : k.val < 512 then x6 (ix3 e p ⟨k.val, h⟩) else val_main_v160 (F := Ideal) x0 x1 x2 x3 x4 (ix3 e p ⟨k.val - 512, by omega⟩))
          (fun k n => x10 (ix3 0 k n)) n := by
  unfold res
  unfold val_main_v169 val_main_v168 val_main_v167
  generalize val_main_v160 (F := Ideal) x0 x1 x2 x3 x4 = f
  pointwise [val_main_v163]

theorem ref_tail (e : Fin 2) (p : Fin 8192) (n : Fin 1024) :
    val_main_v187 (F := Ideal) x0 x1 x2 x3 x4 x5 x6 x10 x11 x12 x13 (ix3 e p n)
      = tail (fun k => val_main_v169 (F := Ideal) x0 x1 x2 x3 x4 x5 x6 x10 (ix3 e p k)) (fun k => x11 (ix2 0 k)) (fun k f => x12 (ix3 0 k f)) (fun f n => x13 (ix3 0 f n)) n := by
  unfold tail hid sqrelu nrm
  unfold val_main_v187 val_main_v186 val_main_v185 val_main_v184 val_main_v183 val_main_v182 val_main_v179 val_main_v178 val_main_v177 val_main_v176 val_main_v174 val_main_v172 val_main_v171 val_main_v170
  generalize val_main_v169 (F := Ideal) x0 x1 x2 x3 x4 x5 x6 x10 = f
  pointwise [val_main_v181, val_main_v180, val_main_v175, val_main_v173, val_main_v164, val_main_v165, val_main_v166, val_main_cst_21, val_main_cst_22, val_main_cst_23, val_main_call1_v0, val_main_call1_cst]

end Cert.KernelIdeal.Row
-- ==== Proof.StepVals.lean ====
module

public import proofs.«01_k».proof.Proof.KAttn
public import proofs.«01_k».proof.Proof.MixRow
public import proofs.«01_k».proof.Proof.RefOut
public import proofs.«01_k».proof.Proof.RefTailP

@[expose] public section

set_option maxRecDepth 16384

noncomputable section

/-! What each step of the grid stores, as the reference's arrays: the windows of keys and values, the attention rows, and the rows of the layer's result. -/

namespace Cert.KernelIdeal.Row

open Idealize.ShloMosaic Cert.KernelIdeal Cert.KernelIdeal.Gen

variable (m : (ℓ : Loc nD τ sig) → Buf (Elt Ideal) ℓ) (c : Dev nD)
  (s : Vec Ideal S2x128x128 .f32 × Vec Ideal S2x128x128 .f32 × Vec Ideal S2x128x512 .f32) (t : Fin cfg0.N)

/-- The weight of the query norm, and of the key norm. -/
abbrev qwt : EV 64 := fun d => inp m c main_arg2 (ix2 0 d)
abbrev kwt : EV 64 := fun d => inp m c main_arg3 (ix2 0 d)

theorem tabs : Tabs (blkAt m c t s) (ablk t).val (qwt m c) (kwt m c) where
  ta_lo l := (ta_at m c s t _).trans (if_pos l.isLt)
  ta_hi l := by
    refine (ta_at m c s t _).trans ((if_neg (by dsimp only; omega)).trans ?_)
    rw [show (128 + l.val) % 8 = l.val % 8 by omega]
  tb_lo r l := (tb_at m c s t _ _).trans (if_pos l.isLt)
  tb_hi r l := by
    refine (tb_at m c s t _ _).trans ((if_neg (by dsimp only; omega)).trans ?_)
    rw [show (128 + l.val) % 8 = l.val % 8 by omega]
  on j k := on_at m c s t j k
  qw n := qw_at m c s t n
  kw n := kw_at m c s t n

/-- A block's keys are the key heads of its rows. -/
theorem keyAt_all (e : Fin 2) (r l : Fin 128) : keyAt (blkAt m c t s) (ablk t).val (kwt m c) e r l
    = kAll (inp m c main_arg1) (inp m c main_arg3) e (row (ablk t) r) ⟨l.val / 64, by omega⟩ ⟨l.val % 64, Nat.mod_lt _ (by decide)⟩ := by
  unfold keyAt kAll kin
  simp only [kv_at, Nat.mul_comm 64]
  rfl

theorem qhead_all (e : Fin 2) (r : Fin 128) (h : Fin 8) : qhead (blkAt m c t s) (ablk t).val (qwt m c) e r h
    = qAll (inp m c main_arg0) (inp m c main_arg2) e (row (ablk t) r) h := by
  unfold qhead qAll qin
  simp only [q_at, Nat.mul_comm 64]
  rfl

theorem fst_of {α β γ : Type} {p : α × β × γ} {x : α} {y : β} {z : γ} (h : p = (x, y, z)) : p.1 = x := by
  subst h
  rfl

theorem scr_keys (n : ℕ) (hN : n < cfg0.N) (hn : t.val = n + 1) : (scr m c t.val).1 = stepK (grid0.coords ⟨n, hN⟩) (blkOf m c ⟨n, hN⟩) := by
  have h := scr_succ m c ⟨n, hN⟩
  have hn' : t.val = (⟨n, hN⟩ : Fin cfg0.N).val + 1 := hn
  rw [hn']
  exact fst_of h

/-- The keys in the scratch buffer are the block before's, zeros before the first. -/
theorem kp_all (ht : t.val < 64) (e : Fin 2) (r l : Fin 128) : (blkOf m c t).kp (ix3 e r l)
    = if h : (ablk t).val < 1 then 0 else kAll (inp m c main_arg1) (inp m c main_arg3) e ⟨((ablk t).val - 1) * 128 + r.val, by omega⟩ ⟨l.val / 64, by omega⟩ ⟨l.val % 64, Nat.mod_lt _ (by decide)⟩ := by
  have ha : (ablk t).val = t.val := by show min t.val 63 = t.val; omega
  show (scr m c t.val).1 (ix3 e r l) = _
  by_cases h0 : t.val = 0
  · rw [dif_pos (by omega), h0]
    show k0_pay7 (F := Ideal) (ix3 e r l) = 0
    pointwise [k0_pay7]
  · obtain ⟨n, hn⟩ : ∃ n, t.val = n + 1 := ⟨t.val - 1, by omega⟩
    have hN : n < cfg0.N := by have := t.isLt; omega
    have ht' : (ablk ⟨n, hN⟩).val = n := by show min n 63 = n; omega
    rw [dif_neg (by omega)]
    have hp : row (ablk ⟨n, hN⟩) r = ⟨((ablk t).val - 1) * 128 + r.val, by omega⟩ := by
      refine Fin.ext ?_
      unfold row
      dsimp only
      omega
    have hk := keyAt_all m c (scr m c n) ⟨n, hN⟩ e r l
    rw [hp] at hk
    have hT : Tabs (blkOf m c ⟨n, hN⟩) (ablk ⟨n, hN⟩).val (qwt m c) (kwt m c) := tabs m c (scr m c n) ⟨n, hN⟩
    rw [scr_keys m c t n hN hn, stepK_at (grid0.coords ⟨n, hN⟩) (blkOf m c ⟨n, hN⟩) hT e r l]
    exact hk

theorem vp_all (ht : t.val < 64) (e : Fin 2) (r l : Fin 128) : (blkOf m c t).vp (ix3 e r l)
    = if h : (ablk t).val < 1 then (0 : EReal) else inp m c main_arg1 (ix3 e ⟨((ablk t).val - 1) * 128 + r.val, by omega⟩ ⟨128 + l.val, by omega⟩) := by
  have ha : (ablk t).val = t.val := by show min t.val 63 = t.val; omega
  show (scr m c t.val).2.1 (ix3 e r l) = _
  by_cases h0 : t.val = 0
  · rw [dif_pos (by omega), h0]
    show k0_pay8 (F := Ideal) (ix3 e r l) = 0
    pointwise [k0_pay8]
  · obtain ⟨n, hn⟩ : ∃ n, t.val = n + 1 := ⟨t.val - 1, by omega⟩
    have hN : n < cfg0.N := by have := t.isLt; omega
    have ht' : (ablk ⟨n, hN⟩).val = n := by show min n 63 = n; omega
    rw [dif_neg (by omega), hn, scr_succ m c ⟨n, hN⟩]
    have hp : row (ablk ⟨n, hN⟩) r = ⟨((ablk t).val - 1) * 128 + r.val, by omega⟩ := by
      refine Fin.ext ?_
      unfold row
      dsimp only
      omega
    have hk := kv_at m c (scr m c n) ⟨n, hN⟩ e r ⟨128 + l.val, by omega⟩
    rw [hp] at hk
    exact (stepV_at _ _ e r l).trans hk

theorem kcat_all (ht : t.val < 64) (e : Fin 2) (k : Fin 256) (kh : Fin 2) (d : Fin 64) :
    kcat (blkOf m c t) (ablk t).val (kwt m c) e k ⟨64 * kh.val + d.val, by omega⟩ = kBand (inp m c main_arg1) (inp m c main_arg3) e (ablk t) k kh d := by
  have hd := d.isLt
  have h1 : ∀ h, (⟨(64 * kh.val + d.val) / 64, h⟩ : Fin 2) = kh := fun h => Fin.ext (by dsimp only; omega)
  have h2 : ∀ h, (⟨(64 * kh.val + d.val) % 64, h⟩ : Fin 64) = d := fun h => Fin.ext (by dsimp only; omega)
  unfold kcat kBand
  split
  · rw [kp_all m c t ht]
    simp only [h1, h2]
  · refine (keyAt_all m c (scr m c t.val) t e _ _).trans ?_
    simp only [h1, h2]
    rfl

theorem vcat_all (ht : t.val < 64) (e : Fin 2) (k : Fin 256) (kh : Fin 2) (d : Fin 64) :
    vcat (blkOf m c t) e k ⟨64 * kh.val + d.val, by omega⟩ = vBand (inp m c main_arg1) e (ablk t) k kh d := by
  unfold vcat vBand
  split
  · rw [vp_all m c t ht]
    simp only [Nat.mul_comm 64]
  · refine (kv_at m c (scr m c t.val) t e _ _).trans ?_
    simp only [Nat.mul_comm 64]
    rfl

theorem sees_mod (w k c r : ℕ) (h : c % 128 = r % 128) : sees w k c ↔ sees w k r := by
  unfold sees
  rw [h]

theorem kBand_real (hk : ∀ d, IsReal (kwt m c d)) (e : Fin 2) (b : Fin 64) (k : Fin 256) (kh : Fin 2) (d : Fin 64) :
    IsReal (kBand (inp m c main_arg1) (inp m c main_arg3) e b k kh d) := by
  unfold kBand
  split
  · split
    · exact isReal_zero
    · exact rope_real _ _ (hn_real _ _ hk) d
  · exact rope_real _ _ (hn_real _ _ hk) d

theorem scoreOf_ne_top (hq : ∀ d, IsReal (qwt m c d)) (hk : ∀ d, IsReal (kwt m c d)) (e : Fin 2) (b : Fin 64) (r : Fin 128) (l : Fin 512) (k : Fin 256) :
    scoreOf (inp m c main_arg0) (inp m c main_arg1) (inp m c main_arg2) (inp m c main_arg3) e b r l k ≠ ⊤ := by
  unfold scoreOf
  split
  · refine IsReal.ne_top (IsReal.mul (IsReal.sum fun d => IsReal.mul (kBand_real m c hk e b k _ d) ?_) (isReal_coe _))
    exact rope_real _ _ (hn_real _ _ hq) d
  · exact bot_ne_top

theorem qs_sum (f g : Fin 64 → EReal) : (∑ d, f d * (g d * qs)) = (∑ d, f d * g d) * ((1 / 8 : ℝ) : EReal) * l2e := by
  rw [mul_assoc, ← qs_eq]
  unfold qs
  rw [sum_mul_real _ _ (by have := Real.log_pos (by norm_num : (1 : ℝ) < 2); positivity)]
  exact Finset.sum_congr rfl fun d _ => (mul_assoc _ _ _).symm

/-- The attention rows a step leaves are the reference's. -/
theorem stepY_all (hq : ∀ d, IsReal (qwt m c d)) (hk : ∀ d, IsReal (kwt m c d)) (hs : ∀ j : Fin 8, IsReal (inp m c main_arg4 (ix2 0 j)))
    (ht : t.val < 64) (e : Fin 2) (r : Fin 128) (l : Fin 512) : stepY (grid0.coords t) (blkOf m c t) (ix3 e r l)
    = attnOf (inp m c main_arg0) (inp m c main_arg1) (inp m c main_arg2) (inp m c main_arg3) (inp m c main_arg4) e (ablk t) r l := by
  have hr := r.isLt
  have ha : (ablk t).val = t.val := by show min t.val 63 = t.val; omega
  rw [stepY_soft (grid0.coords t) (blkOf m c t) (tabs m c (scr m c t.val) t) ⟨min t.val 1, by omega⟩ (off1_at t)]
  unfold attnOf
  rw [← soft2_eq _ _ _ (hs _) (scoreOf_ne_top m c hq hk e (ablk t) r l)]
  refine congr (congrArg₂ soft2 (funext fun k => ?_) ?_) (funext fun k => vcat_all m c t ht e k ⟨l.val / 256, by omega⟩ ⟨l.val % 64, by omega⟩)
  · have hb : (blkOf m c t).bi (ix3 ⟨min t.val 1, by omega⟩ k ⟨l.val / 64 % 4 * 128 + r.val, by omega⟩) = if sees (min (ablk t).val 1) k.val r.val then (0 : EReal) else ⊥ := by
      refine (bi_at m c (scr m c t.val) t _ k _).trans (if_congr ?_ rfl rfl)
      rw [ha]
      exact sees_mod _ _ _ _ (by dsimp only; omega)
    have hK : ∀ d : Fin 64, kcat (blkOf m c t) (ablk t).val (kwt m c) e k ⟨64 * (l.val / 256) + d.val, by omega⟩
        = kBand (inp m c main_arg1) (inp m c main_arg3) e (ablk t) k ⟨l.val / 256, by omega⟩ d :=
      fun d => kcat_all m c t ht e k ⟨l.val / 256, by omega⟩ d
    have hQ := qhead_all m c (scr m c t.val) t e r ⟨l.val / 64, by omega⟩
    have hQ' : qhead (blkOf m c t) (ablk t).val (qwt m c) e r ⟨l.val / 64, by omega⟩ = _ := hQ
    rw [hb, hQ']
    simp only [hK]
    rw [qs_sum]
    unfold scoreOf
    split
    · rw [add_zero]
      rfl
    · rw [EReal.add_bot, bot_mul_l2e]
  · exact congrArg (· * l2e) (sk_at m c (scr m c t.val) t _)

end Cert.KernelIdeal.Row
-- ==== Proof.StepRows.lean ====
module

public import proofs.«01_k».proof.Proof.StepVals

@[expose] public section

set_option maxRecDepth 16384

noncomputable section

/-! The four results' blocks, as the reference's arrays of the launched arguments. -/

namespace Cert.KernelIdeal.Row

open Idealize.ShloMosaic Cert.KernelIdeal Cert.KernelIdeal.Gen Cert.ReferenceIdeal.Read

variable (m : (ℓ : Loc nD τ sig) → Buf (Elt Ideal) ℓ) (c : Dev nD)

/-- The reference's results of the launched arguments. -/
abbrev refPrompt : Vec Ideal S2x8192x1024 .f32 := val_main_v187 (F := Ideal) (inp m c main_arg0) (inp m c main_arg1) (inp m c main_arg2) (inp m c main_arg3)
  (inp m c main_arg4) (inp m c main_arg5) (inp m c main_arg6) (inp m c main_arg10) (inp m c main_arg11) (inp m c main_arg12) (inp m c main_arg13)
abbrev refSample : Vec Ideal S128x1x1024 .f32 := val_main_v214 (F := Ideal) (inp m c main_arg7) (inp m c main_arg8) (inp m c main_arg9) (inp m c main_arg10)
  (inp m c main_arg11) (inp m c main_arg12) (inp m c main_arg13)
abbrev refKwin : Vec Ideal S2x128x128 .f32 := val_main_v216 (F := Ideal) (inp m c main_arg1) (inp m c main_arg3)
abbrev refVwin : Vec Ideal S2x128x128 .f32 := val_main_v218 (F := Ideal) (inp m c main_arg1)

theorem snd_of {α β γ : Type} {p : α × β × γ} {x : α} {y : β} {z : γ} (h : p = (x, y, z)) : p.2.2 = z := by
  subst h
  rfl

theorem kwin_at (e : Fin 2) (l r : Fin 128) : stepKw (grid0.coords (pt 63)) (blkOf m c (pt 63)) (ix3 e l r) = refKwin m c (ix3 e l r) := by
  have hT : Tabs (blkOf m c (pt 63)) (ablk (pt 63)).val (qwt m c) (kwt m c) := tabs m c (scr m c (pt 63).val) (pt 63)
  have hp : row (ablk (pt 63)) r = ⟨8064 + r.val, by omega⟩ := Fin.ext (by show 63 * 128 + r.val = _; dsimp only)
  have h := keyAt_all m c (scr m c (pt 63).val) (pt 63) e r l
  rw [hp] at h
  rw [stepKw_at (grid0.coords (pt 63)) (blkOf m c (pt 63)) hT e l r]
  refine Eq.trans h ?_
  show _ = val_main_v216 (F := Ideal) (inp m c main_arg1) (inp m c main_arg3) (ix3 e l r)
  rw [ref_kwin, ref_key]
  rfl

theorem vwin_at (e : Fin 2) (l r : Fin 128) : stepVw (grid0.coords (pt 63)) (blkOf m c (pt 63)) (ix3 e l r) = refVwin m c (ix3 e l r) := by
  have hp : row (ablk (pt 63)) r = ⟨8064 + r.val, by omega⟩ := Fin.ext (by show 63 * 128 + r.val = _; dsimp only)
  have h := kv_at m c (scr m c (pt 63).val) (pt 63) e r ⟨128 + l.val, by omega⟩
  rw [hp] at h
  rw [stepVw_at (grid0.coords (pt 63)) (blkOf m c (pt 63)) e l r]
  refine Eq.trans h ?_
  show _ = val_main_v218 (F := Ideal) (inp m c main_arg1) (ix3 e l r)
  rw [ref_vwin]

theorem sample_at (r : Fin 128) (n : Fin 1024) : stepOd (grid0.coords (pt 0)) (blkOf m c (pt 0)) (ix3 r 0 n) = refSample m c (ix3 r 0 n) := by
  have h0 : (grid0.coords (pt 0) 0).val = 0 := coord_val (pt 0)
  show _ = val_main_v214 (F := Ideal) (inp m c main_arg7) (inp m c main_arg8) (inp m c main_arg9) (inp m c main_arg10)
    (inp m c main_arg11) (inp m c main_arg12) (inp m c main_arg13) (ix3 r 0 n)
  rw [stepOd_at, s76_at, ref_tail_dec]
  simp only [s2_first _ _ h0, ref_res_dec]
  unfold mix
  simp only [blkOf, xd_at, yrd_at, yad_at, wo_at, nw_at, wu_at, wd_at]

theorem prompt_at (hq : ∀ d, IsReal (qwt m c d)) (hk : ∀ d, IsReal (kwt m c d)) (hs : ∀ j : Fin 8, IsReal (inp m c main_arg4 (ix2 0 j)))
    (t : Fin cfg0.N) (ht : t.val ≠ 0) (e : Fin 2) (r : Fin 128) (n : Fin 1024) :
    stepO (grid0.coords t) (blkOf m c t) (ix3 e r n) = refPrompt m c (ix3 e (row (fblk t) r) n) := by
  have hlt := pt_lt t
  have h0 : (grid0.coords t 0).val ≠ 0 := by rw [coord_val t]; exact ht
  have h65 : (grid0.coords t 0).val < 65 := by rw [coord_val t]; exact hlt
  obtain ⟨k, hk'⟩ : ∃ k, t.val = k + 1 := ⟨t.val - 1, by omega⟩
  have hN : k < cfg0.N := by have := t.isLt; omega
  have hya : ∀ l : Fin 512, (blkOf m c t).ya (ix3 e r l)
      = val_main_v160 (F := Ideal) (inp m c main_arg0) (inp m c main_arg1) (inp m c main_arg2) (inp m c main_arg3) (inp m c main_arg4) (ix3 e (row (fblk t) r) l) := by
    intro l
    have hb : fblk t = ablk ⟨k, hN⟩ := Fin.ext (by show t.val - 1 = min k 63; omega)
    have h1 := stepY_all m c ⟨k, hN⟩ hq hk hs (by dsimp only; omega) e r l
    have h2 := ref_attn_soft (inp m c main_arg0) (inp m c main_arg1) (inp m c main_arg2) (inp m c main_arg3) (inp m c main_arg4) e (ablk ⟨k, hN⟩) r l
    rw [hb]
    refine Eq.trans ?_ (h1.trans h2.symm)
    have hsc := scr_succ m c ⟨k, hN⟩
    have hk2 : t.val = (⟨k, hN⟩ : Fin cfg0.N).val + 1 := hk'
    show (scr m c t.val).2.2 (ix3 e r l) = _
    rw [hk2, snd_of hsc]
  show _ = val_main_v187 (F := Ideal) (inp m c main_arg0) (inp m c main_arg1) (inp m c main_arg2) (inp m c main_arg3)
    (inp m c main_arg4) (inp m c main_arg5) (inp m c main_arg6) (inp m c main_arg10) (inp m c main_arg11) (inp m c main_arg12) (inp m c main_arg13) (ix3 e (row (fblk t) r) n)
  rw [stepO_at, s76_at, ref_tail]
  simp only [s2_later _ _ h0 h65, ref_res]
  unfold mix
  simp only [hya]
  simp only [blkOf, x_at, yr_at, wo_at, nw_at, wu_at, wd_at]

end Cert.KernelIdeal.Row
-- ==== Proof.Posts.lean ====
module

public import proofs.«01_k».proof.Proof.StepRows
public import proofs.«01_k».proof.Proof.IdealFrame
public import Idealize.ShloMosaic.Lib.Pipeline.ValueKit

@[expose] public section

set_option maxRecDepth 16384

noncomputable section

/-! The four result arrays after the run: every block written back is the reference's, and the blocks cover the arrays. -/

namespace Cert.KernelIdeal.Row

open Idealize.ShloMosaic Idealize.SL.Sem Cert.KernelIdeal Cert.KernelIdeal.Gen

variable (m : (ℓ : Loc nD τ sig) → Buf (Elt Ideal) ℓ) (c : Dev nD)

theorem after_18 (t : Fin cfg0.N) : (pdats m 0 c).after 18 t = stepO (grid0.coords t) (blkOf m c t) := by dsimp only [pdats]
theorem after_19 (t : Fin cfg0.N) : (pdats m 0 c).after 19 t = stepOd (grid0.coords (pt 0)) (blkOf m c (pt 0)) := by dsimp only [pdats]
theorem after_20 (t : Fin cfg0.N) : (pdats m 0 c).after 20 t = stepKw (grid0.coords (pt 63)) (blkOf m c (pt 63)) := by dsimp only [pdats]
theorem after_21 (t : Fin cfg0.N) : (pdats m 0 c).after 21 t = stepVw (grid0.coords (pt 63)) (blkOf m c (pt 63)) := by dsimp only [pdats]

/-- The first point's block is not written back. -/
theorem flush_18 : ∀ t : Fin cfg0.N, (cfg0.win 18).flush t = true → t.val ≠ 0 := by decide +kernel

theorem covers_18 : (cfg0.win 18).Covers := by decide +kernel
theorem whole_19 : (cfg0.win 19).WholeAt (pt 64) := by decide +kernel
theorem whole_20 : (cfg0.win 20).WholeAt (pt 64) := by decide +kernel
theorem whole_21 : (cfg0.win 21).WholeAt (pt 64) := by decide +kernel

theorem final_kwin : (pdats m 0 c).arrAt 20 cfg0.N = refKwin m c := by
  refine (pdats m 0 c).arrAt_eq_of_after_last 20 (pt 64) whole_20 _ fun j => ?_
  blk_simp
  rw [after_20]
  have hj : j = ix3 (j 0) (j 1) (j 2) := eq_ix3 (n0 := 2) (n1 := 128) (n2 := 128) j
  rw [hj]
  exact kwin_at m c _ _ _

theorem final_vwin : (pdats m 0 c).arrAt 21 cfg0.N = refVwin m c := by
  refine (pdats m 0 c).arrAt_eq_of_after_last 21 (pt 64) whole_21 _ fun j => ?_
  blk_simp
  rw [after_21]
  have hj : j = ix3 (j 0) (j 1) (j 2) := eq_ix3 (n0 := 2) (n1 := 128) (n2 := 128) j
  rw [hj]
  exact vwin_at m c _ _ _

theorem final_sample : (pdats m 0 c).arrAt 19 cfg0.N = refSample m c := by
  refine (pdats m 0 c).arrAt_eq_of_after_last 19 (pt 64) whole_19 _ fun j => ?_
  blk_simp
  rw [after_19]
  have key : ∀ i : (⟨3, ![128, 1, 1024]⟩ : Shape).Idx, stepOd (grid0.coords (pt 0)) (blkOf m c (pt 0)) i = refSample m c i := by
    intro i
    obtain ⟨a, b, d, rfl⟩ : ∃ (a : Fin 128) (b : Fin 1) (d : Fin 1024), i = ix3 a b d := ⟨i 0, i 1, i 2, eq_ix3 i⟩
    rw [Subsingleton.elim b 0]
    exact sample_at m c a d
  exact key j

/-- Where a point's block of the prompt's rows lies in the result. -/
theorem emb_18 (t : Fin cfg0.N) (e : Fin 2) (r : Fin 128) (n : Fin 1024) :
    ((win0_18.blk t).view.emb (ix3 e r n) : S2x8192x1024.Idx) = ix3 e (row (fblk t) r) n := by
  blk_ext [win18_index t, row, fblk]

theorem final_prompt (hq : ∀ d, IsReal (qwt m c d)) (hk : ∀ d, IsReal (kwt m c d)) (hs : ∀ j : Fin 8, IsReal (inp m c main_arg4 (ix2 0 j))) :
    (pdats m 0 c).arrAt 18 cfg0.N = refPrompt m c := by
  refine (pdats m 0 c).arrAt_eq_of_covers 18 _ covers_18 fun t hf y => ?_
  blk_simp
  rw [after_18]
  have hy : y = ix3 (y 0) (y 1) (y 2) := eq_ix3 (n0 := 2) (n1 := 128) (n2 := 1024) y
  rw [hy]
  refine (prompt_at m c hq hk hs t (flush_18 t hf) _ _ _).trans (congrArg (refPrompt m c) ?_)
  exact (emb_18 t _ _ _).symm

/-- The prompt's rows for finite weights of the norms and finite sinks, the sample's rows and the two windows: what every
    execution leaves in the four result arrays. -/
theorem run_vals (g : Dev nD → PrngReg) (hq : ∀ c d, IsReal (qwt m c d)) (hk : ∀ c d, IsReal (kwt m c d))
    (hs : ∀ (c : Dev nD) (j : Fin 8), IsReal (inp m c main_arg4 (ix2 0 j))) :
    θ_run defs (onTc (τ := τ) (main (F := Ideal))) ⟨m, fun _ => 0, g⟩ (fun r => ∀ c : Dev nD,
      r.2.mem ((c.tc : Thread nD τ).loc main_v77_0) = refPrompt m c
      ∧ r.2.mem ((c.tc : Thread nD τ).loc main_v77_1) = refSample m c
      ∧ r.2.mem ((c.tc : Thread nD τ).loc main_v77_2) = refKwin m c
      ∧ r.2.mem ((c.tc : Thread nD τ).loc main_v77_3) = refVwin m c) :=
  (θ_run defs _ _).mono (fun r h c =>
    ⟨((h.1 c).1 18).trans (final_prompt m c (hq c) (hk c) (hs c)), ((h.1 c).1 19).trans (final_sample m c),
      ((h.1 c).1 20).trans (final_kwin m c), ((h.1 c).1 21).trans (final_vwin m c)⟩) (run_counters m g)

end Cert.KernelIdeal.Row
-- ==== Proof.Pair.lean ====
module

public import proofs.«01_k».proof.Defs
public import proofs.«01_k».proof.Proof.Posts
public import proofs.«01_k».proof.Proof.Gen.ReferenceIdeal.Run

@[expose] public section

noncomputable section

/-! The precondition read at an index (the weights of the two norms and the sinks are real numbers), and the claim that the
kernel's results are the reference's. -/

namespace Cert.KernelIdeal.Row

open Idealize.ShloMosaic Idealize.SL.Sem Cert.KernelIdeal Cert.KernelIdeal.Gen

theorem pre_facts : Cert.Pre_small_weights_finite.Facts where
  bcast_S_S1x64 := by decide
  bcast_S_S1x8 := by decide

theorem ofBits_inf : Ideal.ofBits .f32 0x7F800000#32 = ⊤ := by
  simp [Ideal.ofBits, Ideal.ieee]

/-- An extended real whose absolute value is below `⊤` is a real number. -/
theorem isReal_of_abs {x : EReal}
    (h : BitVec.ofBool (decide (FloatOps.absf (F := Ideal) (φ := .f32) x < Ideal.ofBits .f32 0x7F800000#32)) = 1#1) : IsReal x := by
  rw [ofBits_inf] at h
  have hlt : FloatOps.absf (F := Ideal) (φ := .f32) x < ⊤ := by
    by_contra hn
    simp [hn] at h
  induction x with
  | bot => exact absurd hlt (by simp [FloatOps.absf])
  | top => exact absurd hlt (by simp [FloatOps.absf])
  | coe r => exact ⟨r, rfl⟩

variable (m : (ℓ : Loc nD τ sig) → Buf (Elt Ideal) ℓ)

theorem pre_query (h : Cert.Pre_KernelIdeal_small_weights_finite (hPre_small_weights_finite := pre_facts) m) (c : Dev nD) (d : Fin 64) : IsReal (qwt m c d) := by
  have h1 := congrFun (h c).1 (ix2 0 d)
  unfold Cert.Pre_small_weights_finite.fn at h1
  dsimp only at h1
  pointwise at h1
  exact isReal_of_abs h1

theorem pre_key (h : Cert.Pre_KernelIdeal_small_weights_finite (hPre_small_weights_finite := pre_facts) m) (c : Dev nD) (d : Fin 64) : IsReal (kwt m c d) := by
  have h1 := congrFun (h c).2.1 (ix2 0 d)
  unfold Cert.Pre_small_weights_finite.fn at h1
  dsimp only at h1
  pointwise at h1
  exact isReal_of_abs h1

theorem pre_sink (h : Cert.Pre_KernelIdeal_small_weights_finite (hPre_small_weights_finite := pre_facts) m) (c : Dev nD) (j : Fin 8) :
    IsReal (inp m c main_arg4 (ix2 0 j)) := by
  have h1 := congrFun (h c).2.2 (ix2 0 j)
  unfold Cert.Pre_small_weights_finite.fn at h1
  dsimp only at h1
  pointwise at h1
  exact isReal_of_abs h1

end Cert.KernelIdeal.Row

namespace Cert.Proof

open Idealize.ShloMosaic Idealize.SL.Sem

/-- At the ideal values, for finite weights of the two norms and finite sinks, the kernel's four results are the reference's. -/
theorem algebraic : Cert.algebraic_KernelIdeal_ReferenceIdeal_pre_small_weights_finite
    (hKernelIdeal := Cert.KernelIdeal.Gen.facts) (hReferenceIdeal := Cert.ReferenceIdeal.Gen.facts)
    (hPre_small_weights_finite := Cert.KernelIdeal.Row.pre_facts) := by
  intro m g m' g' hpre hagree
  refine ⟨Cert.KernelIdeal.Row.refPrompt m, Cert.KernelIdeal.Row.refSample m, Cert.KernelIdeal.Row.refKwin m, Cert.KernelIdeal.Row.refVwin m, ?_, ?_⟩
  · have hv := Cert.KernelIdeal.Row.run_vals m g (Cert.KernelIdeal.Row.pre_query m hpre) (Cert.KernelIdeal.Row.pre_key m hpre)
      (Cert.KernelIdeal.Row.pre_sink m hpre)
    exact (θ_run Cert.KernelIdeal.defs _ _).mono
      (fun r h c => ⟨(h.1 c).1, (h.1 c).2.1, (h.1 c).2.2.1, (h.1 c).2.2.2, h.2.1 c⟩)
      (θ_run_and hv (Cert.KernelIdeal.Gen.frame (F := Ideal) m g))
  · refine (θ_run Cert.ReferenceIdeal.defs _ _).mono (fun r h c => ?_) (Cert.ReferenceIdeal.Value.run (F := Ideal) m' g')
    obtain ⟨a0, a1, a2, a3, a4, a5, a6, a7, a8, a9, a10, a11, a12, a13⟩ := hagree c
    obtain ⟨h0, h1, h2, h3, hargs⟩ := h c
    have hl (b : Ref Cert.ReferenceIdeal.sig .tc) : StableHlo.launchContents m' c (Proc.devRef .tc b)
        = m' ((c.tc : Thread Cert.ReferenceIdeal.nD Cert.ReferenceIdeal.τ).loc b) := rfl
    refine ⟨h0.trans ?_, h1.trans ?_, h2.trans ?_, h3.trans ?_, hargs⟩
    · rw [Cert.ReferenceIdeal.Read.val_main_v187_eq]
      rw [(hl _).trans a0, (hl _).trans a1, (hl _).trans a2, (hl _).trans a3, (hl _).trans a4, (hl _).trans a5, (hl _).trans a6, (hl _).trans a10, (hl _).trans a11, (hl _).trans a12, (hl _).trans a13]
    · rw [Cert.ReferenceIdeal.Read.val_main_v214_eq]
      rw [(hl _).trans a7, (hl _).trans a8, (hl _).trans a9, (hl _).trans a10, (hl _).trans a11, (hl _).trans a12, (hl _).trans a13]
    · rw [Cert.ReferenceIdeal.Read.val_main_v216_eq]
      rw [(hl _).trans a1, (hl _).trans a3]
    · rw [Cert.ReferenceIdeal.Read.val_main_v218_eq]
      rw [(hl _).trans a1]

end Cert.Proof
-- ==== Proof.InprojPay.lean ====
module

public import proofs.«01_k».proof.Proof.FfnRow
public import proofs.«01_k».proof.Proof.Gen.InprojIdeal.Skeleton
public import proofs.«01_k».proof.Proof.Gen.InprojRefIdeal.Read
public import Idealize.ShloMosaic.Lib.Pointwise
public import Idealize.ShloMosaic.Lib.ValueIdx

@[expose] public section

set_option maxRecDepth 16384

noncomputable section

/-! The input projection and the token shift at an index: the kernel's terms over one block of rows, and the reference's stages. -/

namespace Cert.InprojIdeal.Row

open Idealize.ShloMosaic Cert.InprojIdeal Cert.InprojIdeal.Gen
open Cert.KernelIdeal.Row (EV nrm)

/-- One channel of the projection of a normed row. -/
def proj (x nw w : EV 1024) : EReal := ∑ k, nrm x nw k * w k

theorem pay8_at (x : Vec Ideal S1024x1024 .f32) (nw : Vec Ideal S1x1024 .f32) (r n : Fin 1024) :
    k0_pay8 (F := Ideal) x nw (ix2 r n) = nrm (fun k => x (ix2 r k)) (fun k => nw (ix2 0 k)) n := by
  unfold nrm
  pointwise [k0_pay8]

theorem pay9_at (x : Vec Ideal S1024x1024 .f32) (nw : Vec Ideal S1x1024 .f32) (w : Vec Ideal S1696x1024 .f32) (r : Fin 1024) (n : Fin 1696) :
    k0_pay9 (F := Ideal) x nw w (ix2 r n) = proj (fun k => x (ix2 r k)) (fun k => nw (ix2 0 k)) (fun k => w (ix2 n k)) := by
  unfold proj
  simp only [← pay8_at]
  unfold k0_pay9
  generalize k0_pay8 (F := Ideal) x nw = h
  pointwise [dot_S1024x1024_S1696x1024_S1024x1696_1_1_0_0_n_n]

theorem pay5_at (h : FVec Ideal S1024x1024 .bf16) (w : Vec Ideal S768x1024 .f32) (r : Fin 1024) (n : Fin 512) :
    k0_pay5 (F := Ideal) h (k0_pay10 w) (constant S1024x768 .f32 0x00000000#32) (ix2 r n)
      = ∑ k : Fin 1024, h (ix2 r k) * w (ix2 ⟨n.val, by omega⟩ k) := by
  pointwise [k0_pay5, k0_pay1, k0_pay10, dot_S1024x1024_S768x1024_S1024x768_1_1_0_0_n_n]

theorem pay6_at (h : FVec Ideal S1024x1024 .bf16) (w : Vec Ideal S768x1024 .f32) (r : Fin 1024) (n : Fin 256) :
    k0_pay6 (F := Ideal) h (k0_pay10 w) (constant S1024x768 .f32 0x00000000#32) (ix2 r n)
      = ∑ k : Fin 1024, h (ix2 r k) * w (ix2 ⟨512 + n.val, by omega⟩ k) := by
  pointwise [k0_pay6, k0_pay1, k0_pay10, dot_S1024x1024_S768x1024_S1024x768_1_1_0_0_n_n]

theorem pay3_at (p : FVec Ideal S1024x1696 .f32) (r : Fin 8) (n : Fin 1696) :
    k0_pay3 (F := Ideal) p (ix2 r n) = p (ix2 1023 n) := by
  pointwise [k0_pay3]

theorem pay4_at (p : FVec Ideal S1024x1696 .f32) (n : Fin 1696) :
    k0_pay4 (F := Ideal) p (ix3 0 0 n) = p (ix2 1023 n) := by
  pointwise [k0_pay4]

theorem pay7_at (r : Fin 8) (n : Fin 1696) : k0_pay7 (F := Ideal) (ix2 r n) = 0 := by
  pointwise [k0_pay7]

/-- The row before a row of the block: of the first, the row carried from the block before. -/
def before (p : Fin 1024 → EReal) (q : EReal) (r : Fin 1024) : EReal :=
  if h : r.val = 0 then q else p ⟨r.val - 1, by omega⟩

theorem first_row : ∀ r : Fin 1024, IntOp.cmpi .eq (BitVec.ofNat 32 r.val) 0#32 = if r.val = 0 then 1#1 else 0#1 := by decide +kernel

theorem row_before : ∀ r : Fin 1024, r.val ≠ 0 → (r.val + 1024 - 1) % 1024 = r.val - 1 := by intro r h; omega

theorem pay2_at (p : FVec Ideal S1024x1696 .f32) (q mu : Vec Ideal S1x1696 .f32) (r : Fin 1024) (n : Fin 1696) :
    k0_pay2 (F := Ideal) p q mu (ix2 r n)
      = p (ix2 r n) + (before (fun r => p (ix2 r n)) (q (ix2 0 n)) r - p (ix2 r n)) * mu (ix2 0 n) := by
  unfold before
  pointwise [k0_pay2]
  rw [first_row]
  by_cases h : r.val = 0
  · simp only [h, Scalar.select, if_true, dif_pos]
    rfl
  · simp only [h, Scalar.select, if_false, dif_neg, not_false_eq_true, row_before r h]
    rfl

end Cert.InprojIdeal.Row
-- ==== Proof.InprojRef.lean ====
module

public import proofs.«01_k».proof.Proof.InprojPay

@[expose] public section

set_option maxRecDepth 16384

noncomputable section

/-! The reference's stages of the input projection and the token shift at an index. -/

namespace Cert.InprojIdeal.Row

open Idealize.ShloMosaic Cert.InprojRefIdeal Cert.InprojRefIdeal.Read Cert.InprojRefIdeal.Value
open Cert.KernelIdeal.Row (EV nrm)

variable (x0 : (⟨S2x8192x1024, .f32⟩ : BufTy).Contents (Elt Ideal)) (x1 : (⟨S1x1024, .f32⟩ : BufTy).Contents (Elt Ideal))
  (x2 : (⟨S1x1024x2464, .f32⟩ : BufTy).Contents (Elt Ideal)) (x3 : (⟨S1x1696, .f32⟩ : BufTy).Contents (Elt Ideal))

theorem ref_norm (e : Fin 2) (p : Fin 8192) (k : Fin 1024) :
    val_main_v13 (F := Ideal) x0 x1 (ix3 e p k) = nrm (fun k => x0 (ix3 e p k)) (fun k => x1 (ix2 0 k)) k := by
  unfold nrm
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem ref_proj (e : Fin 2) (p : Fin 8192) (n : Fin 2464) :
    val_main_v15 (F := Ideal) x0 x1 x2 (ix3 e p n)
      = proj (fun k => x0 (ix3 e p k)) (fun k => x1 (ix2 0 k)) (fun k => x2 (ix3 0 k n)) := by
  unfold proj
  simp only [← ref_norm]
  unfold val_main_v15
  generalize val_main_v13 (F := Ideal) x0 x1 = h
  pointwise [val_main_v14]

theorem ref_last (e : Fin 2) (n : Fin 1696) :
    val_main_v27 (F := Ideal) x0 x1 x2 (ix3 e 0 n) = val_main_v15 (F := Ideal) x0 x1 x2 (ix3 e 8191 ⟨n.val, by omega⟩) := by
  unfold val_main_v27 val_main_v16
  generalize val_main_v15 (F := Ideal) x0 x1 x2 = f
  pointwise

theorem ref_q (e : Fin 2) (p : Fin 8192) (n : Fin 512) :
    val_main_v28 (F := Ideal) x0 x1 x2 (ix3 e p n) = val_main_v15 (F := Ideal) x0 x1 x2 (ix3 e p ⟨1696 + n.val, by omega⟩) := by
  unfold val_main_v28
  generalize val_main_v15 (F := Ideal) x0 x1 x2 = f
  pointwise

theorem ref_kv (e : Fin 2) (p : Fin 8192) (n : Fin 256) :
    val_main_v30 (F := Ideal) x0 x1 x2 (ix3 e p n) = val_main_v15 (F := Ideal) x0 x1 x2 (ix3 e p ⟨2208 + n.val, by omega⟩) := by
  unfold val_main_v30
  generalize val_main_v15 (F := Ideal) x0 x1 x2 = f
  pointwise

/-- The row before a position: of the first position, zero. -/
theorem ref_prev (e : Fin 2) (p : Fin 8192) (n : Fin 1696) :
    val_main_v19 (F := Ideal) x0 x1 x2 (ix3 e p n)
      = if h : p.val = 0 then 0 else val_main_v15 (F := Ideal) x0 x1 x2 (ix3 e ⟨p.val - 1, by omega⟩ ⟨n.val, by omega⟩) := by
  unfold val_main_v19 val_main_v18 val_main_v16
  generalize val_main_v15 (F := Ideal) x0 x1 x2 = f
  pointwise [val_main_v17, val_main_cst_2]
  simp only [Nat.lt_one_iff]

theorem ref_shift (e : Fin 2) (p : Fin 8192) (n : Fin 1696) :
    val_main_v25 (F := Ideal) x0 x1 x2 x3 (ix3 e p n)
      = val_main_v15 (F := Ideal) x0 x1 x2 (ix3 e p ⟨n.val, by omega⟩)
        + (val_main_v19 (F := Ideal) x0 x1 x2 (ix3 e p n) - val_main_v15 (F := Ideal) x0 x1 x2 (ix3 e p ⟨n.val, by omega⟩)) * x3 (ix2 0 n) := by
  unfold val_main_v25 val_main_v24 val_main_v20 val_main_v16
  generalize val_main_v19 (F := Ideal) x0 x1 x2 = g
  generalize val_main_v15 (F := Ideal) x0 x1 x2 = f
  pointwise [val_main_v23, val_main_v22, val_main_v21]

end Cert.InprojIdeal.Row
-- ==== Proof.InprojBlk.lean ====
module

public import proofs.«01_k».proof.Proof.InprojPay
public import proofs.«01_k».proof.Proof.Gen.InprojIdeal.Value
public import proofs.«01_k».proof.Proof.InprojRef
public import Idealize.ShloMosaic.Lib.Pipeline.ValueKit
public import Idealize.ShloMosaic.Lib.StableHlo.ReadAt
public import Idealize.ShloMosaic.Lib.Pipeline.ReadBack

@[expose] public section

set_option maxRecDepth 16384

noncomputable section

/-! The input projection's blocks of rows: what each point of the grid writes back, from the arguments. -/

namespace Cert.InprojIdeal.Row

open Idealize.ShloMosaic Idealize.ShloMosaic.TcCoe Cert.InprojIdeal Cert.InprojIdeal.Gen

variable (m : (ℓ : Loc nD τ sig) → Buf (Elt Ideal) ℓ) (c : Dev nD)

abbrev inp (b : Ref sig .tc) : Buf (Elt Ideal) ((c : Thread nD τ).loc b) := m ((c : Thread nD τ).loc b)

theorem v1_at (n : Fin 2464) (k : Fin 1024) : V m c main_v1 (ix2 n k) = inp m c main_arg2 (ix3 0 k n) := by
  unfold Gen.V; after_reads_at

theorem v3_at (n : Fin 1696) : V m c main_v3 (ix2 0 n) = inp m c main_arg3 (ix2 0 n) := by
  unfold Gen.V; after_reads_at

theorem v5_at (n : Fin 1024) : V m c main_v5 (ix2 0 n) = inp m c main_arg1 (ix2 0 n) := by
  unfold Gen.V; after_reads_at

theorem v6_at (r : Fin 16384) (k : Fin 1024) : V m c main_v6 (ix2 r k) = inp m c main_arg0 (ix3 ⟨r.val / 8192, by omega⟩ ⟨r.val % 8192, by omega⟩ k) := by
  unfold Gen.V; after_reads_at

theorem win0_index : ∀ t : Fin cfg0.N, (cfg0.win 0).index t 0 = t.val ∧ (cfg0.win 0).index t 1 = 0 := by decide +kernel
theorem win1_index : ∀ t : Fin cfg0.N, (cfg0.win 1).index t 0 = 0 ∧ (cfg0.win 1).index t 1 = 0 := by decide +kernel
theorem win2_index : ∀ t : Fin cfg0.N, (cfg0.win 2).index t 0 = 0 ∧ (cfg0.win 2).index t 1 = 0 := by decide +kernel
theorem win3_index : ∀ t : Fin cfg0.N, (cfg0.win 3).index t 0 = 0 ∧ (cfg0.win 3).index t 1 = 0 := by decide +kernel
theorem win4_index : ∀ t : Fin cfg0.N, (cfg0.win 4).index t 0 = t.val ∧ (cfg0.win 4).index t 1 = 0 := by decide +kernel
theorem win5_index : ∀ t : Fin cfg0.N, (cfg0.win 5).index t 0 = t.val / 8 ∧ (cfg0.win 5).index t 1 = 0 ∧ (cfg0.win 5).index t 2 = 0 := by decide +kernel
theorem win6_index : ∀ t : Fin cfg0.N, (cfg0.win 6).index t 0 = t.val ∧ (cfg0.win 6).index t 1 = 0 := by decide +kernel
theorem win7_index : ∀ t : Fin cfg0.N, (cfg0.win 7).index t 0 = t.val ∧ (cfg0.win 7).index t 1 = 0 := by decide +kernel
theorem covers_4 : (cfg0.win 4).Covers := by decide +kernel
theorem covers_5 : (cfg0.win 5).Covers := by decide +kernel
theorem covers_6 : (cfg0.win 6).Covers := by decide +kernel
theorem covers_7 : (cfg0.win 7).Covers := by decide +kernel
theorem flush_5 : ∀ t : Fin cfg0.N, (cfg0.win 5).flush t = true → t.val % 8 = 7 := by decide +kernel

/-- The row of the whole array that a point's block has at a row. -/
def grow (t : Fin cfg0.N) (r : Fin 1024) : Fin 16384 := ⟨t.val * 1024 + r.val, by have : t.val < 16 := t.isLt; omega⟩

theorem blk0_at (t : Fin cfg0.N) (r k : Fin 1024) : iblk m c 0 t (ix2 r k) = V m c main_v6 (ix2 (grow t r) k) := by
  blk_ext [iblk, win0_index t, grow]
theorem blk1_at (t : Fin cfg0.N) (k : Fin 1024) : iblk m c 1 t (ix2 0 k) = V m c main_v5 (ix2 0 k) := by
  blk_ext [iblk, win1_index t]
theorem blk2_at (t : Fin cfg0.N) (n : Fin 2464) (k : Fin 1024) : iblk m c 2 t (ix2 n k) = V m c main_v1 (ix2 n k) := by
  blk_ext [iblk, win2_index t]
theorem blk3_at (t : Fin cfg0.N) (n : Fin 1696) : iblk m c 3 t (ix2 0 n) = V m c main_v3 (ix2 0 n) := by
  blk_ext [iblk, win3_index t]

/-- The projection of a row of the whole array onto a channel, from the arguments. -/
def prj (R : Fin 16384) (n : Fin 2464) : EReal :=
  proj (fun k => inp m c main_arg0 (ix3 ⟨R.val / 8192, by omega⟩ ⟨R.val % 8192, by omega⟩ k)) (fun k => inp m c main_arg1 (ix2 0 k)) (fun k => inp m c main_arg2 (ix3 0 k n))

/-- The shifted channels' projection of a point's block of rows. -/
def pB (t : Fin cfg0.N) : FVec Ideal S1024x1696 .f32 :=
  k0_pay9 (F := Ideal) (iblk m c 0 t) (iblk m c 1 t) (View.ld (iblk m c 2 t) (Rect.unit ![0, 0] ![1696, 1024] inb_S2464x1024_S1696x1024_0_0))

/-- The queries, keys and values of a point's block of rows: the normed rows and the weights they meet. -/
def hB (t : Fin cfg0.N) : FVec Ideal S1024x1024 .bf16 := k0_pay8 (F := Ideal) (iblk m c 0 t) (iblk m c 1 t)
def wB (t : Fin cfg0.N) : Vec Ideal S768x1024 .f32 := View.ld (iblk m c 2 t) (Rect.unit ![1696, 0] ![768, 1024] inb_S2464x1024_S768x1024_1696_0)

theorem ld_rows (X : Vec Ideal S2464x1024 .f32) (n : Fin 1696) (k : Fin 1024) :
    View.ld X (Rect.unit ![0, 0] ![1696, 1024] inb_S2464x1024_S1696x1024_0_0) (ix2 n k) = X (ix2 ⟨n.val, by omega⟩ k) := by
  refine congrArg X (funext fun a => Fin.ext ?_)
  match a with
  | ⟨0, _⟩ => show 0 + 1 * n.val = n.val; omega
  | ⟨1, _⟩ => show 0 + 1 * k.val = k.val; omega

theorem ld_rows' (X : Vec Ideal S2464x1024 .f32) (n : Fin 768) (k : Fin 1024) :
    View.ld X (Rect.unit ![1696, 0] ![768, 1024] inb_S2464x1024_S768x1024_1696_0) (ix2 n k) = X (ix2 ⟨1696 + n.val, by omega⟩ k) := by
  refine congrArg X (funext fun a => Fin.ext ?_)
  match a with
  | ⟨0, _⟩ => show 1696 + 1 * n.val = 1696 + n.val; omega
  | ⟨1, _⟩ => show 0 + 1 * k.val = k.val; omega

theorem ld_first (X : Vec Ideal S8x1696 .f32) (n : Fin 1696) :
    View.ld X (Rect.unit ![0, 0] ![1, 1696] inb_S8x1696_S1x1696_0_0) (ix2 0 n) = X (ix2 0 n) := by
  refine congrArg X (funext fun a => Fin.ext ?_)
  match a with
  | ⟨0, _⟩ => rfl
  | ⟨1, _⟩ => show 0 + 1 * n.val = n.val; omega

theorem row_of (t : Fin cfg0.N) (r : Fin 1024) : (fun k : Fin 1024 => iblk m c 0 t (ix2 r k))
    = fun k => inp m c main_arg0 (ix3 ⟨(grow t r).val / 8192, by omega⟩ ⟨(grow t r).val % 8192, by omega⟩ k) :=
  funext fun k => (blk0_at m c t r k).trans (v6_at m c _ k)

theorem weight_of (t : Fin cfg0.N) : (fun k : Fin 1024 => iblk m c 1 t (ix2 0 k)) = fun k => inp m c main_arg1 (ix2 0 k) :=
  funext fun k => (blk1_at m c t k).trans (v5_at m c k)

theorem pB_at (t : Fin cfg0.N) (r : Fin 1024) (n : Fin 1696) : pB m c t (ix2 r n) = prj m c (grow t r) ⟨n.val, by omega⟩ := by
  refine (pay9_at _ _ _ r n).trans ?_
  exact congr (congr (congrArg proj (row_of m c t r)) (weight_of m c t))
    (funext fun k => (ld_rows _ n k).trans ((blk2_at m c t _ k).trans (v1_at m c _ k)))

theorem hB_at (t : Fin cfg0.N) (r k : Fin 1024) : hB m c t (ix2 r k)
    = Cert.KernelIdeal.Row.nrm (fun k => inp m c main_arg0 (ix3 ⟨(grow t r).val / 8192, by omega⟩ ⟨(grow t r).val % 8192, by omega⟩ k)) (fun k => inp m c main_arg1 (ix2 0 k)) k := by
  refine (pay8_at _ _ r k).trans ?_
  exact congrFun (congr (congrArg Cert.KernelIdeal.Row.nrm (row_of m c t r)) (weight_of m c t)) k

theorem wB_at (t : Fin cfg0.N) (n : Fin 768) (k : Fin 1024) : wB m c t (ix2 n k) = inp m c main_arg2 (ix3 0 k ⟨1696 + n.val, by omega⟩) := by
  unfold wB
  rw [ld_rows', blk2_at, v1_at]

/-- What every point carries to the next: the last row of its projection. -/
theorem carried (t : Fin cfg0.N) : (outsAt0 m c t.val t.isLt).2.2.2.2 = k0_pay3 (F := Ideal) (pB m c t) := by
  by_cases h : t.val % 8 = 0
  · rw [outsAt0_A m c t h]
    dsimp only
    frame_out
    rfl
  · rw [outsAt0_B m c t h]
    dsimp only
    frame_out
    rfl

theorem last_of (t : Fin cfg0.N) : (outsAt0 m c t.val t.isLt).2.1 = k0_pay4 (F := Ideal) (pB m c t) := by
  by_cases h : t.val % 8 = 0
  · rw [outsAt0_A m c t h]
    dsimp only
    frame_out
    rfl
  · rw [outsAt0_B m c t h]
    dsimp only
    frame_out
    rfl

theorem q_of (t : Fin cfg0.N) : (outsAt0 m c t.val t.isLt).2.2.1
    = k0_pay5 (F := Ideal) (hB m c t) (k0_pay10 (wB m c t)) (constant S1024x768 .f32 0x00000000#32) := by
  by_cases h : t.val % 8 = 0
  · rw [outsAt0_A m c t h]
    dsimp only
    frame_out
    rfl
  · rw [outsAt0_B m c t h]
    dsimp only
    frame_out
    rfl

theorem kv_of (t : Fin cfg0.N) : (outsAt0 m c t.val t.isLt).2.2.2.1
    = k0_pay6 (F := Ideal) (hB m c t) (k0_pay10 (wB m c t)) (constant S1024x768 .f32 0x00000000#32) := by
  by_cases h : t.val % 8 = 0
  · rw [outsAt0_A m c t h]
    dsimp only
    frame_out
    rfl
  · rw [outsAt0_B m c t h]
    dsimp only
    frame_out
    rfl

/-- The row before a row of the whole array, in its own sequence: of a sequence's first row, zero. -/
def prev (R : Fin 16384) (n : Fin 2464) : EReal := if h : R.val % 8192 = 0 then 0 else prj m c ⟨R.val - 1, by omega⟩ n

/-- The shifted block, from the projection and the row carried into it. -/
theorem shift_of (t : Fin cfg0.N) : ∃ q : Vec Ideal S1x1696 .f32,
    (outsAt0 m c t.val t.isLt).1 = k0_pay2 (F := Ideal) (pB m c t) q (iblk m c 3 t)
    ∧ ∀ n : Fin 1696, q (ix2 0 n) = prev m c (grow t 0) ⟨n.val, by omega⟩ := by
  have ht : t.val < 16 := t.isLt
  by_cases h : t.val % 8 = 0
  · rw [outsAt0_A m c t h]
    dsimp only
    frame_out
    refine ⟨_, rfl, fun n => ?_⟩
    rw [View.readCov_fill _ _ _ _ _ (by intro a; fin_cases a <;> rfl)]
    rw [ld_first, pay7_at]
    unfold prev
    rw [dif_pos]
    show (t.val * 1024 + 0) % 8192 = 0
    omega
  · rw [outsAt0_B m c t h]
    dsimp only
    frame_out
    refine ⟨_, rfl, fun n => ?_⟩
    rw [ld_first, read_unread_whole]
    have hc := carried m c ⟨t.val - 1, by show t.val - 1 < 16; omega⟩
    dsimp only at hc
    rw [hc, pay3_at, pB_at]
    unfold prev
    rw [dif_neg]
    · congr 1
      refine Fin.ext ?_
      show (t.val - 1) * 1024 + 1023 = t.val * 1024 + 0 - 1
      omega
    · show ¬(t.val * 1024 + 0) % 8192 = 0
      omega

theorem shift_at (t : Fin cfg0.N) (r : Fin 1024) (n : Fin 1696) : (outsAt0 m c t.val t.isLt).1 (ix2 r n)
    = prj m c (grow t r) ⟨n.val, by omega⟩
      + (prev m c (grow t r) ⟨n.val, by omega⟩ - prj m c (grow t r) ⟨n.val, by omega⟩) * inp m c main_arg3 (ix2 0 n) := by
  have ht : t.val < 16 := t.isLt
  obtain ⟨q, h, hq⟩ := shift_of m c t
  rw [h, pay2_at, pB_at, blk3_at, v3_at]
  have hb : before (fun r => pB m c t (ix2 r n)) (q (ix2 0 n)) r = prev m c (grow t r) ⟨n.val, by omega⟩ := by
    unfold before
    by_cases hr : r.val = 0
    · rw [dif_pos hr, hq, show r = 0 from Fin.ext hr]
    · rw [dif_neg hr]
      dsimp only
      rw [pB_at]
      unfold prev
      rw [dif_neg]
      · congr 1
        refine Fin.ext ?_
        show t.val * 1024 + (r.val - 1) = t.val * 1024 + r.val - 1
        omega
      · show ¬(t.val * 1024 + r.val) % 8192 = 0
        have := r.isLt
        omega
  rw [hb]

theorem q_at (t : Fin cfg0.N) (r : Fin 1024) (n : Fin 512) : (outsAt0 m c t.val t.isLt).2.2.1 (ix2 r n)
    = prj m c (grow t r) ⟨1696 + n.val, by omega⟩ := by
  rw [q_of, pay5_at]
  simp only [hB_at, wB_at]
  rfl

theorem kv_at (t : Fin cfg0.N) (r : Fin 1024) (n : Fin 256) : (outsAt0 m c t.val t.isLt).2.2.2.1 (ix2 r n)
    = prj m c (grow t r) ⟨2208 + n.val, by omega⟩ := by
  rw [kv_of, pay6_at]
  simp only [hB_at, wB_at]
  unfold prj proj
  refine Finset.sum_congr rfl fun k _ => ?_
  congr 3
  refine Fin.ext ?_
  show 1696 + (512 + n.val) = 2208 + n.val
  omega

theorem last_at (t : Fin cfg0.N) (n : Fin 1696) : (outsAt0 m c t.val t.isLt).2.1 (ix3 0 0 n)
    = prj m c (grow t 1023) ⟨n.val, by omega⟩ := by
  rw [last_of, pay4_at, pB_at]

end Cert.InprojIdeal.Row
-- ==== Proof.InprojPair.lean ====
module

public import proofs.«01_k».proof.Defs
public import proofs.«01_k».proof.Proof.InprojBlk
public import proofs.«01_k».proof.Proof.Gen.InprojRefIdeal.Run

@[expose] public section

set_option maxRecDepth 16384

noncomputable section

/-! The four arrays of the input projection after the run are the reference's. -/

namespace Cert.InprojIdeal.Row

open Idealize.ShloMosaic Idealize.SL.Sem Cert.InprojIdeal Cert.InprojIdeal.Gen

variable (m : (ℓ : Loc nD τ sig) → Buf (Elt Ideal) ℓ) (c : Dev nD)

/-- The reference's four results of the arguments. -/
def refShift : Buf (Elt Ideal) ((c.tc : Thread nD τ).loc main_v7_0) :=
  Cert.InprojRefIdeal.Read.val_main_v26 (F := Ideal) (inp m c main_arg0) (inp m c main_arg1) (inp m c main_arg2) (inp m c main_arg3)
def refLast : Buf (Elt Ideal) ((c.tc : Thread nD τ).loc main_v7_1) :=
  Cert.InprojRefIdeal.Read.val_main_v27 (F := Ideal) (inp m c main_arg0) (inp m c main_arg1) (inp m c main_arg2)
def refQ : Buf (Elt Ideal) ((c.tc : Thread nD τ).loc main_v7_2) :=
  Cert.InprojRefIdeal.Read.val_main_v29 (F := Ideal) (inp m c main_arg0) (inp m c main_arg1) (inp m c main_arg2)
def refKv : Buf (Elt Ideal) ((c.tc : Thread nD τ).loc main_v7_3) :=
  Cert.InprojRefIdeal.Read.val_main_v31 (F := Ideal) (inp m c main_arg0) (inp m c main_arg1) (inp m c main_arg2)

theorem refShift_at (R : Fin 16384) (n : Fin 1696) : refShift m c (ix2 R n)
    = prj m c R ⟨n.val, by omega⟩ + (prev m c R ⟨n.val, by omega⟩ - prj m c R ⟨n.val, by omega⟩) * inp m c main_arg3 (ix2 0 n) := by
  have h : refShift m c (ix2 R n) = Cert.InprojRefIdeal.Read.val_main_v25 (F := Ideal) (inp m c main_arg0) (inp m c main_arg1) (inp m c main_arg2) (inp m c main_arg3)
      (ix3 ⟨R.val / 8192, by omega⟩ ⟨R.val % 8192, by omega⟩ n) := by
    unfold refShift Cert.InprojRefIdeal.Read.val_main_v26
    generalize Cert.InprojRefIdeal.Read.val_main_v25 (F := Ideal) (inp m c main_arg0) (inp m c main_arg1) (inp m c main_arg2) (inp m c main_arg3) = f
    pointwise
  refine h.trans ?_
  rw [ref_shift, ref_prev, ref_proj]
  unfold prev prj
  congr 3
  by_cases h0 : R.val % 8192 = 0
  · rw [dif_pos h0, dif_pos h0]
  · rw [dif_neg h0, dif_neg h0, ref_proj]
    congr 1
    funext k
    congr 2
    · exact Fin.ext (by dsimp only; omega)
    · exact Fin.ext (by dsimp only; omega)

theorem refLast_at (e : Fin 2) (n : Fin 1696) : refLast m c (ix3 e 0 n) = prj m c ⟨e.val * 8192 + 8191, by omega⟩ ⟨n.val, by omega⟩ := by
  unfold refLast prj
  rw [ref_last, ref_proj]
  congr 1
  funext k
  congr 2
  · exact Fin.ext (by dsimp only; omega)
  · exact Fin.ext (by dsimp only; show 8191 = _; omega)

theorem refQ_at (R : Fin 16384) (n : Fin 512) : refQ m c (ix2 R n) = prj m c R ⟨1696 + n.val, by omega⟩ := by
  have h : refQ m c (ix2 R n) = Cert.InprojRefIdeal.Read.val_main_v28 (F := Ideal) (inp m c main_arg0) (inp m c main_arg1) (inp m c main_arg2)
      (ix3 ⟨R.val / 8192, by omega⟩ ⟨R.val % 8192, by omega⟩ n) := by
    unfold refQ Cert.InprojRefIdeal.Read.val_main_v29
    generalize Cert.InprojRefIdeal.Read.val_main_v28 (F := Ideal) (inp m c main_arg0) (inp m c main_arg1) (inp m c main_arg2) = f
    pointwise
  exact h.trans ((ref_q _ _ _ _ _ _).trans (ref_proj _ _ _ _ _ _))

theorem refKv_at (R : Fin 16384) (n : Fin 256) : refKv m c (ix2 R n) = prj m c R ⟨2208 + n.val, by omega⟩ := by
  have h : refKv m c (ix2 R n) = Cert.InprojRefIdeal.Read.val_main_v30 (F := Ideal) (inp m c main_arg0) (inp m c main_arg1) (inp m c main_arg2)
      (ix3 ⟨R.val / 8192, by omega⟩ ⟨R.val % 8192, by omega⟩ n) := by
    unfold refKv Cert.InprojRefIdeal.Read.val_main_v31
    generalize Cert.InprojRefIdeal.Read.val_main_v30 (F := Ideal) (inp m c main_arg0) (inp m c main_arg1) (inp m c main_arg2) = f
    pointwise
  exact h.trans ((ref_kv _ _ _ _ _ _).trans (ref_proj _ _ _ _ _ _))

/-- Where a point's block of rows lies in the results. -/
theorem emb_4 (t : Fin cfg0.N) (r : Fin 1024) (n : Fin 1696) : ((win0_4.blk t).view.emb (ix2 r n) : S16384x1696.Idx) = ix2 (grow t r) n := by
  blk_ext [win4_index t, grow]
theorem emb_6 (t : Fin cfg0.N) (r : Fin 1024) (n : Fin 512) : ((win0_6.blk t).view.emb (ix2 r n) : S16384x512.Idx) = ix2 (grow t r) n := by
  blk_ext [win6_index t, grow]
theorem emb_7 (t : Fin cfg0.N) (r : Fin 1024) (n : Fin 256) : ((win0_7.blk t).view.emb (ix2 r n) : S16384x256.Idx) = ix2 (grow t r) n := by
  blk_ext [win7_index t, grow]
theorem emb_5 (t : Fin cfg0.N) (n : Fin 1696) : ((win0_5.blk t).view.emb (ix3 0 0 n) : S2x1x1696.Idx)
    = ix3 ⟨t.val / 8, by have : t.val < 16 := t.isLt; omega⟩ 0 n := by
  blk_ext [win5_index t]

theorem final_4 : (dats m 0 c).arrAt 4 cfg0.N = refShift m c := by
  refine (dats m 0 c).arrAt_eq_of_covers 4 _ covers_4 fun t hf y => ?_
  blk_simp
  rw [after0_4]
  have hy : y = ix2 (y 0) (y 1) := eq_ix2 (n0 := 1024) (n1 := 1696) y
  rw [hy]
  exact (shift_at m c t _ _).trans ((refShift_at m c _ _).symm.trans (congrArg (refShift m c) (emb_4 t _ _).symm))

theorem final_6 : (dats m 0 c).arrAt 6 cfg0.N = refQ m c := by
  refine (dats m 0 c).arrAt_eq_of_covers 6 _ covers_6 fun t hf y => ?_
  blk_simp
  rw [after0_6]
  have hy : y = ix2 (y 0) (y 1) := eq_ix2 (n0 := 1024) (n1 := 512) y
  rw [hy]
  exact (q_at m c t _ _).trans ((refQ_at m c _ _).symm.trans (congrArg (refQ m c) (emb_6 t _ _).symm))

theorem final_7 : (dats m 0 c).arrAt 7 cfg0.N = refKv m c := by
  refine (dats m 0 c).arrAt_eq_of_covers 7 _ covers_7 fun t hf y => ?_
  blk_simp
  rw [after0_7]
  have hy : y = ix2 (y 0) (y 1) := eq_ix2 (n0 := 1024) (n1 := 256) y
  rw [hy]
  exact (kv_at m c t _ _).trans ((refKv_at m c _ _).symm.trans (congrArg (refKv m c) (emb_7 t _ _).symm))

theorem final_5 : (dats m 0 c).arrAt 5 cfg0.N = refLast m c := by
  refine (dats m 0 c).arrAt_eq_of_covers 5 _ covers_5 fun t hf y => ?_
  blk_simp
  rw [after0_5]
  have hf7 := flush_5 t hf
  have key : ∀ i : (⟨3, ![1, 1, 1696]⟩ : Shape).Idx, (outsAt0 m c t.val t.isLt).2.1 i = refLast m c ((win0_5.blk t).view.emb i) := by
    intro i
    obtain ⟨a, b, n, rfl⟩ : ∃ (a : Fin 1) (b : Fin 1) (n : Fin 1696), i = ix3 a b n := ⟨i 0, i 1, i 2, eq_ix3 i⟩
    rw [Subsingleton.elim a 0, Subsingleton.elim b 0]
    refine (last_at m c t n).trans (Eq.trans ?_ ((refLast_at m c _ n).symm.trans (congrArg (refLast m c) (emb_5 t n).symm)))
    congr 1
    refine Fin.ext ?_
    show t.val * 1024 + 1023 = t.val / 8 * 8192 + 8191
    omega
  exact key y

end Cert.InprojIdeal.Row

namespace Cert.Proof

open Idealize.ShloMosaic Idealize.SL.Sem

/-- At the ideal values, the four results of the input projection are the reference's. -/
theorem algebraic_inproj : Cert.algebraic_InprojIdeal_InprojRefIdeal
    (hInprojIdeal := Cert.InprojIdeal.Gen.facts) (hInprojRefIdeal := Cert.InprojRefIdeal.Gen.facts) := by
  intro m g m' g' hpre hagree
  refine ⟨Cert.InprojIdeal.Row.refShift m, Cert.InprojIdeal.Row.refLast m, Cert.InprojIdeal.Row.refQ m, Cert.InprojIdeal.Row.refKv m, ?_, ?_⟩
  · exact (θ_run Cert.InprojIdeal.defs _ _).mono
      (fun r h c => ⟨(h c).1.trans (Cert.InprojIdeal.Row.final_4 m c), (h c).2.1.trans (Cert.InprojIdeal.Row.final_5 m c),
        (h c).2.2.1.trans (Cert.InprojIdeal.Row.final_6 m c), (h c).2.2.2.1.trans (Cert.InprojIdeal.Row.final_7 m c), (h c).2.2.2.2⟩)
      (Cert.InprojIdeal.Value.run_blocks (F := Ideal) m g)
  · refine (θ_run Cert.InprojRefIdeal.defs _ _).mono (fun r h c => ?_) (Cert.InprojRefIdeal.Value.run (F := Ideal) m' g')
    obtain ⟨a0, a1, a2, a3⟩ := hagree c
    obtain ⟨h0, h1, h2, h3, hargs⟩ := h c
    refine ⟨h0.trans ?_, h1.trans ?_, h2.trans ?_, h3.trans ?_, hargs⟩
    · rw [Cert.InprojRefIdeal.Read.val_main_v26_eq, a0, a1, a2, a3]
      rfl
    · rw [Cert.InprojRefIdeal.Read.val_main_v27_eq, a0, a1, a2]
      rfl
    · rw [Cert.InprojRefIdeal.Read.val_main_v29_eq, a0, a1, a2]
      rfl
    · rw [Cert.InprojRefIdeal.Read.val_main_v31_eq, a0, a1, a2]
      rfl

end Cert.Proof
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.KernelFrame
public import proofs.«01_k».proof.Proof.IdealFrame
public import proofs.«01_k».proof.Proof.Pair
public import proofs.«01_k».proof.Proof.InprojPair
public import Idealize.ShloMosaic.Adequacy
public import Idealize.ShloMosaic.Init

@[expose] public section

noncomputable section

namespace Cert.Proof

open Idealize.ShloMosaic Idealize.SL.Sem Cert.Kernel

/-- The kernel's frame. -/
theorem frame_p : Cert.quiescent_Kernel := fun m ρ _ => Cert.Kernel.Gen.frame m ρ

/-- The idealized kernel's frame. -/
theorem frame_pi : Cert.quiescent_KernelIdeal := fun m ρ _ => Cert.KernelIdeal.Gen.frame m ρ

/-- The same of the memories the value claim is about. -/
theorem frame_pi_pre : Cert.quiescent_KernelIdeal_pre_small_weights_finite (hPre_small_weights_finite := Cert.KernelIdeal.Row.pre_facts) :=
  fun m ρ _ => Cert.KernelIdeal.Gen.frame m ρ

/-- The reference's frame. -/
theorem frame_ri : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The same of the memories the value claim is about. -/
theorem frame_ri_pre : Cert.quiescent_ReferenceIdeal_pre_small_weights_finite (hPre_small_weights_finite := Cert.KernelIdeal.Row.pre_facts) :=
  fun m ρ _ => frame_ri m ρ trivial

/-- The two named constants stand for the values their words round. -/
theorem preserves_pi : Cert.preserves_Kernel_KernelIdeal :=
  ⟨IdealRules.named_const.statement Cert.KernelIdeal.κ "qscale" .f32 0x3E38AA3B#32 ((8⁻¹ * (Real.log 2)⁻¹ : ℝ) : EReal) rfl,
    IdealRules.named_const.statement Cert.KernelIdeal.κ "log2e" .f32 0x3FB8AA3B#32 (((Real.log 2)⁻¹ : ℝ) : EReal) rfl⟩

/-- The frame of the input projection's kernel. -/
theorem frame_p2 : Cert.quiescent_Inproj := fun m ρ _ => Cert.Inproj.Gen.frame m ρ

/-- The same at the ideal values. -/
theorem frame_pi2 : Cert.quiescent_InprojIdeal := fun m ρ _ => Cert.InprojIdeal.Gen.frame m ρ

/-- The frame of the input projection's reference. -/
theorem frame_ri2 : Cert.quiescent_InprojRefIdeal := fun m ρ _ =>
  (θ_run Cert.InprojRefIdeal.defs _ _).mono
    (fun r h => ⟨fun c => (h c).2.2.2.2, Idealize.ShloMosaic.sem_eq_zero_of_no_sems (by decide) r.2⟩)
    (Cert.InprojRefIdeal.Value.run (F := Ideal) m ρ)

/-- Nothing is rewritten in the input projection. -/
theorem preserves_pi2 : Cert.preserves_Inproj_InprojIdeal := trivial

theorem claim : Cert.Claim := ⟨Cert.Kernel.Gen.facts, Cert.KernelIdeal.Gen.facts, Cert.ReferenceIdeal.Gen.facts,
  Cert.Inproj.Gen.facts, Cert.InprojIdeal.Gen.facts, Cert.InprojRefIdeal.Gen.facts, Cert.KernelIdeal.Row.pre_facts,
  frame_p, frame_pi, frame_pi_pre, frame_ri, frame_ri_pre, frame_p2, frame_pi2, frame_ri2, preserves_pi, algebraic, preserves_pi2, algebraic_inproj⟩

end Cert.Proof

end
